-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S1024x128 : Shape := ⟨2, ![1024, 128]⟩
abbrev S192x64 : Shape := ⟨2, ![192, 64]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .f32) (main_arg1 : FVec F S192x64 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  main_v3
-- ==== Kernel.lean ====
abbrev S1024x128 : Shape := ⟨2, ![1024, 128]⟩
abbrev S192x64 : Shape := ⟨2, ![192, 64]⟩
abbrev S128x1024 : Shape := ⟨2, ![128, 1024]⟩
abbrev S128x32x32 : Shape := ⟨3, ![128, 32, 32]⟩
abbrev S32x128x32 : Shape := ⟨3, ![32, 128, 32]⟩
abbrev S131072 : Shape := ⟨1, ![131072]⟩
abbrev S65x64 : Shape := ⟨2, ![65, 64]⟩
abbrev S4160 : Shape := ⟨1, ![4160]⟩
abbrev S1024x4160 : Shape := ⟨2, ![1024, 4160]⟩
abbrev S4096 : Shape := ⟨1, ![4096]⟩
abbrev S1088 : Shape := ⟨1, ![1088]⟩
abbrev S16x4160 : Shape := ⟨2, ![16, 4160]⟩
abbrev S_ : Shape := ⟨0, ![]⟩
abbrev S16 : Shape := ⟨1, ![16]⟩
abbrev S1 : Shape := ⟨1, ![1]⟩
abbrev S1x16 : Shape := ⟨2, ![1, 16]⟩

abbrev nBuf : Table → Nat
  | .hbm => 9
  | .local .scVector .vmem => 5
  | _ => 0

abbrev bufTy : (tb : Table) → Fin (nBuf tb) → BufTy
  | .hbm, ⟨0, _⟩ => ⟨S1024x128, .f32⟩
  | .hbm, ⟨1, _⟩ => ⟨S192x64, .f32⟩
  | .hbm, ⟨2, _⟩ => ⟨S128x1024, .f32⟩
  | .hbm, ⟨3, _⟩ => ⟨S128x32x32, .f32⟩
  | .hbm, ⟨4, _⟩ => ⟨S32x128x32, .f32⟩
  | .hbm, ⟨5, _⟩ => ⟨S131072, .f32⟩
  | .hbm, ⟨6, _⟩ => ⟨S65x64, .f32⟩
  | .hbm, ⟨7, _⟩ => ⟨S4160, .f32⟩
  | .hbm, ⟨8, _⟩ => ⟨S1024x4160, .f32⟩
  | .local .scVector .vmem, ⟨0, _⟩ => ⟨S4096, .f32⟩
  | .local .scVector .vmem, ⟨1, _⟩ => ⟨S4160, .f32⟩
  | .local .scVector .vmem, ⟨2, _⟩ => ⟨S1088, .f32⟩
  | .local .scVector .vmem, ⟨3, _⟩ => ⟨S1088, .f32⟩
  | .local .scVector .vmem, ⟨4, _⟩ => ⟨S16x4160, .f32⟩
  | _, _ => ⟨S1024x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v3_scv : Ref sig .scVector := ⟨.hbm, 5, rfl⟩
abbrev main_v5_scv : Ref sig .scVector := ⟨.hbm, 7, rfl⟩
abbrev main_v6_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := v2
  ![v3.toNat]
@[reducible] def k0_t1_loop : Scf.Loop 32 :=
  let c0_i32_1 : BitVec 32 := 0#32
  let c2_i32_2 : BitVec 32 := 2#32
  let v9 : BitVec 32 := Scalar.addi c0_i32_1 c2_i32_2
  let c1_i32 : BitVec 32 := 1#32
  ⟨c0_i32_1, v9, c1_i32⟩
@[reducible] def k0_t2_loop : Scf.Loop 32 :=
  let c0_i32_10 : BitVec 32 := 0#32
  let c31_i32 : BitVec 32 := 31#32
  let v81 : BitVec 32 := Scalar.addi c0_i32_10 c31_i32
  let c1_i32_11 : BitVec 32 := 1#32
  ⟨c0_i32_10, v81, c1_i32_11⟩
def k0_off2 (k0_t1 : Fin k0_t1_loop.trips) (k0_t2 : Fin k0_t2_loop.trips) : Fin 1 → Nat :=
  let c4_i32_925 : BitVec 32 := 4#32
  let c0_i32_10 : BitVec 32 := 0#32
  let c1_i32_11 : BitVec 32 := 1#32
  let arg12 : BitVec 32 := Scf.iv c0_i32_10 c1_i32_11 k0_t2
  let v2354 : BitVec 32 := Scalar.muli c4_i32_925 arg12
  let c32_i32_926 : BitVec 32 := 32#32
  let v2355 : BitVec 32 := Scalar.muli v2354 c32_i32_926
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v2356 : BitVec 32 := Scalar.addi v2355 v16
  let v2357 : Index := Scalar.indexCast v2356
  ![v2357.toNat]
def k0_off3 (k0_t1 : Fin k0_t1_loop.trips) (k0_t2 : Fin k0_t2_loop.trips) : Fin 1 → Nat :=
  let c4_i32_925 : BitVec 32 := 4#32
  let c0_i32_10 : BitVec 32 := 0#32
  let c1_i32_11 : BitVec 32 := 1#32
  let arg12 : BitVec 32 := Scf.iv c0_i32_10 c1_i32_11 k0_t2
  let v2354 : BitVec 32 := Scalar.muli c4_i32_925 arg12
  let c32_i32_927 : BitVec 32 := 32#32
  let v2359 : BitVec 32 := Scalar.muli v2354 c32_i32_927
  let c32_i32_928 : BitVec 32 := 32#32
  let v2360 : BitVec 32 := Scalar.addi v2359 c32_i32_928
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v2361 : BitVec 32 := Scalar.addi v2360 v16
  let v2362 : Index := Scalar.indexCast v2361
  ![v2362.toNat]
def k0_off4 (k0_t1 : Fin k0_t1_loop.trips) (k0_t2 : Fin k0_t2_loop.trips) : Fin 1 → Nat :=
  let c4_i32_1314 : BitVec 32 := 4#32
  let c0_i32_10 : BitVec 32 := 0#32
  let c1_i32_11 : BitVec 32 := 1#32
  let arg12 : BitVec 32 := Scf.iv c0_i32_10 c1_i32_11 k0_t2
  let v3199 : BitVec 32 := Scalar.muli c4_i32_1314 arg12
  let c2_i32_1315 : BitVec 32 := 2#32
  let v3200 : BitVec 32 := Scalar.addi v3199 c2_i32_1315
  let c32_i32_1316 : BitVec 32 := 32#32
  let v3201 : BitVec 32 := Scalar.muli v3200 c32_i32_1316
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v3202 : BitVec 32 := Scalar.addi v3201 v16
  let v3203 : Index := Scalar.indexCast v3202
  ![v3203.toNat]
def k0_off5 (k0_t1 : Fin k0_t1_loop.trips) (k0_t2 : Fin k0_t2_loop.trips) : Fin 1 → Nat :=
  let c4_i32_1314 : BitVec 32 := 4#32
  let c0_i32_10 : BitVec 32 := 0#32
  let c1_i32_11 : BitVec 32 := 1#32
  let arg12 : BitVec 32 := Scf.iv c0_i32_10 c1_i32_11 k0_t2
  let v3199 : BitVec 32 := Scalar.muli c4_i32_1314 arg12
  let c2_i32_1315 : BitVec 32 := 2#32
  let v3200 : BitVec 32 := Scalar.addi v3199 c2_i32_1315
  let c32_i32_1317 : BitVec 32 := 32#32
  let v3205 : BitVec 32 := Scalar.muli v3200 c32_i32_1317
  let c32_i32_1318 : BitVec 32 := 32#32
  let v3206 : BitVec 32 := Scalar.addi v3205 c32_i32_1318
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v3207 : BitVec 32 := Scalar.addi v3206 v16
  let v3208 : Index := Scalar.indexCast v3207
  ![v3208.toNat]
def k0_off6 (k0_t1 : Fin k0_t1_loop.trips) (c3968_i32 : BitVec 32) : Fin 1 → Nat :=
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v82 : BitVec 32 := Scalar.addi c3968_i32 v16
  let v83 : Index := Scalar.indexCast v82
  ![v83.toNat]
def k0_cond1 (k0_t1 : Fin k0_t1_loop.trips) : BitVec 1 :=
  let c0_i32_1 : BitVec 32 := 0#32
  let c1_i32 : BitVec 32 := 1#32
  let arg11 : BitVec 32 := Scf.iv c0_i32_1 c1_i32 k0_t1
  let c0_i32_398 : BitVec 32 := 0#32
  let v923 : BitVec 1 := Scalar.cmpi .sgt arg11 c0_i32_398
  let v924 : BitVec 32 := Scalar.extui v923
  let c0_i32_399 : BitVec 32 := 0#32
  let v925 : BitVec 1 := Scalar.cmpi .ne v924 c0_i32_399
  v925

def k0_mult2 (i : grid0.Coords) (k0_t1 : Fin k0_t1_loop.trips) : BitVec 32 :=
  let c2_i32_926 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2355 : BitVec 32 := Scalar.muli c2_i32_926 v1
  let c0_i32_1 : BitVec 32 := 0#32
  let c1_i32 : BitVec 32 := 1#32
  let arg11 : BitVec 32 := Scf.iv c0_i32_1 c1_i32 k0_t1
  let c1_i32_925 : BitVec 32 := 1#32
  let v2354 : BitVec 32 := Scalar.subi arg11 c1_i32_925
  let v2356 : BitVec 32 := Scalar.addi v2355 v2354
  let c16_i32_927 : BitVec 32 := 16#32
  let v2357 : BitVec 32 := Scalar.muli v2356 c16_i32_927
  v2357
def k0_off7 (i : grid0.Coords) (k0_t1 : Fin k0_t1_loop.trips) : Fin 2 → Nat :=
  let c2_i32_926 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2355 : BitVec 32 := Scalar.muli c2_i32_926 v1
  let c0_i32_1 : BitVec 32 := 0#32
  let c1_i32 : BitVec 32 := 1#32
  let arg11 : BitVec 32 := Scf.iv c0_i32_1 c1_i32 k0_t1
  let c1_i32_925 : BitVec 32 := 1#32
  let v2354 : BitVec 32 := Scalar.subi arg11 c1_i32_925
  let v2356 : BitVec 32 := Scalar.addi v2355 v2354
  let c16_i32_927 : BitVec 32 := 16#32
  let v2357 : BitVec 32 := Scalar.muli v2356 c16_i32_927
  let v2358 : BitVec 32 := v2357
  let c0_i32_928 : BitVec 32 := 0#32
  ![v2358.toNat, 0]

def k0_chk1 (v2028 : IVec S16 32) : Prop :=
  (∀ a x, ((![v2028] : Fin 1 → IVec S16 32) a x).toNat < S1088.size a)
theorem k0_idx1_inb : ∀ (v2028 : IVec S16 32) (k0_hw1 : k0_chk1 v2028), ∀ a x, ((![v2028] : Fin 1 → IVec S16 32) a x).toNat < S1088.size a := fun v2028 k0_hw1 => k0_hw1

def k0_chk2 (v2033 : IVec S16 32) : Prop :=
  (∀ a x, ((![v2033] : Fin 1 → IVec S16 32) a x).toNat < S1088.size a)
theorem k0_idx2_inb : ∀ (v2033 : IVec S16 32) (k0_hw2 : k0_chk2 v2033), ∀ a x, ((![v2033] : Fin 1 → IVec S16 32) a x).toNat < S1088.size a := fun v2033 k0_hw2 => k0_hw2

def k0_chk3 (v2038 : IVec S16 32) : Prop :=
  (∀ a x, ((![v2038] : Fin 1 → IVec S16 32) a x).toNat < S1088.size a)
theorem k0_idx3_inb : ∀ (v2038 : IVec S16 32) (k0_hw3 : k0_chk3 v2038), ∀ a x, ((![v2038] : Fin 1 → IVec S16 32) a x).toNat < S1088.size a := fun v2038 k0_hw3 => k0_hw3

def k0_chk4 (v2043 : IVec S16 32) : Prop :=
  (∀ a x, ((![v2043] : Fin 1 → IVec S16 32) a x).toNat < S1088.size a)
theorem k0_idx4_inb : ∀ (v2043 : IVec S16 32) (k0_hw4 : k0_chk4 v2043), ∀ a x, ((![v2043] : Fin 1 → IVec S16 32) a x).toNat < S1088.size a := fun v2043 k0_hw4 => k0_hw4

def k0_chk5 (v2048 : IVec S16 32) : Prop :=
  (∀ a x, ((![v2048] : Fin 1 → IVec S16 32) a x).toNat < S1088.size a)
theorem k0_idx5_inb : ∀ (v2048 : IVec S16 32) (k0_hw5 : k0_chk5 v2048), ∀ a x, ((![v2048] : Fin 1 → IVec S16 32) a x).toNat < S1088.size a := fun v2048 k0_hw5 => k0_hw5

def k0_chk6 (v2053 : IVec S16 32) : Prop :=
  (∀ a x, ((![v2053] : Fin 1 → IVec S16 32) a x).toNat < S1088.size a)
theorem k0_idx6_inb : ∀ (v2053 : IVec S16 32) (k0_hw6 : k0_chk6 v2053), ∀ a x, ((![v2053] : Fin 1 → IVec S16 32) a x).toNat < S1088.size a := fun v2053 k0_hw6 => k0_hw6

def k0_chk7 (v2058 : IVec S16 32) : Prop :=
  (∀ a x, ((![v2058] : Fin 1 → IVec S16 32) a x).toNat < S1088.size a)
theorem k0_idx7_inb : ∀ (v2058 : IVec S16 32) (k0_hw7 : k0_chk7 v2058), ∀ a x, ((![v2058] : Fin 1 → IVec S16 32) a x).toNat < S1088.size a := fun v2058 k0_hw7 => k0_hw7

def k0_chk8 (v2063 : IVec S16 32) : Prop :=
  (∀ a x, ((![v2063] : Fin 1 → IVec S16 32) a x).toNat < S1088.size a)
theorem k0_idx8_inb : ∀ (v2063 : IVec S16 32) (k0_hw8 : k0_chk8 v2063), ∀ a x, ((![v2063] : Fin 1 → IVec S16 32) a x).toNat < S1088.size a := fun v2063 k0_hw8 => k0_hw8

def k0_chk9 (v2068 : IVec S16 32) : Prop :=
  (∀ a x, ((![v2068] : Fin 1 → IVec S16 32) a x).toNat < S1088.size a)
theorem k0_idx9_inb : ∀ (v2068 : IVec S16 32) (k0_hw9 : k0_chk9 v2068), ∀ a x, ((![v2068] : Fin 1 → IVec S16 32) a x).toNat < S1088.size a := fun v2068 k0_hw9 => k0_hw9

def k0_chk10 (v2073 : IVec S16 32) : Prop :=
  (∀ a x, ((![v2073] : Fin 1 → IVec S16 32) a x).toNat < S1088.size a)
theorem k0_idx10_inb : ∀ (v2073 : IVec S16 32) (k0_hw10 : k0_chk10 v2073), ∀ a x, ((![v2073] : Fin 1 → IVec S16 32) a x).toNat < S1088.size a := fun v2073 k0_hw10 => k0_hw10

def k0_chk11 (v2078 : IVec S16 32) : Prop :=
  (∀ a x, ((![v2078] : Fin 1 → IVec S16 32) a x).toNat < S1088.size a)
theorem k0_idx11_inb : ∀ (v2078 : IVec S16 32) (k0_hw11 : k0_chk11 v2078), ∀ a x, ((![v2078] : Fin 1 → IVec S16 32) a x).toNat < S1088.size a := fun v2078 k0_hw11 => k0_hw11

def k0_chk12 (v2083 : IVec S16 32) : Prop :=
  (∀ a x, ((![v2083] : Fin 1 → IVec S16 32) a x).toNat < S1088.size a)
theorem k0_idx12_inb : ∀ (v2083 : IVec S16 32) (k0_hw12 : k0_chk12 v2083), ∀ a x, ((![v2083] : Fin 1 → IVec S16 32) a x).toNat < S1088.size a := fun v2083 k0_hw12 => k0_hw12

def k0_chk13 (v2088 : IVec S16 32) : Prop :=
  (∀ a x, ((![v2088] : Fin 1 → IVec S16 32) a x).toNat < S1088.size a)
theorem k0_idx13_inb : ∀ (v2088 : IVec S16 32) (k0_hw13 : k0_chk13 v2088), ∀ a x, ((![v2088] : Fin 1 → IVec S16 32) a x).toNat < S1088.size a := fun v2088 k0_hw13 => k0_hw13

def k0_chk14 (v2093 : IVec S16 32) : Prop :=
  (∀ a x, ((![v2093] : Fin 1 → IVec S16 32) a x).toNat < S1088.size a)
theorem k0_idx14_inb : ∀ (v2093 : IVec S16 32) (k0_hw14 : k0_chk14 v2093), ∀ a x, ((![v2093] : Fin 1 → IVec S16 32) a x).toNat < S1088.size a := fun v2093 k0_hw14 => k0_hw14

def k0_chk15 (v2098 : IVec S16 32) : Prop :=
  (∀ a x, ((![v2098] : Fin 1 → IVec S16 32) a x).toNat < S1088.size a)
theorem k0_idx15_inb : ∀ (v2098 : IVec S16 32) (k0_hw15 : k0_chk15 v2098), ∀ a x, ((![v2098] : Fin 1 → IVec S16 32) a x).toNat < S1088.size a := fun v2098 k0_hw15 => k0_hw15

def k0_chk16 (v2103 : IVec S16 32) : Prop :=
  (∀ a x, ((![v2103] : Fin 1 → IVec S16 32) a x).toNat < S1088.size a)
theorem k0_idx16_inb : ∀ (v2103 : IVec S16 32) (k0_hw16 : k0_chk16 v2103), ∀ a x, ((![v2103] : Fin 1 → IVec S16 32) a x).toNat < S1088.size a := fun v2103 k0_hw16 => k0_hw16

def k0_chk17 (v2108 : IVec S16 32) : Prop :=
  (∀ a x, ((![v2108] : Fin 1 → IVec S16 32) a x).toNat < S1088.size a)
theorem k0_idx17_inb : ∀ (v2108 : IVec S16 32) (k0_hw17 : k0_chk17 v2108), ∀ a x, ((![v2108] : Fin 1 → IVec S16 32) a x).toNat < S1088.size a := fun v2108 k0_hw17 => k0_hw17

def k0_chk18 (v2113 : IVec S16 32) : Prop :=
  (∀ a x, ((![v2113] : Fin 1 → IVec S16 32) a x).toNat < S1088.size a)
theorem k0_idx18_inb : ∀ (v2113 : IVec S16 32) (k0_hw18 : k0_chk18 v2113), ∀ a x, ((![v2113] : Fin 1 → IVec S16 32) a x).toNat < S1088.size a := fun v2113 k0_hw18 => k0_hw18

def k0_chk19 (v2118 : IVec S16 32) : Prop :=
  (∀ a x, ((![v2118] : Fin 1 → IVec S16 32) a x).toNat < S1088.size a)
theorem k0_idx19_inb : ∀ (v2118 : IVec S16 32) (k0_hw19 : k0_chk19 v2118), ∀ a x, ((![v2118] : Fin 1 → IVec S16 32) a x).toNat < S1088.size a := fun v2118 k0_hw19 => k0_hw19

def k0_chk20 (v2123 : IVec S16 32) : Prop :=
  (∀ a x, ((![v2123] : Fin 1 → IVec S16 32) a x).toNat < S1088.size a)
theorem k0_idx20_inb : ∀ (v2123 : IVec S16 32) (k0_hw20 : k0_chk20 v2123), ∀ a x, ((![v2123] : Fin 1 → IVec S16 32) a x).toNat < S1088.size a := fun v2123 k0_hw20 => k0_hw20

def k0_chk21 (v2128 : IVec S16 32) : Prop :=
  (∀ a x, ((![v2128] : Fin 1 → IVec S16 32) a x).toNat < S1088.size a)
theorem k0_idx21_inb : ∀ (v2128 : IVec S16 32) (k0_hw21 : k0_chk21 v2128), ∀ a x, ((![v2128] : Fin 1 → IVec S16 32) a x).toNat < S1088.size a := fun v2128 k0_hw21 => k0_hw21

def k0_chk22 (v2133 : IVec S16 32) : Prop :=
  (∀ a x, ((![v2133] : Fin 1 → IVec S16 32) a x).toNat < S1088.size a)
theorem k0_idx22_inb : ∀ (v2133 : IVec S16 32) (k0_hw22 : k0_chk22 v2133), ∀ a x, ((![v2133] : Fin 1 → IVec S16 32) a x).toNat < S1088.size a := fun v2133 k0_hw22 => k0_hw22

def k0_chk23 (v2138 : IVec S16 32) : Prop :=
  (∀ a x, ((![v2138] : Fin 1 → IVec S16 32) a x).toNat < S1088.size a)
theorem k0_idx23_inb : ∀ (v2138 : IVec S16 32) (k0_hw23 : k0_chk23 v2138), ∀ a x, ((![v2138] : Fin 1 → IVec S16 32) a x).toNat < S1088.size a := fun v2138 k0_hw23 => k0_hw23

def k0_chk24 (v2143 : IVec S16 32) : Prop :=
  (∀ a x, ((![v2143] : Fin 1 → IVec S16 32) a x).toNat < S1088.size a)
theorem k0_idx24_inb : ∀ (v2143 : IVec S16 32) (k0_hw24 : k0_chk24 v2143), ∀ a x, ((![v2143] : Fin 1 → IVec S16 32) a x).toNat < S1088.size a := fun v2143 k0_hw24 => k0_hw24

def k0_chk25 (v2148 : IVec S16 32) : Prop :=
  (∀ a x, ((![v2148] : Fin 1 → IVec S16 32) a x).toNat < S1088.size a)
theorem k0_idx25_inb : ∀ (v2148 : IVec S16 32) (k0_hw25 : k0_chk25 v2148), ∀ a x, ((![v2148] : Fin 1 → IVec S16 32) a x).toNat < S1088.size a := fun v2148 k0_hw25 => k0_hw25

def k0_chk26 (v2153 : IVec S16 32) : Prop :=
  (∀ a x, ((![v2153] : Fin 1 → IVec S16 32) a x).toNat < S1088.size a)
theorem k0_idx26_inb : ∀ (v2153 : IVec S16 32) (k0_hw26 : k0_chk26 v2153), ∀ a x, ((![v2153] : Fin 1 → IVec S16 32) a x).toNat < S1088.size a := fun v2153 k0_hw26 => k0_hw26

def k0_chk27 (v2158 : IVec S16 32) : Prop :=
  (∀ a x, ((![v2158] : Fin 1 → IVec S16 32) a x).toNat < S1088.size a)
theorem k0_idx27_inb : ∀ (v2158 : IVec S16 32) (k0_hw27 : k0_chk27 v2158), ∀ a x, ((![v2158] : Fin 1 → IVec S16 32) a x).toNat < S1088.size a := fun v2158 k0_hw27 => k0_hw27

def k0_chk28 (v2163 : IVec S16 32) : Prop :=
  (∀ a x, ((![v2163] : Fin 1 → IVec S16 32) a x).toNat < S1088.size a)
theorem k0_idx28_inb : ∀ (v2163 : IVec S16 32) (k0_hw28 : k0_chk28 v2163), ∀ a x, ((![v2163] : Fin 1 → IVec S16 32) a x).toNat < S1088.size a := fun v2163 k0_hw28 => k0_hw28

def k0_chk29 (v2168 : IVec S16 32) : Prop :=
  (∀ a x, ((![v2168] : Fin 1 → IVec S16 32) a x).toNat < S1088.size a)
theorem k0_idx29_inb : ∀ (v2168 : IVec S16 32) (k0_hw29 : k0_chk29 v2168), ∀ a x, ((![v2168] : Fin 1 → IVec S16 32) a x).toNat < S1088.size a := fun v2168 k0_hw29 => k0_hw29

def k0_chk30 (v2173 : IVec S16 32) : Prop :=
  (∀ a x, ((![v2173] : Fin 1 → IVec S16 32) a x).toNat < S1088.size a)
theorem k0_idx30_inb : ∀ (v2173 : IVec S16 32) (k0_hw30 : k0_chk30 v2173), ∀ a x, ((![v2173] : Fin 1 → IVec S16 32) a x).toNat < S1088.size a := fun v2173 k0_hw30 => k0_hw30

def k0_chk31 (v2178 : IVec S16 32) : Prop :=
  (∀ a x, ((![v2178] : Fin 1 → IVec S16 32) a x).toNat < S1088.size a)
theorem k0_idx31_inb : ∀ (v2178 : IVec S16 32) (k0_hw31 : k0_chk31 v2178), ∀ a x, ((![v2178] : Fin 1 → IVec S16 32) a x).toNat < S1088.size a := fun v2178 k0_hw31 => k0_hw31

def k0_chk32 (v2183 : IVec S16 32) : Prop :=
  (∀ a x, ((![v2183] : Fin 1 → IVec S16 32) a x).toNat < S1088.size a)
theorem k0_idx32_inb : ∀ (v2183 : IVec S16 32) (k0_hw32 : k0_chk32 v2183), ∀ a x, ((![v2183] : Fin 1 → IVec S16 32) a x).toNat < S1088.size a := fun v2183 k0_hw32 => k0_hw32

def k0_chk33 (v2188 : IVec S16 32) : Prop :=
  (∀ a x, ((![v2188] : Fin 1 → IVec S16 32) a x).toNat < S1088.size a)
theorem k0_idx33_inb : ∀ (v2188 : IVec S16 32) (k0_hw33 : k0_chk33 v2188), ∀ a x, ((![v2188] : Fin 1 → IVec S16 32) a x).toNat < S1088.size a := fun v2188 k0_hw33 => k0_hw33

def k0_chk34 (v2193 : IVec S16 32) : Prop :=
  (∀ a x, ((![v2193] : Fin 1 → IVec S16 32) a x).toNat < S1088.size a)
theorem k0_idx34_inb : ∀ (v2193 : IVec S16 32) (k0_hw34 : k0_chk34 v2193), ∀ a x, ((![v2193] : Fin 1 → IVec S16 32) a x).toNat < S1088.size a := fun v2193 k0_hw34 => k0_hw34

def k0_chk35 (v2198 : IVec S16 32) : Prop :=
  (∀ a x, ((![v2198] : Fin 1 → IVec S16 32) a x).toNat < S1088.size a)
theorem k0_idx35_inb : ∀ (v2198 : IVec S16 32) (k0_hw35 : k0_chk35 v2198), ∀ a x, ((![v2198] : Fin 1 → IVec S16 32) a x).toNat < S1088.size a := fun v2198 k0_hw35 => k0_hw35

def k0_chk36 (v2203 : IVec S16 32) : Prop :=
  (∀ a x, ((![v2203] : Fin 1 → IVec S16 32) a x).toNat < S1088.size a)
theorem k0_idx36_inb : ∀ (v2203 : IVec S16 32) (k0_hw36 : k0_chk36 v2203), ∀ a x, ((![v2203] : Fin 1 → IVec S16 32) a x).toNat < S1088.size a := fun v2203 k0_hw36 => k0_hw36

def k0_chk37 (v2208 : IVec S16 32) : Prop :=
  (∀ a x, ((![v2208] : Fin 1 → IVec S16 32) a x).toNat < S1088.size a)
theorem k0_idx37_inb : ∀ (v2208 : IVec S16 32) (k0_hw37 : k0_chk37 v2208), ∀ a x, ((![v2208] : Fin 1 → IVec S16 32) a x).toNat < S1088.size a := fun v2208 k0_hw37 => k0_hw37

def k0_chk38 (v2213 : IVec S16 32) : Prop :=
  (∀ a x, ((![v2213] : Fin 1 → IVec S16 32) a x).toNat < S1088.size a)
theorem k0_idx38_inb : ∀ (v2213 : IVec S16 32) (k0_hw38 : k0_chk38 v2213), ∀ a x, ((![v2213] : Fin 1 → IVec S16 32) a x).toNat < S1088.size a := fun v2213 k0_hw38 => k0_hw38

def k0_chk39 (v2218 : IVec S16 32) : Prop :=
  (∀ a x, ((![v2218] : Fin 1 → IVec S16 32) a x).toNat < S1088.size a)
theorem k0_idx39_inb : ∀ (v2218 : IVec S16 32) (k0_hw39 : k0_chk39 v2218), ∀ a x, ((![v2218] : Fin 1 → IVec S16 32) a x).toNat < S1088.size a := fun v2218 k0_hw39 => k0_hw39

def k0_chk40 (v2223 : IVec S16 32) : Prop :=
  (∀ a x, ((![v2223] : Fin 1 → IVec S16 32) a x).toNat < S1088.size a)
theorem k0_idx40_inb : ∀ (v2223 : IVec S16 32) (k0_hw40 : k0_chk40 v2223), ∀ a x, ((![v2223] : Fin 1 → IVec S16 32) a x).toNat < S1088.size a := fun v2223 k0_hw40 => k0_hw40

def k0_chk41 (v2228 : IVec S16 32) : Prop :=
  (∀ a x, ((![v2228] : Fin 1 → IVec S16 32) a x).toNat < S1088.size a)
theorem k0_idx41_inb : ∀ (v2228 : IVec S16 32) (k0_hw41 : k0_chk41 v2228), ∀ a x, ((![v2228] : Fin 1 → IVec S16 32) a x).toNat < S1088.size a := fun v2228 k0_hw41 => k0_hw41

def k0_chk42 (v2233 : IVec S16 32) : Prop :=
  (∀ a x, ((![v2233] : Fin 1 → IVec S16 32) a x).toNat < S1088.size a)
theorem k0_idx42_inb : ∀ (v2233 : IVec S16 32) (k0_hw42 : k0_chk42 v2233), ∀ a x, ((![v2233] : Fin 1 → IVec S16 32) a x).toNat < S1088.size a := fun v2233 k0_hw42 => k0_hw42

def k0_chk43 (v2238 : IVec S16 32) : Prop :=
  (∀ a x, ((![v2238] : Fin 1 → IVec S16 32) a x).toNat < S1088.size a)
theorem k0_idx43_inb : ∀ (v2238 : IVec S16 32) (k0_hw43 : k0_chk43 v2238), ∀ a x, ((![v2238] : Fin 1 → IVec S16 32) a x).toNat < S1088.size a := fun v2238 k0_hw43 => k0_hw43

def k0_chk44 (v2243 : IVec S16 32) : Prop :=
  (∀ a x, ((![v2243] : Fin 1 → IVec S16 32) a x).toNat < S1088.size a)
theorem k0_idx44_inb : ∀ (v2243 : IVec S16 32) (k0_hw44 : k0_chk44 v2243), ∀ a x, ((![v2243] : Fin 1 → IVec S16 32) a x).toNat < S1088.size a := fun v2243 k0_hw44 => k0_hw44

def k0_chk45 (v2248 : IVec S16 32) : Prop :=
  (∀ a x, ((![v2248] : Fin 1 → IVec S16 32) a x).toNat < S1088.size a)
theorem k0_idx45_inb : ∀ (v2248 : IVec S16 32) (k0_hw45 : k0_chk45 v2248), ∀ a x, ((![v2248] : Fin 1 → IVec S16 32) a x).toNat < S1088.size a := fun v2248 k0_hw45 => k0_hw45

def k0_chk46 (v2253 : IVec S16 32) : Prop :=
  (∀ a x, ((![v2253] : Fin 1 → IVec S16 32) a x).toNat < S1088.size a)
theorem k0_idx46_inb : ∀ (v2253 : IVec S16 32) (k0_hw46 : k0_chk46 v2253), ∀ a x, ((![v2253] : Fin 1 → IVec S16 32) a x).toNat < S1088.size a := fun v2253 k0_hw46 => k0_hw46

def k0_chk47 (v2258 : IVec S16 32) : Prop :=
  (∀ a x, ((![v2258] : Fin 1 → IVec S16 32) a x).toNat < S1088.size a)
theorem k0_idx47_inb : ∀ (v2258 : IVec S16 32) (k0_hw47 : k0_chk47 v2258), ∀ a x, ((![v2258] : Fin 1 → IVec S16 32) a x).toNat < S1088.size a := fun v2258 k0_hw47 => k0_hw47

def k0_chk48 (v2263 : IVec S16 32) : Prop :=
  (∀ a x, ((![v2263] : Fin 1 → IVec S16 32) a x).toNat < S1088.size a)
theorem k0_idx48_inb : ∀ (v2263 : IVec S16 32) (k0_hw48 : k0_chk48 v2263), ∀ a x, ((![v2263] : Fin 1 → IVec S16 32) a x).toNat < S1088.size a := fun v2263 k0_hw48 => k0_hw48

def k0_chk49 (v2268 : IVec S16 32) : Prop :=
  (∀ a x, ((![v2268] : Fin 1 → IVec S16 32) a x).toNat < S1088.size a)
theorem k0_idx49_inb : ∀ (v2268 : IVec S16 32) (k0_hw49 : k0_chk49 v2268), ∀ a x, ((![v2268] : Fin 1 → IVec S16 32) a x).toNat < S1088.size a := fun v2268 k0_hw49 => k0_hw49

def k0_chk50 (v2273 : IVec S16 32) : Prop :=
  (∀ a x, ((![v2273] : Fin 1 → IVec S16 32) a x).toNat < S1088.size a)
theorem k0_idx50_inb : ∀ (v2273 : IVec S16 32) (k0_hw50 : k0_chk50 v2273), ∀ a x, ((![v2273] : Fin 1 → IVec S16 32) a x).toNat < S1088.size a := fun v2273 k0_hw50 => k0_hw50

def k0_chk51 (v2278 : IVec S16 32) : Prop :=
  (∀ a x, ((![v2278] : Fin 1 → IVec S16 32) a x).toNat < S1088.size a)
theorem k0_idx51_inb : ∀ (v2278 : IVec S16 32) (k0_hw51 : k0_chk51 v2278), ∀ a x, ((![v2278] : Fin 1 → IVec S16 32) a x).toNat < S1088.size a := fun v2278 k0_hw51 => k0_hw51

def k0_chk52 (v2283 : IVec S16 32) : Prop :=
  (∀ a x, ((![v2283] : Fin 1 → IVec S16 32) a x).toNat < S1088.size a)
theorem k0_idx52_inb : ∀ (v2283 : IVec S16 32) (k0_hw52 : k0_chk52 v2283), ∀ a x, ((![v2283] : Fin 1 → IVec S16 32) a x).toNat < S1088.size a := fun v2283 k0_hw52 => k0_hw52

def k0_chk53 (v2288 : IVec S16 32) : Prop :=
  (∀ a x, ((![v2288] : Fin 1 → IVec S16 32) a x).toNat < S1088.size a)
theorem k0_idx53_inb : ∀ (v2288 : IVec S16 32) (k0_hw53 : k0_chk53 v2288), ∀ a x, ((![v2288] : Fin 1 → IVec S16 32) a x).toNat < S1088.size a := fun v2288 k0_hw53 => k0_hw53

def k0_chk54 (v2293 : IVec S16 32) : Prop :=
  (∀ a x, ((![v2293] : Fin 1 → IVec S16 32) a x).toNat < S1088.size a)
theorem k0_idx54_inb : ∀ (v2293 : IVec S16 32) (k0_hw54 : k0_chk54 v2293), ∀ a x, ((![v2293] : Fin 1 → IVec S16 32) a x).toNat < S1088.size a := fun v2293 k0_hw54 => k0_hw54

def k0_chk55 (v2298 : IVec S16 32) : Prop :=
  (∀ a x, ((![v2298] : Fin 1 → IVec S16 32) a x).toNat < S1088.size a)
theorem k0_idx55_inb : ∀ (v2298 : IVec S16 32) (k0_hw55 : k0_chk55 v2298), ∀ a x, ((![v2298] : Fin 1 → IVec S16 32) a x).toNat < S1088.size a := fun v2298 k0_hw55 => k0_hw55

def k0_chk56 (v2303 : IVec S16 32) : Prop :=
  (∀ a x, ((![v2303] : Fin 1 → IVec S16 32) a x).toNat < S1088.size a)
theorem k0_idx56_inb : ∀ (v2303 : IVec S16 32) (k0_hw56 : k0_chk56 v2303), ∀ a x, ((![v2303] : Fin 1 → IVec S16 32) a x).toNat < S1088.size a := fun v2303 k0_hw56 => k0_hw56

def k0_chk57 (v2308 : IVec S16 32) : Prop :=
  (∀ a x, ((![v2308] : Fin 1 → IVec S16 32) a x).toNat < S1088.size a)
theorem k0_idx57_inb : ∀ (v2308 : IVec S16 32) (k0_hw57 : k0_chk57 v2308), ∀ a x, ((![v2308] : Fin 1 → IVec S16 32) a x).toNat < S1088.size a := fun v2308 k0_hw57 => k0_hw57

def k0_chk58 (v2313 : IVec S16 32) : Prop :=
  (∀ a x, ((![v2313] : Fin 1 → IVec S16 32) a x).toNat < S1088.size a)
theorem k0_idx58_inb : ∀ (v2313 : IVec S16 32) (k0_hw58 : k0_chk58 v2313), ∀ a x, ((![v2313] : Fin 1 → IVec S16 32) a x).toNat < S1088.size a := fun v2313 k0_hw58 => k0_hw58

def k0_chk59 (v2318 : IVec S16 32) : Prop :=
  (∀ a x, ((![v2318] : Fin 1 → IVec S16 32) a x).toNat < S1088.size a)
theorem k0_idx59_inb : ∀ (v2318 : IVec S16 32) (k0_hw59 : k0_chk59 v2318), ∀ a x, ((![v2318] : Fin 1 → IVec S16 32) a x).toNat < S1088.size a := fun v2318 k0_hw59 => k0_hw59

def k0_chk60 (v2323 : IVec S16 32) : Prop :=
  (∀ a x, ((![v2323] : Fin 1 → IVec S16 32) a x).toNat < S1088.size a)
theorem k0_idx60_inb : ∀ (v2323 : IVec S16 32) (k0_hw60 : k0_chk60 v2323), ∀ a x, ((![v2323] : Fin 1 → IVec S16 32) a x).toNat < S1088.size a := fun v2323 k0_hw60 => k0_hw60

def k0_chk61 (v2328 : IVec S16 32) : Prop :=
  (∀ a x, ((![v2328] : Fin 1 → IVec S16 32) a x).toNat < S1088.size a)
theorem k0_idx61_inb : ∀ (v2328 : IVec S16 32) (k0_hw61 : k0_chk61 v2328), ∀ a x, ((![v2328] : Fin 1 → IVec S16 32) a x).toNat < S1088.size a := fun v2328 k0_hw61 => k0_hw61

def k0_chk62 (v2333 : IVec S16 32) : Prop :=
  (∀ a x, ((![v2333] : Fin 1 → IVec S16 32) a x).toNat < S1088.size a)
theorem k0_idx62_inb : ∀ (v2333 : IVec S16 32) (k0_hw62 : k0_chk62 v2333), ∀ a x, ((![v2333] : Fin 1 → IVec S16 32) a x).toNat < S1088.size a := fun v2333 k0_hw62 => k0_hw62

def k0_chk63 (v2338 : IVec S16 32) : Prop :=
  (∀ a x, ((![v2338] : Fin 1 → IVec S16 32) a x).toNat < S1088.size a)
theorem k0_idx63_inb : ∀ (v2338 : IVec S16 32) (k0_hw63 : k0_chk63 v2338), ∀ a x, ((![v2338] : Fin 1 → IVec S16 32) a x).toNat < S1088.size a := fun v2338 k0_hw63 => k0_hw63

def k0_chk64 (v2343 : IVec S16 32) : Prop :=
  (∀ a x, ((![v2343] : Fin 1 → IVec S16 32) a x).toNat < S1088.size a)
theorem k0_idx64_inb : ∀ (v2343 : IVec S16 32) (k0_hw64 : k0_chk64 v2343), ∀ a x, ((![v2343] : Fin 1 → IVec S16 32) a x).toNat < S1088.size a := fun v2343 k0_hw64 => k0_hw64
@[reducible] def k0_t3_loop : Scf.Loop 32 :=
  let c0_i32_918 : BitVec 32 := 0#32
  let c32_i32 : BitVec 32 := 32#32
  let v2347 : BitVec 32 := Scalar.addi c0_i32_918 c32_i32
  let c1_i32_919 : BitVec 32 := 1#32
  ⟨c0_i32_918, v2347, c1_i32_919⟩
def k0_off8 (k0_t1 : Fin k0_t1_loop.trips) (k0_t3 : Fin k0_t3_loop.trips) : Fin 1 → Nat :=
  let c4_i32_925 : BitVec 32 := 4#32
  let c0_i32_918 : BitVec 32 := 0#32
  let c1_i32_919 : BitVec 32 := 1#32
  let arg12 : BitVec 32 := Scf.iv c0_i32_918 c1_i32_919 k0_t3
  let v2354 : BitVec 32 := Scalar.muli c4_i32_925 arg12
  let c32_i32_928 : BitVec 32 := 32#32
  let v2357 : BitVec 32 := Scalar.muli v2354 c32_i32_928
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v2358 : BitVec 32 := Scalar.addi v2357 v16
  let v2359 : Index := Scalar.indexCast v2358
  ![v2359.toNat]
def k0_off9 (k0_t1 : Fin k0_t1_loop.trips) (k0_t3 : Fin k0_t3_loop.trips) : Fin 1 → Nat :=
  let c4_i32_925 : BitVec 32 := 4#32
  let c0_i32_918 : BitVec 32 := 0#32
  let c1_i32_919 : BitVec 32 := 1#32
  let arg12 : BitVec 32 := Scf.iv c0_i32_918 c1_i32_919 k0_t3
  let v2354 : BitVec 32 := Scalar.muli c4_i32_925 arg12
  let c32_i32_929 : BitVec 32 := 32#32
  let v2361 : BitVec 32 := Scalar.muli v2354 c32_i32_929
  let c32_i32_930 : BitVec 32 := 32#32
  let v2362 : BitVec 32 := Scalar.addi v2361 c32_i32_930
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v2363 : BitVec 32 := Scalar.addi v2362 v16
  let v2364 : Index := Scalar.indexCast v2363
  ![v2364.toNat]
def k0_off10 (k0_t3 : Fin k0_t3_loop.trips) (c0_i32_931 : BitVec 32) : Fin 1 → Nat :=
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32 : BitVec 32 := 64#32
  let v2368 : BitVec 32 := Scalar.muli v2356 c64_i32
  let v2369 : BitVec 32 := Scalar.addi v2368 c0_i32_931
  let v2370 : Index := Scalar.indexCast v2369
  ![v2370.toNat]

def k0_chk65 (v3475 : IVec S16 32) : Prop :=
  (∀ a x, ((![v3475] : Fin 1 → IVec S16 32) a x).toNat < S1088.size a)
theorem k0_idx65_inb : ∀ (v3475 : IVec S16 32) (k0_hw65 : k0_chk65 v3475), ∀ a x, ((![v3475] : Fin 1 → IVec S16 32) a x).toNat < S1088.size a := fun v3475 k0_hw65 => k0_hw65
def k0_off11 (k0_t3 : Fin k0_t3_loop.trips) : Fin 2 → Nat :=
  let c0_i32_1325 : BitVec 32 := 0#32
  let v3478 : Index := Scalar.indexCast c0_i32_1325
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1324 : BitVec 32 := 0#32
  let v3477 : BitVec 32 := Scalar.addi v3473 c0_i32_1324
  let v3479 : Index := Scalar.indexCast v3477
  ![0, v3479.toNat]

def k0_chk66 (v3482 : IVec S16 32) : Prop :=
  (∀ a x, ((![v3482] : Fin 1 → IVec S16 32) a x).toNat < S1088.size a)
theorem k0_idx66_inb : ∀ (v3482 : IVec S16 32) (k0_hw66 : k0_chk66 v3482), ∀ a x, ((![v3482] : Fin 1 → IVec S16 32) a x).toNat < S1088.size a := fun v3482 k0_hw66 => k0_hw66
def k0_off12 (k0_t3 : Fin k0_t3_loop.trips) : Fin 2 → Nat :=
  let c0_i32_1328 : BitVec 32 := 0#32
  let v3485 : Index := Scalar.indexCast c0_i32_1328
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1327 : BitVec 32 := 16#32
  let v3484 : BitVec 32 := Scalar.addi v3473 c16_i32_1327
  let v3486 : Index := Scalar.indexCast v3484
  ![0, v3486.toNat]

def k0_chk67 (v3489 : IVec S16 32) : Prop :=
  (∀ a x, ((![v3489] : Fin 1 → IVec S16 32) a x).toNat < S1088.size a)
theorem k0_idx67_inb : ∀ (v3489 : IVec S16 32) (k0_hw67 : k0_chk67 v3489), ∀ a x, ((![v3489] : Fin 1 → IVec S16 32) a x).toNat < S1088.size a := fun v3489 k0_hw67 => k0_hw67
def k0_off13 (k0_t3 : Fin k0_t3_loop.trips) : Fin 2 → Nat :=
  let c0_i32_1331 : BitVec 32 := 0#32
  let v3492 : Index := Scalar.indexCast c0_i32_1331
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1330 : BitVec 32 := 32#32
  let v3491 : BitVec 32 := Scalar.addi v3473 c32_i32_1330
  let v3493 : Index := Scalar.indexCast v3491
  ![0, v3493.toNat]

def k0_chk68 (v3496 : IVec S16 32) : Prop :=
  (∀ a x, ((![v3496] : Fin 1 → IVec S16 32) a x).toNat < S1088.size a)
theorem k0_idx68_inb : ∀ (v3496 : IVec S16 32) (k0_hw68 : k0_chk68 v3496), ∀ a x, ((![v3496] : Fin 1 → IVec S16 32) a x).toNat < S1088.size a := fun v3496 k0_hw68 => k0_hw68
def k0_off14 (k0_t3 : Fin k0_t3_loop.trips) : Fin 2 → Nat :=
  let c0_i32_1334 : BitVec 32 := 0#32
  let v3499 : Index := Scalar.indexCast c0_i32_1334
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1333 : BitVec 32 := 48#32
  let v3498 : BitVec 32 := Scalar.addi v3473 c48_i32_1333
  let v3500 : Index := Scalar.indexCast v3498
  ![0, v3500.toNat]

def k0_chk69 (v3503 : IVec S16 32) : Prop :=
  (∀ a x, ((![v3503] : Fin 1 → IVec S16 32) a x).toNat < S1088.size a)
theorem k0_idx69_inb : ∀ (v3503 : IVec S16 32) (k0_hw69 : k0_chk69 v3503), ∀ a x, ((![v3503] : Fin 1 → IVec S16 32) a x).toNat < S1088.size a := fun v3503 k0_hw69 => k0_hw69
def k0_off15 (k0_t3 : Fin k0_t3_loop.trips) : Fin 2 → Nat :=
  let c1_i32_1337 : BitVec 32 := 1#32
  let v3506 : Index := Scalar.indexCast c1_i32_1337
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1336 : BitVec 32 := 0#32
  let v3505 : BitVec 32 := Scalar.addi v3473 c0_i32_1336
  let v3507 : Index := Scalar.indexCast v3505
  ![1, v3507.toNat]

def k0_chk70 (v3510 : IVec S16 32) : Prop :=
  (∀ a x, ((![v3510] : Fin 1 → IVec S16 32) a x).toNat < S1088.size a)
theorem k0_idx70_inb : ∀ (v3510 : IVec S16 32) (k0_hw70 : k0_chk70 v3510), ∀ a x, ((![v3510] : Fin 1 → IVec S16 32) a x).toNat < S1088.size a := fun v3510 k0_hw70 => k0_hw70
def k0_off16 (k0_t3 : Fin k0_t3_loop.trips) : Fin 2 → Nat :=
  let c1_i32_1340 : BitVec 32 := 1#32
  let v3513 : Index := Scalar.indexCast c1_i32_1340
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1339 : BitVec 32 := 16#32
  let v3512 : BitVec 32 := Scalar.addi v3473 c16_i32_1339
  let v3514 : Index := Scalar.indexCast v3512
  ![1, v3514.toNat]

def k0_chk71 (v3517 : IVec S16 32) : Prop :=
  (∀ a x, ((![v3517] : Fin 1 → IVec S16 32) a x).toNat < S1088.size a)
theorem k0_idx71_inb : ∀ (v3517 : IVec S16 32) (k0_hw71 : k0_chk71 v3517), ∀ a x, ((![v3517] : Fin 1 → IVec S16 32) a x).toNat < S1088.size a := fun v3517 k0_hw71 => k0_hw71
def k0_off17 (k0_t3 : Fin k0_t3_loop.trips) : Fin 2 → Nat :=
  let c1_i32_1343 : BitVec 32 := 1#32
  let v3520 : Index := Scalar.indexCast c1_i32_1343
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1342 : BitVec 32 := 32#32
  let v3519 : BitVec 32 := Scalar.addi v3473 c32_i32_1342
  let v3521 : Index := Scalar.indexCast v3519
  ![1, v3521.toNat]

def k0_chk72 (v3524 : IVec S16 32) : Prop :=
  (∀ a x, ((![v3524] : Fin 1 → IVec S16 32) a x).toNat < S1088.size a)
theorem k0_idx72_inb : ∀ (v3524 : IVec S16 32) (k0_hw72 : k0_chk72 v3524), ∀ a x, ((![v3524] : Fin 1 → IVec S16 32) a x).toNat < S1088.size a := fun v3524 k0_hw72 => k0_hw72
def k0_off18 (k0_t3 : Fin k0_t3_loop.trips) : Fin 2 → Nat :=
  let c1_i32_1346 : BitVec 32 := 1#32
  let v3527 : Index := Scalar.indexCast c1_i32_1346
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1345 : BitVec 32 := 48#32
  let v3526 : BitVec 32 := Scalar.addi v3473 c48_i32_1345
  let v3528 : Index := Scalar.indexCast v3526
  ![1, v3528.toNat]

def k0_chk73 (v3531 : IVec S16 32) : Prop :=
  (∀ a x, ((![v3531] : Fin 1 → IVec S16 32) a x).toNat < S1088.size a)
theorem k0_idx73_inb : ∀ (v3531 : IVec S16 32) (k0_hw73 : k0_chk73 v3531), ∀ a x, ((![v3531] : Fin 1 → IVec S16 32) a x).toNat < S1088.size a := fun v3531 k0_hw73 => k0_hw73
def k0_off19 (k0_t3 : Fin k0_t3_loop.trips) : Fin 2 → Nat :=
  let c2_i32_1349 : BitVec 32 := 2#32
  let v3534 : Index := Scalar.indexCast c2_i32_1349
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1348 : BitVec 32 := 0#32
  let v3533 : BitVec 32 := Scalar.addi v3473 c0_i32_1348
  let v3535 : Index := Scalar.indexCast v3533
  ![2, v3535.toNat]

def k0_chk74 (v3538 : IVec S16 32) : Prop :=
  (∀ a x, ((![v3538] : Fin 1 → IVec S16 32) a x).toNat < S1088.size a)
theorem k0_idx74_inb : ∀ (v3538 : IVec S16 32) (k0_hw74 : k0_chk74 v3538), ∀ a x, ((![v3538] : Fin 1 → IVec S16 32) a x).toNat < S1088.size a := fun v3538 k0_hw74 => k0_hw74
def k0_off20 (k0_t3 : Fin k0_t3_loop.trips) : Fin 2 → Nat :=
  let c2_i32_1352 : BitVec 32 := 2#32
  let v3541 : Index := Scalar.indexCast c2_i32_1352
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1351 : BitVec 32 := 16#32
  let v3540 : BitVec 32 := Scalar.addi v3473 c16_i32_1351
  let v3542 : Index := Scalar.indexCast v3540
  ![2, v3542.toNat]

def k0_chk75 (v3545 : IVec S16 32) : Prop :=
  (∀ a x, ((![v3545] : Fin 1 → IVec S16 32) a x).toNat < S1088.size a)
theorem k0_idx75_inb : ∀ (v3545 : IVec S16 32) (k0_hw75 : k0_chk75 v3545), ∀ a x, ((![v3545] : Fin 1 → IVec S16 32) a x).toNat < S1088.size a := fun v3545 k0_hw75 => k0_hw75
def k0_off21 (k0_t3 : Fin k0_t3_loop.trips) : Fin 2 → Nat :=
  let c2_i32_1355 : BitVec 32 := 2#32
  let v3548 : Index := Scalar.indexCast c2_i32_1355
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1354 : BitVec 32 := 32#32
  let v3547 : BitVec 32 := Scalar.addi v3473 c32_i32_1354
  let v3549 : Index := Scalar.indexCast v3547
  ![2, v3549.toNat]

def k0_chk76 (v3552 : IVec S16 32) : Prop :=
  (∀ a x, ((![v3552] : Fin 1 → IVec S16 32) a x).toNat < S1088.size a)
theorem k0_idx76_inb : ∀ (v3552 : IVec S16 32) (k0_hw76 : k0_chk76 v3552), ∀ a x, ((![v3552] : Fin 1 → IVec S16 32) a x).toNat < S1088.size a := fun v3552 k0_hw76 => k0_hw76
def k0_off22 (k0_t3 : Fin k0_t3_loop.trips) : Fin 2 → Nat :=
  let c2_i32_1358 : BitVec 32 := 2#32
  let v3555 : Index := Scalar.indexCast c2_i32_1358
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1357 : BitVec 32 := 48#32
  let v3554 : BitVec 32 := Scalar.addi v3473 c48_i32_1357
  let v3556 : Index := Scalar.indexCast v3554
  ![2, v3556.toNat]

def k0_chk77 (v3559 : IVec S16 32) : Prop :=
  (∀ a x, ((![v3559] : Fin 1 → IVec S16 32) a x).toNat < S1088.size a)
theorem k0_idx77_inb : ∀ (v3559 : IVec S16 32) (k0_hw77 : k0_chk77 v3559), ∀ a x, ((![v3559] : Fin 1 → IVec S16 32) a x).toNat < S1088.size a := fun v3559 k0_hw77 => k0_hw77
def k0_off23 (k0_t3 : Fin k0_t3_loop.trips) : Fin 2 → Nat :=
  let c3_i32_1361 : BitVec 32 := 3#32
  let v3562 : Index := Scalar.indexCast c3_i32_1361
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1360 : BitVec 32 := 0#32
  let v3561 : BitVec 32 := Scalar.addi v3473 c0_i32_1360
  let v3563 : Index := Scalar.indexCast v3561
  ![3, v3563.toNat]

def k0_chk78 (v3566 : IVec S16 32) : Prop :=
  (∀ a x, ((![v3566] : Fin 1 → IVec S16 32) a x).toNat < S1088.size a)
theorem k0_idx78_inb : ∀ (v3566 : IVec S16 32) (k0_hw78 : k0_chk78 v3566), ∀ a x, ((![v3566] : Fin 1 → IVec S16 32) a x).toNat < S1088.size a := fun v3566 k0_hw78 => k0_hw78
def k0_off24 (k0_t3 : Fin k0_t3_loop.trips) : Fin 2 → Nat :=
  let c3_i32_1364 : BitVec 32 := 3#32
  let v3569 : Index := Scalar.indexCast c3_i32_1364
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1363 : BitVec 32 := 16#32
  let v3568 : BitVec 32 := Scalar.addi v3473 c16_i32_1363
  let v3570 : Index := Scalar.indexCast v3568
  ![3, v3570.toNat]

def k0_chk79 (v3573 : IVec S16 32) : Prop :=
  (∀ a x, ((![v3573] : Fin 1 → IVec S16 32) a x).toNat < S1088.size a)
theorem k0_idx79_inb : ∀ (v3573 : IVec S16 32) (k0_hw79 : k0_chk79 v3573), ∀ a x, ((![v3573] : Fin 1 → IVec S16 32) a x).toNat < S1088.size a := fun v3573 k0_hw79 => k0_hw79
def k0_off25 (k0_t3 : Fin k0_t3_loop.trips) : Fin 2 → Nat :=
  let c3_i32_1367 : BitVec 32 := 3#32
  let v3576 : Index := Scalar.indexCast c3_i32_1367
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1366 : BitVec 32 := 32#32
  let v3575 : BitVec 32 := Scalar.addi v3473 c32_i32_1366
  let v3577 : Index := Scalar.indexCast v3575
  ![3, v3577.toNat]

def k0_chk80 (v3580 : IVec S16 32) : Prop :=
  (∀ a x, ((![v3580] : Fin 1 → IVec S16 32) a x).toNat < S1088.size a)
theorem k0_idx80_inb : ∀ (v3580 : IVec S16 32) (k0_hw80 : k0_chk80 v3580), ∀ a x, ((![v3580] : Fin 1 → IVec S16 32) a x).toNat < S1088.size a := fun v3580 k0_hw80 => k0_hw80
def k0_off26 (k0_t3 : Fin k0_t3_loop.trips) : Fin 2 → Nat :=
  let c3_i32_1370 : BitVec 32 := 3#32
  let v3583 : Index := Scalar.indexCast c3_i32_1370
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1369 : BitVec 32 := 48#32
  let v3582 : BitVec 32 := Scalar.addi v3473 c48_i32_1369
  let v3584 : Index := Scalar.indexCast v3582
  ![3, v3584.toNat]

def k0_chk81 (v3587 : IVec S16 32) : Prop :=
  (∀ a x, ((![v3587] : Fin 1 → IVec S16 32) a x).toNat < S1088.size a)
theorem k0_idx81_inb : ∀ (v3587 : IVec S16 32) (k0_hw81 : k0_chk81 v3587), ∀ a x, ((![v3587] : Fin 1 → IVec S16 32) a x).toNat < S1088.size a := fun v3587 k0_hw81 => k0_hw81
def k0_off27 (k0_t3 : Fin k0_t3_loop.trips) : Fin 2 → Nat :=
  let c4_i32_1373 : BitVec 32 := 4#32
  let v3590 : Index := Scalar.indexCast c4_i32_1373
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1372 : BitVec 32 := 0#32
  let v3589 : BitVec 32 := Scalar.addi v3473 c0_i32_1372
  let v3591 : Index := Scalar.indexCast v3589
  ![4, v3591.toNat]

def k0_chk82 (v3594 : IVec S16 32) : Prop :=
  (∀ a x, ((![v3594] : Fin 1 → IVec S16 32) a x).toNat < S1088.size a)
theorem k0_idx82_inb : ∀ (v3594 : IVec S16 32) (k0_hw82 : k0_chk82 v3594), ∀ a x, ((![v3594] : Fin 1 → IVec S16 32) a x).toNat < S1088.size a := fun v3594 k0_hw82 => k0_hw82
def k0_off28 (k0_t3 : Fin k0_t3_loop.trips) : Fin 2 → Nat :=
  let c4_i32_1376 : BitVec 32 := 4#32
  let v3597 : Index := Scalar.indexCast c4_i32_1376
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1375 : BitVec 32 := 16#32
  let v3596 : BitVec 32 := Scalar.addi v3473 c16_i32_1375
  let v3598 : Index := Scalar.indexCast v3596
  ![4, v3598.toNat]

def k0_chk83 (v3601 : IVec S16 32) : Prop :=
  (∀ a x, ((![v3601] : Fin 1 → IVec S16 32) a x).toNat < S1088.size a)
theorem k0_idx83_inb : ∀ (v3601 : IVec S16 32) (k0_hw83 : k0_chk83 v3601), ∀ a x, ((![v3601] : Fin 1 → IVec S16 32) a x).toNat < S1088.size a := fun v3601 k0_hw83 => k0_hw83
def k0_off29 (k0_t3 : Fin k0_t3_loop.trips) : Fin 2 → Nat :=
  let c4_i32_1379 : BitVec 32 := 4#32
  let v3604 : Index := Scalar.indexCast c4_i32_1379
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1378 : BitVec 32 := 32#32
  let v3603 : BitVec 32 := Scalar.addi v3473 c32_i32_1378
  let v3605 : Index := Scalar.indexCast v3603
  ![4, v3605.toNat]

def k0_chk84 (v3608 : IVec S16 32) : Prop :=
  (∀ a x, ((![v3608] : Fin 1 → IVec S16 32) a x).toNat < S1088.size a)
theorem k0_idx84_inb : ∀ (v3608 : IVec S16 32) (k0_hw84 : k0_chk84 v3608), ∀ a x, ((![v3608] : Fin 1 → IVec S16 32) a x).toNat < S1088.size a := fun v3608 k0_hw84 => k0_hw84
def k0_off30 (k0_t3 : Fin k0_t3_loop.trips) : Fin 2 → Nat :=
  let c4_i32_1382 : BitVec 32 := 4#32
  let v3611 : Index := Scalar.indexCast c4_i32_1382
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1381 : BitVec 32 := 48#32
  let v3610 : BitVec 32 := Scalar.addi v3473 c48_i32_1381
  let v3612 : Index := Scalar.indexCast v3610
  ![4, v3612.toNat]

def k0_chk85 (v3615 : IVec S16 32) : Prop :=
  (∀ a x, ((![v3615] : Fin 1 → IVec S16 32) a x).toNat < S1088.size a)
theorem k0_idx85_inb : ∀ (v3615 : IVec S16 32) (k0_hw85 : k0_chk85 v3615), ∀ a x, ((![v3615] : Fin 1 → IVec S16 32) a x).toNat < S1088.size a := fun v3615 k0_hw85 => k0_hw85
def k0_off31 (k0_t3 : Fin k0_t3_loop.trips) : Fin 2 → Nat :=
  let c5_i32_1385 : BitVec 32 := 5#32
  let v3618 : Index := Scalar.indexCast c5_i32_1385
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1384 : BitVec 32 := 0#32
  let v3617 : BitVec 32 := Scalar.addi v3473 c0_i32_1384
  let v3619 : Index := Scalar.indexCast v3617
  ![5, v3619.toNat]

def k0_chk86 (v3622 : IVec S16 32) : Prop :=
  (∀ a x, ((![v3622] : Fin 1 → IVec S16 32) a x).toNat < S1088.size a)
theorem k0_idx86_inb : ∀ (v3622 : IVec S16 32) (k0_hw86 : k0_chk86 v3622), ∀ a x, ((![v3622] : Fin 1 → IVec S16 32) a x).toNat < S1088.size a := fun v3622 k0_hw86 => k0_hw86
def k0_off32 (k0_t3 : Fin k0_t3_loop.trips) : Fin 2 → Nat :=
  let c5_i32_1388 : BitVec 32 := 5#32
  let v3625 : Index := Scalar.indexCast c5_i32_1388
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1387 : BitVec 32 := 16#32
  let v3624 : BitVec 32 := Scalar.addi v3473 c16_i32_1387
  let v3626 : Index := Scalar.indexCast v3624
  ![5, v3626.toNat]

def k0_chk87 (v3629 : IVec S16 32) : Prop :=
  (∀ a x, ((![v3629] : Fin 1 → IVec S16 32) a x).toNat < S1088.size a)
theorem k0_idx87_inb : ∀ (v3629 : IVec S16 32) (k0_hw87 : k0_chk87 v3629), ∀ a x, ((![v3629] : Fin 1 → IVec S16 32) a x).toNat < S1088.size a := fun v3629 k0_hw87 => k0_hw87
def k0_off33 (k0_t3 : Fin k0_t3_loop.trips) : Fin 2 → Nat :=
  let c5_i32_1391 : BitVec 32 := 5#32
  let v3632 : Index := Scalar.indexCast c5_i32_1391
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1390 : BitVec 32 := 32#32
  let v3631 : BitVec 32 := Scalar.addi v3473 c32_i32_1390
  let v3633 : Index := Scalar.indexCast v3631
  ![5, v3633.toNat]

def k0_chk88 (v3636 : IVec S16 32) : Prop :=
  (∀ a x, ((![v3636] : Fin 1 → IVec S16 32) a x).toNat < S1088.size a)
theorem k0_idx88_inb : ∀ (v3636 : IVec S16 32) (k0_hw88 : k0_chk88 v3636), ∀ a x, ((![v3636] : Fin 1 → IVec S16 32) a x).toNat < S1088.size a := fun v3636 k0_hw88 => k0_hw88
def k0_off34 (k0_t3 : Fin k0_t3_loop.trips) : Fin 2 → Nat :=
  let c5_i32_1394 : BitVec 32 := 5#32
  let v3639 : Index := Scalar.indexCast c5_i32_1394
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1393 : BitVec 32 := 48#32
  let v3638 : BitVec 32 := Scalar.addi v3473 c48_i32_1393
  let v3640 : Index := Scalar.indexCast v3638
  ![5, v3640.toNat]

def k0_chk89 (v3643 : IVec S16 32) : Prop :=
  (∀ a x, ((![v3643] : Fin 1 → IVec S16 32) a x).toNat < S1088.size a)
theorem k0_idx89_inb : ∀ (v3643 : IVec S16 32) (k0_hw89 : k0_chk89 v3643), ∀ a x, ((![v3643] : Fin 1 → IVec S16 32) a x).toNat < S1088.size a := fun v3643 k0_hw89 => k0_hw89
def k0_off35 (k0_t3 : Fin k0_t3_loop.trips) : Fin 2 → Nat :=
  let c6_i32_1397 : BitVec 32 := 6#32
  let v3646 : Index := Scalar.indexCast c6_i32_1397
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1396 : BitVec 32 := 0#32
  let v3645 : BitVec 32 := Scalar.addi v3473 c0_i32_1396
  let v3647 : Index := Scalar.indexCast v3645
  ![6, v3647.toNat]

def k0_chk90 (v3650 : IVec S16 32) : Prop :=
  (∀ a x, ((![v3650] : Fin 1 → IVec S16 32) a x).toNat < S1088.size a)
theorem k0_idx90_inb : ∀ (v3650 : IVec S16 32) (k0_hw90 : k0_chk90 v3650), ∀ a x, ((![v3650] : Fin 1 → IVec S16 32) a x).toNat < S1088.size a := fun v3650 k0_hw90 => k0_hw90
def k0_off36 (k0_t3 : Fin k0_t3_loop.trips) : Fin 2 → Nat :=
  let c6_i32_1400 : BitVec 32 := 6#32
  let v3653 : Index := Scalar.indexCast c6_i32_1400
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1399 : BitVec 32 := 16#32
  let v3652 : BitVec 32 := Scalar.addi v3473 c16_i32_1399
  let v3654 : Index := Scalar.indexCast v3652
  ![6, v3654.toNat]

def k0_chk91 (v3657 : IVec S16 32) : Prop :=
  (∀ a x, ((![v3657] : Fin 1 → IVec S16 32) a x).toNat < S1088.size a)
theorem k0_idx91_inb : ∀ (v3657 : IVec S16 32) (k0_hw91 : k0_chk91 v3657), ∀ a x, ((![v3657] : Fin 1 → IVec S16 32) a x).toNat < S1088.size a := fun v3657 k0_hw91 => k0_hw91
def k0_off37 (k0_t3 : Fin k0_t3_loop.trips) : Fin 2 → Nat :=
  let c6_i32_1403 : BitVec 32 := 6#32
  let v3660 : Index := Scalar.indexCast c6_i32_1403
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1402 : BitVec 32 := 32#32
  let v3659 : BitVec 32 := Scalar.addi v3473 c32_i32_1402
  let v3661 : Index := Scalar.indexCast v3659
  ![6, v3661.toNat]

def k0_chk92 (v3664 : IVec S16 32) : Prop :=
  (∀ a x, ((![v3664] : Fin 1 → IVec S16 32) a x).toNat < S1088.size a)
theorem k0_idx92_inb : ∀ (v3664 : IVec S16 32) (k0_hw92 : k0_chk92 v3664), ∀ a x, ((![v3664] : Fin 1 → IVec S16 32) a x).toNat < S1088.size a := fun v3664 k0_hw92 => k0_hw92
def k0_off38 (k0_t3 : Fin k0_t3_loop.trips) : Fin 2 → Nat :=
  let c6_i32_1406 : BitVec 32 := 6#32
  let v3667 : Index := Scalar.indexCast c6_i32_1406
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1405 : BitVec 32 := 48#32
  let v3666 : BitVec 32 := Scalar.addi v3473 c48_i32_1405
  let v3668 : Index := Scalar.indexCast v3666
  ![6, v3668.toNat]

def k0_chk93 (v3671 : IVec S16 32) : Prop :=
  (∀ a x, ((![v3671] : Fin 1 → IVec S16 32) a x).toNat < S1088.size a)
theorem k0_idx93_inb : ∀ (v3671 : IVec S16 32) (k0_hw93 : k0_chk93 v3671), ∀ a x, ((![v3671] : Fin 1 → IVec S16 32) a x).toNat < S1088.size a := fun v3671 k0_hw93 => k0_hw93
def k0_off39 (k0_t3 : Fin k0_t3_loop.trips) : Fin 2 → Nat :=
  let c7_i32_1409 : BitVec 32 := 7#32
  let v3674 : Index := Scalar.indexCast c7_i32_1409
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1408 : BitVec 32 := 0#32
  let v3673 : BitVec 32 := Scalar.addi v3473 c0_i32_1408
  let v3675 : Index := Scalar.indexCast v3673
  ![7, v3675.toNat]

def k0_chk94 (v3678 : IVec S16 32) : Prop :=
  (∀ a x, ((![v3678] : Fin 1 → IVec S16 32) a x).toNat < S1088.size a)
theorem k0_idx94_inb : ∀ (v3678 : IVec S16 32) (k0_hw94 : k0_chk94 v3678), ∀ a x, ((![v3678] : Fin 1 → IVec S16 32) a x).toNat < S1088.size a := fun v3678 k0_hw94 => k0_hw94
def k0_off40 (k0_t3 : Fin k0_t3_loop.trips) : Fin 2 → Nat :=
  let c7_i32_1412 : BitVec 32 := 7#32
  let v3681 : Index := Scalar.indexCast c7_i32_1412
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1411 : BitVec 32 := 16#32
  let v3680 : BitVec 32 := Scalar.addi v3473 c16_i32_1411
  let v3682 : Index := Scalar.indexCast v3680
  ![7, v3682.toNat]

def k0_chk95 (v3685 : IVec S16 32) : Prop :=
  (∀ a x, ((![v3685] : Fin 1 → IVec S16 32) a x).toNat < S1088.size a)
theorem k0_idx95_inb : ∀ (v3685 : IVec S16 32) (k0_hw95 : k0_chk95 v3685), ∀ a x, ((![v3685] : Fin 1 → IVec S16 32) a x).toNat < S1088.size a := fun v3685 k0_hw95 => k0_hw95
def k0_off41 (k0_t3 : Fin k0_t3_loop.trips) : Fin 2 → Nat :=
  let c7_i32_1415 : BitVec 32 := 7#32
  let v3688 : Index := Scalar.indexCast c7_i32_1415
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1414 : BitVec 32 := 32#32
  let v3687 : BitVec 32 := Scalar.addi v3473 c32_i32_1414
  let v3689 : Index := Scalar.indexCast v3687
  ![7, v3689.toNat]

def k0_chk96 (v3692 : IVec S16 32) : Prop :=
  (∀ a x, ((![v3692] : Fin 1 → IVec S16 32) a x).toNat < S1088.size a)
theorem k0_idx96_inb : ∀ (v3692 : IVec S16 32) (k0_hw96 : k0_chk96 v3692), ∀ a x, ((![v3692] : Fin 1 → IVec S16 32) a x).toNat < S1088.size a := fun v3692 k0_hw96 => k0_hw96
def k0_off42 (k0_t3 : Fin k0_t3_loop.trips) : Fin 2 → Nat :=
  let c7_i32_1418 : BitVec 32 := 7#32
  let v3695 : Index := Scalar.indexCast c7_i32_1418
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1417 : BitVec 32 := 48#32
  let v3694 : BitVec 32 := Scalar.addi v3473 c48_i32_1417
  let v3696 : Index := Scalar.indexCast v3694
  ![7, v3696.toNat]

def k0_chk97 (v3699 : IVec S16 32) : Prop :=
  (∀ a x, ((![v3699] : Fin 1 → IVec S16 32) a x).toNat < S1088.size a)
theorem k0_idx97_inb : ∀ (v3699 : IVec S16 32) (k0_hw97 : k0_chk97 v3699), ∀ a x, ((![v3699] : Fin 1 → IVec S16 32) a x).toNat < S1088.size a := fun v3699 k0_hw97 => k0_hw97
def k0_off43 (k0_t3 : Fin k0_t3_loop.trips) : Fin 2 → Nat :=
  let c8_i32_1421 : BitVec 32 := 8#32
  let v3702 : Index := Scalar.indexCast c8_i32_1421
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1420 : BitVec 32 := 0#32
  let v3701 : BitVec 32 := Scalar.addi v3473 c0_i32_1420
  let v3703 : Index := Scalar.indexCast v3701
  ![8, v3703.toNat]

def k0_chk98 (v3706 : IVec S16 32) : Prop :=
  (∀ a x, ((![v3706] : Fin 1 → IVec S16 32) a x).toNat < S1088.size a)
theorem k0_idx98_inb : ∀ (v3706 : IVec S16 32) (k0_hw98 : k0_chk98 v3706), ∀ a x, ((![v3706] : Fin 1 → IVec S16 32) a x).toNat < S1088.size a := fun v3706 k0_hw98 => k0_hw98
def k0_off44 (k0_t3 : Fin k0_t3_loop.trips) : Fin 2 → Nat :=
  let c8_i32_1424 : BitVec 32 := 8#32
  let v3709 : Index := Scalar.indexCast c8_i32_1424
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1423 : BitVec 32 := 16#32
  let v3708 : BitVec 32 := Scalar.addi v3473 c16_i32_1423
  let v3710 : Index := Scalar.indexCast v3708
  ![8, v3710.toNat]

def k0_chk99 (v3713 : IVec S16 32) : Prop :=
  (∀ a x, ((![v3713] : Fin 1 → IVec S16 32) a x).toNat < S1088.size a)
theorem k0_idx99_inb : ∀ (v3713 : IVec S16 32) (k0_hw99 : k0_chk99 v3713), ∀ a x, ((![v3713] : Fin 1 → IVec S16 32) a x).toNat < S1088.size a := fun v3713 k0_hw99 => k0_hw99
def k0_off45 (k0_t3 : Fin k0_t3_loop.trips) : Fin 2 → Nat :=
  let c8_i32_1427 : BitVec 32 := 8#32
  let v3716 : Index := Scalar.indexCast c8_i32_1427
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1426 : BitVec 32 := 32#32
  let v3715 : BitVec 32 := Scalar.addi v3473 c32_i32_1426
  let v3717 : Index := Scalar.indexCast v3715
  ![8, v3717.toNat]

def k0_chk100 (v3720 : IVec S16 32) : Prop :=
  (∀ a x, ((![v3720] : Fin 1 → IVec S16 32) a x).toNat < S1088.size a)
theorem k0_idx100_inb : ∀ (v3720 : IVec S16 32) (k0_hw100 : k0_chk100 v3720), ∀ a x, ((![v3720] : Fin 1 → IVec S16 32) a x).toNat < S1088.size a := fun v3720 k0_hw100 => k0_hw100
def k0_off46 (k0_t3 : Fin k0_t3_loop.trips) : Fin 2 → Nat :=
  let c8_i32_1430 : BitVec 32 := 8#32
  let v3723 : Index := Scalar.indexCast c8_i32_1430
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1429 : BitVec 32 := 48#32
  let v3722 : BitVec 32 := Scalar.addi v3473 c48_i32_1429
  let v3724 : Index := Scalar.indexCast v3722
  ![8, v3724.toNat]

def k0_chk101 (v3727 : IVec S16 32) : Prop :=
  (∀ a x, ((![v3727] : Fin 1 → IVec S16 32) a x).toNat < S1088.size a)
theorem k0_idx101_inb : ∀ (v3727 : IVec S16 32) (k0_hw101 : k0_chk101 v3727), ∀ a x, ((![v3727] : Fin 1 → IVec S16 32) a x).toNat < S1088.size a := fun v3727 k0_hw101 => k0_hw101
def k0_off47 (k0_t3 : Fin k0_t3_loop.trips) : Fin 2 → Nat :=
  let c9_i32_1433 : BitVec 32 := 9#32
  let v3730 : Index := Scalar.indexCast c9_i32_1433
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1432 : BitVec 32 := 0#32
  let v3729 : BitVec 32 := Scalar.addi v3473 c0_i32_1432
  let v3731 : Index := Scalar.indexCast v3729
  ![9, v3731.toNat]

def k0_chk102 (v3734 : IVec S16 32) : Prop :=
  (∀ a x, ((![v3734] : Fin 1 → IVec S16 32) a x).toNat < S1088.size a)
theorem k0_idx102_inb : ∀ (v3734 : IVec S16 32) (k0_hw102 : k0_chk102 v3734), ∀ a x, ((![v3734] : Fin 1 → IVec S16 32) a x).toNat < S1088.size a := fun v3734 k0_hw102 => k0_hw102
def k0_off48 (k0_t3 : Fin k0_t3_loop.trips) : Fin 2 → Nat :=
  let c9_i32_1436 : BitVec 32 := 9#32
  let v3737 : Index := Scalar.indexCast c9_i32_1436
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1435 : BitVec 32 := 16#32
  let v3736 : BitVec 32 := Scalar.addi v3473 c16_i32_1435
  let v3738 : Index := Scalar.indexCast v3736
  ![9, v3738.toNat]

def k0_chk103 (v3741 : IVec S16 32) : Prop :=
  (∀ a x, ((![v3741] : Fin 1 → IVec S16 32) a x).toNat < S1088.size a)
theorem k0_idx103_inb : ∀ (v3741 : IVec S16 32) (k0_hw103 : k0_chk103 v3741), ∀ a x, ((![v3741] : Fin 1 → IVec S16 32) a x).toNat < S1088.size a := fun v3741 k0_hw103 => k0_hw103
def k0_off49 (k0_t3 : Fin k0_t3_loop.trips) : Fin 2 → Nat :=
  let c9_i32_1439 : BitVec 32 := 9#32
  let v3744 : Index := Scalar.indexCast c9_i32_1439
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1438 : BitVec 32 := 32#32
  let v3743 : BitVec 32 := Scalar.addi v3473 c32_i32_1438
  let v3745 : Index := Scalar.indexCast v3743
  ![9, v3745.toNat]

def k0_chk104 (v3748 : IVec S16 32) : Prop :=
  (∀ a x, ((![v3748] : Fin 1 → IVec S16 32) a x).toNat < S1088.size a)
theorem k0_idx104_inb : ∀ (v3748 : IVec S16 32) (k0_hw104 : k0_chk104 v3748), ∀ a x, ((![v3748] : Fin 1 → IVec S16 32) a x).toNat < S1088.size a := fun v3748 k0_hw104 => k0_hw104
def k0_off50 (k0_t3 : Fin k0_t3_loop.trips) : Fin 2 → Nat :=
  let c9_i32_1442 : BitVec 32 := 9#32
  let v3751 : Index := Scalar.indexCast c9_i32_1442
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1441 : BitVec 32 := 48#32
  let v3750 : BitVec 32 := Scalar.addi v3473 c48_i32_1441
  let v3752 : Index := Scalar.indexCast v3750
  ![9, v3752.toNat]

def k0_chk105 (v3755 : IVec S16 32) : Prop :=
  (∀ a x, ((![v3755] : Fin 1 → IVec S16 32) a x).toNat < S1088.size a)
theorem k0_idx105_inb : ∀ (v3755 : IVec S16 32) (k0_hw105 : k0_chk105 v3755), ∀ a x, ((![v3755] : Fin 1 → IVec S16 32) a x).toNat < S1088.size a := fun v3755 k0_hw105 => k0_hw105
def k0_off51 (k0_t3 : Fin k0_t3_loop.trips) : Fin 2 → Nat :=
  let c10_i32_1445 : BitVec 32 := 10#32
  let v3758 : Index := Scalar.indexCast c10_i32_1445
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1444 : BitVec 32 := 0#32
  let v3757 : BitVec 32 := Scalar.addi v3473 c0_i32_1444
  let v3759 : Index := Scalar.indexCast v3757
  ![10, v3759.toNat]

def k0_chk106 (v3762 : IVec S16 32) : Prop :=
  (∀ a x, ((![v3762] : Fin 1 → IVec S16 32) a x).toNat < S1088.size a)
theorem k0_idx106_inb : ∀ (v3762 : IVec S16 32) (k0_hw106 : k0_chk106 v3762), ∀ a x, ((![v3762] : Fin 1 → IVec S16 32) a x).toNat < S1088.size a := fun v3762 k0_hw106 => k0_hw106
def k0_off52 (k0_t3 : Fin k0_t3_loop.trips) : Fin 2 → Nat :=
  let c10_i32_1448 : BitVec 32 := 10#32
  let v3765 : Index := Scalar.indexCast c10_i32_1448
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1447 : BitVec 32 := 16#32
  let v3764 : BitVec 32 := Scalar.addi v3473 c16_i32_1447
  let v3766 : Index := Scalar.indexCast v3764
  ![10, v3766.toNat]

def k0_chk107 (v3769 : IVec S16 32) : Prop :=
  (∀ a x, ((![v3769] : Fin 1 → IVec S16 32) a x).toNat < S1088.size a)
theorem k0_idx107_inb : ∀ (v3769 : IVec S16 32) (k0_hw107 : k0_chk107 v3769), ∀ a x, ((![v3769] : Fin 1 → IVec S16 32) a x).toNat < S1088.size a := fun v3769 k0_hw107 => k0_hw107
def k0_off53 (k0_t3 : Fin k0_t3_loop.trips) : Fin 2 → Nat :=
  let c10_i32_1451 : BitVec 32 := 10#32
  let v3772 : Index := Scalar.indexCast c10_i32_1451
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1450 : BitVec 32 := 32#32
  let v3771 : BitVec 32 := Scalar.addi v3473 c32_i32_1450
  let v3773 : Index := Scalar.indexCast v3771
  ![10, v3773.toNat]

def k0_chk108 (v3776 : IVec S16 32) : Prop :=
  (∀ a x, ((![v3776] : Fin 1 → IVec S16 32) a x).toNat < S1088.size a)
theorem k0_idx108_inb : ∀ (v3776 : IVec S16 32) (k0_hw108 : k0_chk108 v3776), ∀ a x, ((![v3776] : Fin 1 → IVec S16 32) a x).toNat < S1088.size a := fun v3776 k0_hw108 => k0_hw108
def k0_off54 (k0_t3 : Fin k0_t3_loop.trips) : Fin 2 → Nat :=
  let c10_i32_1454 : BitVec 32 := 10#32
  let v3779 : Index := Scalar.indexCast c10_i32_1454
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1453 : BitVec 32 := 48#32
  let v3778 : BitVec 32 := Scalar.addi v3473 c48_i32_1453
  let v3780 : Index := Scalar.indexCast v3778
  ![10, v3780.toNat]

def k0_chk109 (v3783 : IVec S16 32) : Prop :=
  (∀ a x, ((![v3783] : Fin 1 → IVec S16 32) a x).toNat < S1088.size a)
theorem k0_idx109_inb : ∀ (v3783 : IVec S16 32) (k0_hw109 : k0_chk109 v3783), ∀ a x, ((![v3783] : Fin 1 → IVec S16 32) a x).toNat < S1088.size a := fun v3783 k0_hw109 => k0_hw109
def k0_off55 (k0_t3 : Fin k0_t3_loop.trips) : Fin 2 → Nat :=
  let c11_i32_1457 : BitVec 32 := 11#32
  let v3786 : Index := Scalar.indexCast c11_i32_1457
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1456 : BitVec 32 := 0#32
  let v3785 : BitVec 32 := Scalar.addi v3473 c0_i32_1456
  let v3787 : Index := Scalar.indexCast v3785
  ![11, v3787.toNat]

def k0_chk110 (v3790 : IVec S16 32) : Prop :=
  (∀ a x, ((![v3790] : Fin 1 → IVec S16 32) a x).toNat < S1088.size a)
theorem k0_idx110_inb : ∀ (v3790 : IVec S16 32) (k0_hw110 : k0_chk110 v3790), ∀ a x, ((![v3790] : Fin 1 → IVec S16 32) a x).toNat < S1088.size a := fun v3790 k0_hw110 => k0_hw110
def k0_off56 (k0_t3 : Fin k0_t3_loop.trips) : Fin 2 → Nat :=
  let c11_i32_1460 : BitVec 32 := 11#32
  let v3793 : Index := Scalar.indexCast c11_i32_1460
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1459 : BitVec 32 := 16#32
  let v3792 : BitVec 32 := Scalar.addi v3473 c16_i32_1459
  let v3794 : Index := Scalar.indexCast v3792
  ![11, v3794.toNat]

def k0_chk111 (v3797 : IVec S16 32) : Prop :=
  (∀ a x, ((![v3797] : Fin 1 → IVec S16 32) a x).toNat < S1088.size a)
theorem k0_idx111_inb : ∀ (v3797 : IVec S16 32) (k0_hw111 : k0_chk111 v3797), ∀ a x, ((![v3797] : Fin 1 → IVec S16 32) a x).toNat < S1088.size a := fun v3797 k0_hw111 => k0_hw111
def k0_off57 (k0_t3 : Fin k0_t3_loop.trips) : Fin 2 → Nat :=
  let c11_i32_1463 : BitVec 32 := 11#32
  let v3800 : Index := Scalar.indexCast c11_i32_1463
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1462 : BitVec 32 := 32#32
  let v3799 : BitVec 32 := Scalar.addi v3473 c32_i32_1462
  let v3801 : Index := Scalar.indexCast v3799
  ![11, v3801.toNat]

def k0_chk112 (v3804 : IVec S16 32) : Prop :=
  (∀ a x, ((![v3804] : Fin 1 → IVec S16 32) a x).toNat < S1088.size a)
theorem k0_idx112_inb : ∀ (v3804 : IVec S16 32) (k0_hw112 : k0_chk112 v3804), ∀ a x, ((![v3804] : Fin 1 → IVec S16 32) a x).toNat < S1088.size a := fun v3804 k0_hw112 => k0_hw112
def k0_off58 (k0_t3 : Fin k0_t3_loop.trips) : Fin 2 → Nat :=
  let c11_i32_1466 : BitVec 32 := 11#32
  let v3807 : Index := Scalar.indexCast c11_i32_1466
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1465 : BitVec 32 := 48#32
  let v3806 : BitVec 32 := Scalar.addi v3473 c48_i32_1465
  let v3808 : Index := Scalar.indexCast v3806
  ![11, v3808.toNat]

def k0_chk113 (v3811 : IVec S16 32) : Prop :=
  (∀ a x, ((![v3811] : Fin 1 → IVec S16 32) a x).toNat < S1088.size a)
theorem k0_idx113_inb : ∀ (v3811 : IVec S16 32) (k0_hw113 : k0_chk113 v3811), ∀ a x, ((![v3811] : Fin 1 → IVec S16 32) a x).toNat < S1088.size a := fun v3811 k0_hw113 => k0_hw113
def k0_off59 (k0_t3 : Fin k0_t3_loop.trips) : Fin 2 → Nat :=
  let c12_i32_1469 : BitVec 32 := 12#32
  let v3814 : Index := Scalar.indexCast c12_i32_1469
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1468 : BitVec 32 := 0#32
  let v3813 : BitVec 32 := Scalar.addi v3473 c0_i32_1468
  let v3815 : Index := Scalar.indexCast v3813
  ![12, v3815.toNat]

def k0_chk114 (v3818 : IVec S16 32) : Prop :=
  (∀ a x, ((![v3818] : Fin 1 → IVec S16 32) a x).toNat < S1088.size a)
theorem k0_idx114_inb : ∀ (v3818 : IVec S16 32) (k0_hw114 : k0_chk114 v3818), ∀ a x, ((![v3818] : Fin 1 → IVec S16 32) a x).toNat < S1088.size a := fun v3818 k0_hw114 => k0_hw114
def k0_off60 (k0_t3 : Fin k0_t3_loop.trips) : Fin 2 → Nat :=
  let c12_i32_1472 : BitVec 32 := 12#32
  let v3821 : Index := Scalar.indexCast c12_i32_1472
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1471 : BitVec 32 := 16#32
  let v3820 : BitVec 32 := Scalar.addi v3473 c16_i32_1471
  let v3822 : Index := Scalar.indexCast v3820
  ![12, v3822.toNat]

def k0_chk115 (v3825 : IVec S16 32) : Prop :=
  (∀ a x, ((![v3825] : Fin 1 → IVec S16 32) a x).toNat < S1088.size a)
theorem k0_idx115_inb : ∀ (v3825 : IVec S16 32) (k0_hw115 : k0_chk115 v3825), ∀ a x, ((![v3825] : Fin 1 → IVec S16 32) a x).toNat < S1088.size a := fun v3825 k0_hw115 => k0_hw115
def k0_off61 (k0_t3 : Fin k0_t3_loop.trips) : Fin 2 → Nat :=
  let c12_i32_1475 : BitVec 32 := 12#32
  let v3828 : Index := Scalar.indexCast c12_i32_1475
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1474 : BitVec 32 := 32#32
  let v3827 : BitVec 32 := Scalar.addi v3473 c32_i32_1474
  let v3829 : Index := Scalar.indexCast v3827
  ![12, v3829.toNat]

def k0_chk116 (v3832 : IVec S16 32) : Prop :=
  (∀ a x, ((![v3832] : Fin 1 → IVec S16 32) a x).toNat < S1088.size a)
theorem k0_idx116_inb : ∀ (v3832 : IVec S16 32) (k0_hw116 : k0_chk116 v3832), ∀ a x, ((![v3832] : Fin 1 → IVec S16 32) a x).toNat < S1088.size a := fun v3832 k0_hw116 => k0_hw116
def k0_off62 (k0_t3 : Fin k0_t3_loop.trips) : Fin 2 → Nat :=
  let c12_i32_1478 : BitVec 32 := 12#32
  let v3835 : Index := Scalar.indexCast c12_i32_1478
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1477 : BitVec 32 := 48#32
  let v3834 : BitVec 32 := Scalar.addi v3473 c48_i32_1477
  let v3836 : Index := Scalar.indexCast v3834
  ![12, v3836.toNat]

def k0_chk117 (v3839 : IVec S16 32) : Prop :=
  (∀ a x, ((![v3839] : Fin 1 → IVec S16 32) a x).toNat < S1088.size a)
theorem k0_idx117_inb : ∀ (v3839 : IVec S16 32) (k0_hw117 : k0_chk117 v3839), ∀ a x, ((![v3839] : Fin 1 → IVec S16 32) a x).toNat < S1088.size a := fun v3839 k0_hw117 => k0_hw117
def k0_off63 (k0_t3 : Fin k0_t3_loop.trips) : Fin 2 → Nat :=
  let c13_i32_1481 : BitVec 32 := 13#32
  let v3842 : Index := Scalar.indexCast c13_i32_1481
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1480 : BitVec 32 := 0#32
  let v3841 : BitVec 32 := Scalar.addi v3473 c0_i32_1480
  let v3843 : Index := Scalar.indexCast v3841
  ![13, v3843.toNat]

def k0_chk118 (v3846 : IVec S16 32) : Prop :=
  (∀ a x, ((![v3846] : Fin 1 → IVec S16 32) a x).toNat < S1088.size a)
theorem k0_idx118_inb : ∀ (v3846 : IVec S16 32) (k0_hw118 : k0_chk118 v3846), ∀ a x, ((![v3846] : Fin 1 → IVec S16 32) a x).toNat < S1088.size a := fun v3846 k0_hw118 => k0_hw118
def k0_off64 (k0_t3 : Fin k0_t3_loop.trips) : Fin 2 → Nat :=
  let c13_i32_1484 : BitVec 32 := 13#32
  let v3849 : Index := Scalar.indexCast c13_i32_1484
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1483 : BitVec 32 := 16#32
  let v3848 : BitVec 32 := Scalar.addi v3473 c16_i32_1483
  let v3850 : Index := Scalar.indexCast v3848
  ![13, v3850.toNat]

def k0_chk119 (v3853 : IVec S16 32) : Prop :=
  (∀ a x, ((![v3853] : Fin 1 → IVec S16 32) a x).toNat < S1088.size a)
theorem k0_idx119_inb : ∀ (v3853 : IVec S16 32) (k0_hw119 : k0_chk119 v3853), ∀ a x, ((![v3853] : Fin 1 → IVec S16 32) a x).toNat < S1088.size a := fun v3853 k0_hw119 => k0_hw119
def k0_off65 (k0_t3 : Fin k0_t3_loop.trips) : Fin 2 → Nat :=
  let c13_i32_1487 : BitVec 32 := 13#32
  let v3856 : Index := Scalar.indexCast c13_i32_1487
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1486 : BitVec 32 := 32#32
  let v3855 : BitVec 32 := Scalar.addi v3473 c32_i32_1486
  let v3857 : Index := Scalar.indexCast v3855
  ![13, v3857.toNat]

def k0_chk120 (v3860 : IVec S16 32) : Prop :=
  (∀ a x, ((![v3860] : Fin 1 → IVec S16 32) a x).toNat < S1088.size a)
theorem k0_idx120_inb : ∀ (v3860 : IVec S16 32) (k0_hw120 : k0_chk120 v3860), ∀ a x, ((![v3860] : Fin 1 → IVec S16 32) a x).toNat < S1088.size a := fun v3860 k0_hw120 => k0_hw120
def k0_off66 (k0_t3 : Fin k0_t3_loop.trips) : Fin 2 → Nat :=
  let c13_i32_1490 : BitVec 32 := 13#32
  let v3863 : Index := Scalar.indexCast c13_i32_1490
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1489 : BitVec 32 := 48#32
  let v3862 : BitVec 32 := Scalar.addi v3473 c48_i32_1489
  let v3864 : Index := Scalar.indexCast v3862
  ![13, v3864.toNat]

def k0_chk121 (v3867 : IVec S16 32) : Prop :=
  (∀ a x, ((![v3867] : Fin 1 → IVec S16 32) a x).toNat < S1088.size a)
theorem k0_idx121_inb : ∀ (v3867 : IVec S16 32) (k0_hw121 : k0_chk121 v3867), ∀ a x, ((![v3867] : Fin 1 → IVec S16 32) a x).toNat < S1088.size a := fun v3867 k0_hw121 => k0_hw121
def k0_off67 (k0_t3 : Fin k0_t3_loop.trips) : Fin 2 → Nat :=
  let c14_i32_1493 : BitVec 32 := 14#32
  let v3870 : Index := Scalar.indexCast c14_i32_1493
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1492 : BitVec 32 := 0#32
  let v3869 : BitVec 32 := Scalar.addi v3473 c0_i32_1492
  let v3871 : Index := Scalar.indexCast v3869
  ![14, v3871.toNat]

def k0_chk122 (v3874 : IVec S16 32) : Prop :=
  (∀ a x, ((![v3874] : Fin 1 → IVec S16 32) a x).toNat < S1088.size a)
theorem k0_idx122_inb : ∀ (v3874 : IVec S16 32) (k0_hw122 : k0_chk122 v3874), ∀ a x, ((![v3874] : Fin 1 → IVec S16 32) a x).toNat < S1088.size a := fun v3874 k0_hw122 => k0_hw122
def k0_off68 (k0_t3 : Fin k0_t3_loop.trips) : Fin 2 → Nat :=
  let c14_i32_1496 : BitVec 32 := 14#32
  let v3877 : Index := Scalar.indexCast c14_i32_1496
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1495 : BitVec 32 := 16#32
  let v3876 : BitVec 32 := Scalar.addi v3473 c16_i32_1495
  let v3878 : Index := Scalar.indexCast v3876
  ![14, v3878.toNat]

def k0_chk123 (v3881 : IVec S16 32) : Prop :=
  (∀ a x, ((![v3881] : Fin 1 → IVec S16 32) a x).toNat < S1088.size a)
theorem k0_idx123_inb : ∀ (v3881 : IVec S16 32) (k0_hw123 : k0_chk123 v3881), ∀ a x, ((![v3881] : Fin 1 → IVec S16 32) a x).toNat < S1088.size a := fun v3881 k0_hw123 => k0_hw123
def k0_off69 (k0_t3 : Fin k0_t3_loop.trips) : Fin 2 → Nat :=
  let c14_i32_1499 : BitVec 32 := 14#32
  let v3884 : Index := Scalar.indexCast c14_i32_1499
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1498 : BitVec 32 := 32#32
  let v3883 : BitVec 32 := Scalar.addi v3473 c32_i32_1498
  let v3885 : Index := Scalar.indexCast v3883
  ![14, v3885.toNat]

def k0_chk124 (v3888 : IVec S16 32) : Prop :=
  (∀ a x, ((![v3888] : Fin 1 → IVec S16 32) a x).toNat < S1088.size a)
theorem k0_idx124_inb : ∀ (v3888 : IVec S16 32) (k0_hw124 : k0_chk124 v3888), ∀ a x, ((![v3888] : Fin 1 → IVec S16 32) a x).toNat < S1088.size a := fun v3888 k0_hw124 => k0_hw124
def k0_off70 (k0_t3 : Fin k0_t3_loop.trips) : Fin 2 → Nat :=
  let c14_i32_1502 : BitVec 32 := 14#32
  let v3891 : Index := Scalar.indexCast c14_i32_1502
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1501 : BitVec 32 := 48#32
  let v3890 : BitVec 32 := Scalar.addi v3473 c48_i32_1501
  let v3892 : Index := Scalar.indexCast v3890
  ![14, v3892.toNat]

def k0_chk125 (v3895 : IVec S16 32) : Prop :=
  (∀ a x, ((![v3895] : Fin 1 → IVec S16 32) a x).toNat < S1088.size a)
theorem k0_idx125_inb : ∀ (v3895 : IVec S16 32) (k0_hw125 : k0_chk125 v3895), ∀ a x, ((![v3895] : Fin 1 → IVec S16 32) a x).toNat < S1088.size a := fun v3895 k0_hw125 => k0_hw125
def k0_off71 (k0_t3 : Fin k0_t3_loop.trips) : Fin 2 → Nat :=
  let c15_i32_1505 : BitVec 32 := 15#32
  let v3898 : Index := Scalar.indexCast c15_i32_1505
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c0_i32_1504 : BitVec 32 := 0#32
  let v3897 : BitVec 32 := Scalar.addi v3473 c0_i32_1504
  let v3899 : Index := Scalar.indexCast v3897
  ![15, v3899.toNat]

def k0_chk126 (v3902 : IVec S16 32) : Prop :=
  (∀ a x, ((![v3902] : Fin 1 → IVec S16 32) a x).toNat < S1088.size a)
theorem k0_idx126_inb : ∀ (v3902 : IVec S16 32) (k0_hw126 : k0_chk126 v3902), ∀ a x, ((![v3902] : Fin 1 → IVec S16 32) a x).toNat < S1088.size a := fun v3902 k0_hw126 => k0_hw126
def k0_off72 (k0_t3 : Fin k0_t3_loop.trips) : Fin 2 → Nat :=
  let c15_i32_1508 : BitVec 32 := 15#32
  let v3905 : Index := Scalar.indexCast c15_i32_1508
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c16_i32_1507 : BitVec 32 := 16#32
  let v3904 : BitVec 32 := Scalar.addi v3473 c16_i32_1507
  let v3906 : Index := Scalar.indexCast v3904
  ![15, v3906.toNat]

def k0_chk127 (v3909 : IVec S16 32) : Prop :=
  (∀ a x, ((![v3909] : Fin 1 → IVec S16 32) a x).toNat < S1088.size a)
theorem k0_idx127_inb : ∀ (v3909 : IVec S16 32) (k0_hw127 : k0_chk127 v3909), ∀ a x, ((![v3909] : Fin 1 → IVec S16 32) a x).toNat < S1088.size a := fun v3909 k0_hw127 => k0_hw127
def k0_off73 (k0_t3 : Fin k0_t3_loop.trips) : Fin 2 → Nat :=
  let c15_i32_1511 : BitVec 32 := 15#32
  let v3912 : Index := Scalar.indexCast c15_i32_1511
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c32_i32_1510 : BitVec 32 := 32#32
  let v3911 : BitVec 32 := Scalar.addi v3473 c32_i32_1510
  let v3913 : Index := Scalar.indexCast v3911
  ![15, v3913.toNat]

def k0_chk128 (v3916 : IVec S16 32) : Prop :=
  (∀ a x, ((![v3916] : Fin 1 → IVec S16 32) a x).toNat < S1088.size a)
theorem k0_idx128_inb : ∀ (v3916 : IVec S16 32) (k0_hw128 : k0_chk128 v3916), ∀ a x, ((![v3916] : Fin 1 → IVec S16 32) a x).toNat < S1088.size a := fun v3916 k0_hw128 => k0_hw128
def k0_off74 (k0_t3 : Fin k0_t3_loop.trips) : Fin 2 → Nat :=
  let c15_i32_1514 : BitVec 32 := 15#32
  let v3919 : Index := Scalar.indexCast c15_i32_1514
  let c2_i32_926 : BitVec 32 := 2#32
  let c0_i32_918 : BitVec 32 := 0#32
  let c1_i32_919 : BitVec 32 := 1#32
  let arg12 : BitVec 32 := Scf.iv c0_i32_918 c1_i32_919 k0_t3
  let v2355 : BitVec 32 := Scalar.muli c2_i32_926 arg12
  let c1_i32_927 : BitVec 32 := 1#32
  let v2356 : BitVec 32 := Scalar.addi v2355 c1_i32_927
  let c64_i32_1322 : BitVec 32 := 64#32
  let v3473 : BitVec 32 := Scalar.muli v2356 c64_i32_1322
  let c48_i32_1513 : BitVec 32 := 48#32
  let v3918 : BitVec 32 := Scalar.addi v3473 c48_i32_1513
  let v3920 : Index := Scalar.indexCast v3918
  ![15, v3920.toNat]
def k0_off75 (k0_t1 : Fin k0_t1_loop.trips) (k0_t3 : Fin k0_t3_loop.trips) : Fin 1 → Nat :=
  let c4_i32_1515 : BitVec 32 := 4#32
  let c0_i32_918 : BitVec 32 := 0#32
  let c1_i32_919 : BitVec 32 := 1#32
  let arg12 : BitVec 32 := Scf.iv c0_i32_918 c1_i32_919 k0_t3
  let v3922 : BitVec 32 := Scalar.muli c4_i32_1515 arg12
  let c2_i32_1516 : BitVec 32 := 2#32
  let v3923 : BitVec 32 := Scalar.addi v3922 c2_i32_1516
  let c32_i32_1519 : BitVec 32 := 32#32
  let v3926 : BitVec 32 := Scalar.muli v3923 c32_i32_1519
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v3927 : BitVec 32 := Scalar.addi v3926 v16
  let v3928 : Index := Scalar.indexCast v3927
  ![v3928.toNat]
def k0_off76 (k0_t1 : Fin k0_t1_loop.trips) (k0_t3 : Fin k0_t3_loop.trips) : Fin 1 → Nat :=
  let c4_i32_1515 : BitVec 32 := 4#32
  let c0_i32_918 : BitVec 32 := 0#32
  let c1_i32_919 : BitVec 32 := 1#32
  let arg12 : BitVec 32 := Scf.iv c0_i32_918 c1_i32_919 k0_t3
  let v3922 : BitVec 32 := Scalar.muli c4_i32_1515 arg12
  let c2_i32_1516 : BitVec 32 := 2#32
  let v3923 : BitVec 32 := Scalar.addi v3922 c2_i32_1516
  let c32_i32_1520 : BitVec 32 := 32#32
  let v3930 : BitVec 32 := Scalar.muli v3923 c32_i32_1520
  let c32_i32_1521 : BitVec 32 := 32#32
  let v3931 : BitVec 32 := Scalar.addi v3930 c32_i32_1521
  let c0_i32_1 : BitVec 32 := 0#32
  let c1_i32 : BitVec 32 := 1#32
  let arg11 : BitVec 32 := Scf.iv c0_i32_1 c1_i32 k0_t1
  let c16_i32_8 : BitVec 32 := 16#32
  let v16 : BitVec 32 := Scalar.muli arg11 c16_i32_8
  let v3932 : BitVec 32 := Scalar.addi v3931 v16
  let v3933 : Index := Scalar.indexCast v3932
  ![v3933.toNat]
def k0_off77 (k0_t3 : Fin k0_t3_loop.trips) (c0_i32_1523 : BitVec 32) : Fin 1 → Nat :=
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1522 : BitVec 32 := 64#32
  let v3937 : BitVec 32 := Scalar.muli v3925 c64_i32_1522
  let v3938 : BitVec 32 := Scalar.addi v3937 c0_i32_1523
  let v3939 : Index := Scalar.indexCast v3938
  ![v3939.toNat]

def k0_chk129 (v5044 : IVec S16 32) : Prop :=
  (∀ a x, ((![v5044] : Fin 1 → IVec S16 32) a x).toNat < S1088.size a)
theorem k0_idx129_inb : ∀ (v5044 : IVec S16 32) (k0_hw129 : k0_chk129 v5044), ∀ a x, ((![v5044] : Fin 1 → IVec S16 32) a x).toNat < S1088.size a := fun v5044 k0_hw129 => k0_hw129
def k0_off78 (k0_t3 : Fin k0_t3_loop.trips) : Fin 2 → Nat :=
  let c0_i32_1918 : BitVec 32 := 0#32
  let v5047 : Index := Scalar.indexCast c0_i32_1918
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1917 : BitVec 32 := 0#32
  let v5046 : BitVec 32 := Scalar.addi v5042 c0_i32_1917
  let v5048 : Index := Scalar.indexCast v5046
  ![0, v5048.toNat]

def k0_chk130 (v5051 : IVec S16 32) : Prop :=
  (∀ a x, ((![v5051] : Fin 1 → IVec S16 32) a x).toNat < S1088.size a)
theorem k0_idx130_inb : ∀ (v5051 : IVec S16 32) (k0_hw130 : k0_chk130 v5051), ∀ a x, ((![v5051] : Fin 1 → IVec S16 32) a x).toNat < S1088.size a := fun v5051 k0_hw130 => k0_hw130
def k0_off79 (k0_t3 : Fin k0_t3_loop.trips) : Fin 2 → Nat :=
  let c0_i32_1921 : BitVec 32 := 0#32
  let v5054 : Index := Scalar.indexCast c0_i32_1921
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1920 : BitVec 32 := 16#32
  let v5053 : BitVec 32 := Scalar.addi v5042 c16_i32_1920
  let v5055 : Index := Scalar.indexCast v5053
  ![0, v5055.toNat]

def k0_chk131 (v5058 : IVec S16 32) : Prop :=
  (∀ a x, ((![v5058] : Fin 1 → IVec S16 32) a x).toNat < S1088.size a)
theorem k0_idx131_inb : ∀ (v5058 : IVec S16 32) (k0_hw131 : k0_chk131 v5058), ∀ a x, ((![v5058] : Fin 1 → IVec S16 32) a x).toNat < S1088.size a := fun v5058 k0_hw131 => k0_hw131
def k0_off80 (k0_t3 : Fin k0_t3_loop.trips) : Fin 2 → Nat :=
  let c0_i32_1924 : BitVec 32 := 0#32
  let v5061 : Index := Scalar.indexCast c0_i32_1924
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1923 : BitVec 32 := 32#32
  let v5060 : BitVec 32 := Scalar.addi v5042 c32_i32_1923
  let v5062 : Index := Scalar.indexCast v5060
  ![0, v5062.toNat]

def k0_chk132 (v5065 : IVec S16 32) : Prop :=
  (∀ a x, ((![v5065] : Fin 1 → IVec S16 32) a x).toNat < S1088.size a)
theorem k0_idx132_inb : ∀ (v5065 : IVec S16 32) (k0_hw132 : k0_chk132 v5065), ∀ a x, ((![v5065] : Fin 1 → IVec S16 32) a x).toNat < S1088.size a := fun v5065 k0_hw132 => k0_hw132
def k0_off81 (k0_t3 : Fin k0_t3_loop.trips) : Fin 2 → Nat :=
  let c0_i32_1927 : BitVec 32 := 0#32
  let v5068 : Index := Scalar.indexCast c0_i32_1927
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1926 : BitVec 32 := 48#32
  let v5067 : BitVec 32 := Scalar.addi v5042 c48_i32_1926
  let v5069 : Index := Scalar.indexCast v5067
  ![0, v5069.toNat]

def k0_chk133 (v5072 : IVec S16 32) : Prop :=
  (∀ a x, ((![v5072] : Fin 1 → IVec S16 32) a x).toNat < S1088.size a)
theorem k0_idx133_inb : ∀ (v5072 : IVec S16 32) (k0_hw133 : k0_chk133 v5072), ∀ a x, ((![v5072] : Fin 1 → IVec S16 32) a x).toNat < S1088.size a := fun v5072 k0_hw133 => k0_hw133
def k0_off82 (k0_t3 : Fin k0_t3_loop.trips) : Fin 2 → Nat :=
  let c1_i32_1930 : BitVec 32 := 1#32
  let v5075 : Index := Scalar.indexCast c1_i32_1930
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1929 : BitVec 32 := 0#32
  let v5074 : BitVec 32 := Scalar.addi v5042 c0_i32_1929
  let v5076 : Index := Scalar.indexCast v5074
  ![1, v5076.toNat]

def k0_chk134 (v5079 : IVec S16 32) : Prop :=
  (∀ a x, ((![v5079] : Fin 1 → IVec S16 32) a x).toNat < S1088.size a)
theorem k0_idx134_inb : ∀ (v5079 : IVec S16 32) (k0_hw134 : k0_chk134 v5079), ∀ a x, ((![v5079] : Fin 1 → IVec S16 32) a x).toNat < S1088.size a := fun v5079 k0_hw134 => k0_hw134
def k0_off83 (k0_t3 : Fin k0_t3_loop.trips) : Fin 2 → Nat :=
  let c1_i32_1933 : BitVec 32 := 1#32
  let v5082 : Index := Scalar.indexCast c1_i32_1933
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1932 : BitVec 32 := 16#32
  let v5081 : BitVec 32 := Scalar.addi v5042 c16_i32_1932
  let v5083 : Index := Scalar.indexCast v5081
  ![1, v5083.toNat]

def k0_chk135 (v5086 : IVec S16 32) : Prop :=
  (∀ a x, ((![v5086] : Fin 1 → IVec S16 32) a x).toNat < S1088.size a)
theorem k0_idx135_inb : ∀ (v5086 : IVec S16 32) (k0_hw135 : k0_chk135 v5086), ∀ a x, ((![v5086] : Fin 1 → IVec S16 32) a x).toNat < S1088.size a := fun v5086 k0_hw135 => k0_hw135
def k0_off84 (k0_t3 : Fin k0_t3_loop.trips) : Fin 2 → Nat :=
  let c1_i32_1936 : BitVec 32 := 1#32
  let v5089 : Index := Scalar.indexCast c1_i32_1936
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1935 : BitVec 32 := 32#32
  let v5088 : BitVec 32 := Scalar.addi v5042 c32_i32_1935
  let v5090 : Index := Scalar.indexCast v5088
  ![1, v5090.toNat]

def k0_chk136 (v5093 : IVec S16 32) : Prop :=
  (∀ a x, ((![v5093] : Fin 1 → IVec S16 32) a x).toNat < S1088.size a)
theorem k0_idx136_inb : ∀ (v5093 : IVec S16 32) (k0_hw136 : k0_chk136 v5093), ∀ a x, ((![v5093] : Fin 1 → IVec S16 32) a x).toNat < S1088.size a := fun v5093 k0_hw136 => k0_hw136
def k0_off85 (k0_t3 : Fin k0_t3_loop.trips) : Fin 2 → Nat :=
  let c1_i32_1939 : BitVec 32 := 1#32
  let v5096 : Index := Scalar.indexCast c1_i32_1939
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1938 : BitVec 32 := 48#32
  let v5095 : BitVec 32 := Scalar.addi v5042 c48_i32_1938
  let v5097 : Index := Scalar.indexCast v5095
  ![1, v5097.toNat]

def k0_chk137 (v5100 : IVec S16 32) : Prop :=
  (∀ a x, ((![v5100] : Fin 1 → IVec S16 32) a x).toNat < S1088.size a)
theorem k0_idx137_inb : ∀ (v5100 : IVec S16 32) (k0_hw137 : k0_chk137 v5100), ∀ a x, ((![v5100] : Fin 1 → IVec S16 32) a x).toNat < S1088.size a := fun v5100 k0_hw137 => k0_hw137
def k0_off86 (k0_t3 : Fin k0_t3_loop.trips) : Fin 2 → Nat :=
  let c2_i32_1942 : BitVec 32 := 2#32
  let v5103 : Index := Scalar.indexCast c2_i32_1942
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1941 : BitVec 32 := 0#32
  let v5102 : BitVec 32 := Scalar.addi v5042 c0_i32_1941
  let v5104 : Index := Scalar.indexCast v5102
  ![2, v5104.toNat]

def k0_chk138 (v5107 : IVec S16 32) : Prop :=
  (∀ a x, ((![v5107] : Fin 1 → IVec S16 32) a x).toNat < S1088.size a)
theorem k0_idx138_inb : ∀ (v5107 : IVec S16 32) (k0_hw138 : k0_chk138 v5107), ∀ a x, ((![v5107] : Fin 1 → IVec S16 32) a x).toNat < S1088.size a := fun v5107 k0_hw138 => k0_hw138
def k0_off87 (k0_t3 : Fin k0_t3_loop.trips) : Fin 2 → Nat :=
  let c2_i32_1945 : BitVec 32 := 2#32
  let v5110 : Index := Scalar.indexCast c2_i32_1945
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1944 : BitVec 32 := 16#32
  let v5109 : BitVec 32 := Scalar.addi v5042 c16_i32_1944
  let v5111 : Index := Scalar.indexCast v5109
  ![2, v5111.toNat]

def k0_chk139 (v5114 : IVec S16 32) : Prop :=
  (∀ a x, ((![v5114] : Fin 1 → IVec S16 32) a x).toNat < S1088.size a)
theorem k0_idx139_inb : ∀ (v5114 : IVec S16 32) (k0_hw139 : k0_chk139 v5114), ∀ a x, ((![v5114] : Fin 1 → IVec S16 32) a x).toNat < S1088.size a := fun v5114 k0_hw139 => k0_hw139
def k0_off88 (k0_t3 : Fin k0_t3_loop.trips) : Fin 2 → Nat :=
  let c2_i32_1948 : BitVec 32 := 2#32
  let v5117 : Index := Scalar.indexCast c2_i32_1948
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1947 : BitVec 32 := 32#32
  let v5116 : BitVec 32 := Scalar.addi v5042 c32_i32_1947
  let v5118 : Index := Scalar.indexCast v5116
  ![2, v5118.toNat]

def k0_chk140 (v5121 : IVec S16 32) : Prop :=
  (∀ a x, ((![v5121] : Fin 1 → IVec S16 32) a x).toNat < S1088.size a)
theorem k0_idx140_inb : ∀ (v5121 : IVec S16 32) (k0_hw140 : k0_chk140 v5121), ∀ a x, ((![v5121] : Fin 1 → IVec S16 32) a x).toNat < S1088.size a := fun v5121 k0_hw140 => k0_hw140
def k0_off89 (k0_t3 : Fin k0_t3_loop.trips) : Fin 2 → Nat :=
  let c2_i32_1951 : BitVec 32 := 2#32
  let v5124 : Index := Scalar.indexCast c2_i32_1951
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1950 : BitVec 32 := 48#32
  let v5123 : BitVec 32 := Scalar.addi v5042 c48_i32_1950
  let v5125 : Index := Scalar.indexCast v5123
  ![2, v5125.toNat]

def k0_chk141 (v5128 : IVec S16 32) : Prop :=
  (∀ a x, ((![v5128] : Fin 1 → IVec S16 32) a x).toNat < S1088.size a)
theorem k0_idx141_inb : ∀ (v5128 : IVec S16 32) (k0_hw141 : k0_chk141 v5128), ∀ a x, ((![v5128] : Fin 1 → IVec S16 32) a x).toNat < S1088.size a := fun v5128 k0_hw141 => k0_hw141
def k0_off90 (k0_t3 : Fin k0_t3_loop.trips) : Fin 2 → Nat :=
  let c3_i32_1954 : BitVec 32 := 3#32
  let v5131 : Index := Scalar.indexCast c3_i32_1954
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1953 : BitVec 32 := 0#32
  let v5130 : BitVec 32 := Scalar.addi v5042 c0_i32_1953
  let v5132 : Index := Scalar.indexCast v5130
  ![3, v5132.toNat]

def k0_chk142 (v5135 : IVec S16 32) : Prop :=
  (∀ a x, ((![v5135] : Fin 1 → IVec S16 32) a x).toNat < S1088.size a)
theorem k0_idx142_inb : ∀ (v5135 : IVec S16 32) (k0_hw142 : k0_chk142 v5135), ∀ a x, ((![v5135] : Fin 1 → IVec S16 32) a x).toNat < S1088.size a := fun v5135 k0_hw142 => k0_hw142
def k0_off91 (k0_t3 : Fin k0_t3_loop.trips) : Fin 2 → Nat :=
  let c3_i32_1957 : BitVec 32 := 3#32
  let v5138 : Index := Scalar.indexCast c3_i32_1957
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1956 : BitVec 32 := 16#32
  let v5137 : BitVec 32 := Scalar.addi v5042 c16_i32_1956
  let v5139 : Index := Scalar.indexCast v5137
  ![3, v5139.toNat]

def k0_chk143 (v5142 : IVec S16 32) : Prop :=
  (∀ a x, ((![v5142] : Fin 1 → IVec S16 32) a x).toNat < S1088.size a)
theorem k0_idx143_inb : ∀ (v5142 : IVec S16 32) (k0_hw143 : k0_chk143 v5142), ∀ a x, ((![v5142] : Fin 1 → IVec S16 32) a x).toNat < S1088.size a := fun v5142 k0_hw143 => k0_hw143
def k0_off92 (k0_t3 : Fin k0_t3_loop.trips) : Fin 2 → Nat :=
  let c3_i32_1960 : BitVec 32 := 3#32
  let v5145 : Index := Scalar.indexCast c3_i32_1960
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1959 : BitVec 32 := 32#32
  let v5144 : BitVec 32 := Scalar.addi v5042 c32_i32_1959
  let v5146 : Index := Scalar.indexCast v5144
  ![3, v5146.toNat]

def k0_chk144 (v5149 : IVec S16 32) : Prop :=
  (∀ a x, ((![v5149] : Fin 1 → IVec S16 32) a x).toNat < S1088.size a)
theorem k0_idx144_inb : ∀ (v5149 : IVec S16 32) (k0_hw144 : k0_chk144 v5149), ∀ a x, ((![v5149] : Fin 1 → IVec S16 32) a x).toNat < S1088.size a := fun v5149 k0_hw144 => k0_hw144
def k0_off93 (k0_t3 : Fin k0_t3_loop.trips) : Fin 2 → Nat :=
  let c3_i32_1963 : BitVec 32 := 3#32
  let v5152 : Index := Scalar.indexCast c3_i32_1963
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1962 : BitVec 32 := 48#32
  let v5151 : BitVec 32 := Scalar.addi v5042 c48_i32_1962
  let v5153 : Index := Scalar.indexCast v5151
  ![3, v5153.toNat]

def k0_chk145 (v5156 : IVec S16 32) : Prop :=
  (∀ a x, ((![v5156] : Fin 1 → IVec S16 32) a x).toNat < S1088.size a)
theorem k0_idx145_inb : ∀ (v5156 : IVec S16 32) (k0_hw145 : k0_chk145 v5156), ∀ a x, ((![v5156] : Fin 1 → IVec S16 32) a x).toNat < S1088.size a := fun v5156 k0_hw145 => k0_hw145
def k0_off94 (k0_t3 : Fin k0_t3_loop.trips) : Fin 2 → Nat :=
  let c4_i32_1966 : BitVec 32 := 4#32
  let v5159 : Index := Scalar.indexCast c4_i32_1966
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1965 : BitVec 32 := 0#32
  let v5158 : BitVec 32 := Scalar.addi v5042 c0_i32_1965
  let v5160 : Index := Scalar.indexCast v5158
  ![4, v5160.toNat]

def k0_chk146 (v5163 : IVec S16 32) : Prop :=
  (∀ a x, ((![v5163] : Fin 1 → IVec S16 32) a x).toNat < S1088.size a)
theorem k0_idx146_inb : ∀ (v5163 : IVec S16 32) (k0_hw146 : k0_chk146 v5163), ∀ a x, ((![v5163] : Fin 1 → IVec S16 32) a x).toNat < S1088.size a := fun v5163 k0_hw146 => k0_hw146
def k0_off95 (k0_t3 : Fin k0_t3_loop.trips) : Fin 2 → Nat :=
  let c4_i32_1969 : BitVec 32 := 4#32
  let v5166 : Index := Scalar.indexCast c4_i32_1969
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1968 : BitVec 32 := 16#32
  let v5165 : BitVec 32 := Scalar.addi v5042 c16_i32_1968
  let v5167 : Index := Scalar.indexCast v5165
  ![4, v5167.toNat]

def k0_chk147 (v5170 : IVec S16 32) : Prop :=
  (∀ a x, ((![v5170] : Fin 1 → IVec S16 32) a x).toNat < S1088.size a)
theorem k0_idx147_inb : ∀ (v5170 : IVec S16 32) (k0_hw147 : k0_chk147 v5170), ∀ a x, ((![v5170] : Fin 1 → IVec S16 32) a x).toNat < S1088.size a := fun v5170 k0_hw147 => k0_hw147
def k0_off96 (k0_t3 : Fin k0_t3_loop.trips) : Fin 2 → Nat :=
  let c4_i32_1972 : BitVec 32 := 4#32
  let v5173 : Index := Scalar.indexCast c4_i32_1972
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1971 : BitVec 32 := 32#32
  let v5172 : BitVec 32 := Scalar.addi v5042 c32_i32_1971
  let v5174 : Index := Scalar.indexCast v5172
  ![4, v5174.toNat]

def k0_chk148 (v5177 : IVec S16 32) : Prop :=
  (∀ a x, ((![v5177] : Fin 1 → IVec S16 32) a x).toNat < S1088.size a)
theorem k0_idx148_inb : ∀ (v5177 : IVec S16 32) (k0_hw148 : k0_chk148 v5177), ∀ a x, ((![v5177] : Fin 1 → IVec S16 32) a x).toNat < S1088.size a := fun v5177 k0_hw148 => k0_hw148
def k0_off97 (k0_t3 : Fin k0_t3_loop.trips) : Fin 2 → Nat :=
  let c4_i32_1975 : BitVec 32 := 4#32
  let v5180 : Index := Scalar.indexCast c4_i32_1975
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1974 : BitVec 32 := 48#32
  let v5179 : BitVec 32 := Scalar.addi v5042 c48_i32_1974
  let v5181 : Index := Scalar.indexCast v5179
  ![4, v5181.toNat]

def k0_chk149 (v5184 : IVec S16 32) : Prop :=
  (∀ a x, ((![v5184] : Fin 1 → IVec S16 32) a x).toNat < S1088.size a)
theorem k0_idx149_inb : ∀ (v5184 : IVec S16 32) (k0_hw149 : k0_chk149 v5184), ∀ a x, ((![v5184] : Fin 1 → IVec S16 32) a x).toNat < S1088.size a := fun v5184 k0_hw149 => k0_hw149
def k0_off98 (k0_t3 : Fin k0_t3_loop.trips) : Fin 2 → Nat :=
  let c5_i32_1978 : BitVec 32 := 5#32
  let v5187 : Index := Scalar.indexCast c5_i32_1978
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1977 : BitVec 32 := 0#32
  let v5186 : BitVec 32 := Scalar.addi v5042 c0_i32_1977
  let v5188 : Index := Scalar.indexCast v5186
  ![5, v5188.toNat]

def k0_chk150 (v5191 : IVec S16 32) : Prop :=
  (∀ a x, ((![v5191] : Fin 1 → IVec S16 32) a x).toNat < S1088.size a)
theorem k0_idx150_inb : ∀ (v5191 : IVec S16 32) (k0_hw150 : k0_chk150 v5191), ∀ a x, ((![v5191] : Fin 1 → IVec S16 32) a x).toNat < S1088.size a := fun v5191 k0_hw150 => k0_hw150
def k0_off99 (k0_t3 : Fin k0_t3_loop.trips) : Fin 2 → Nat :=
  let c5_i32_1981 : BitVec 32 := 5#32
  let v5194 : Index := Scalar.indexCast c5_i32_1981
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1980 : BitVec 32 := 16#32
  let v5193 : BitVec 32 := Scalar.addi v5042 c16_i32_1980
  let v5195 : Index := Scalar.indexCast v5193
  ![5, v5195.toNat]

def k0_chk151 (v5198 : IVec S16 32) : Prop :=
  (∀ a x, ((![v5198] : Fin 1 → IVec S16 32) a x).toNat < S1088.size a)
theorem k0_idx151_inb : ∀ (v5198 : IVec S16 32) (k0_hw151 : k0_chk151 v5198), ∀ a x, ((![v5198] : Fin 1 → IVec S16 32) a x).toNat < S1088.size a := fun v5198 k0_hw151 => k0_hw151
def k0_off100 (k0_t3 : Fin k0_t3_loop.trips) : Fin 2 → Nat :=
  let c5_i32_1984 : BitVec 32 := 5#32
  let v5201 : Index := Scalar.indexCast c5_i32_1984
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1983 : BitVec 32 := 32#32
  let v5200 : BitVec 32 := Scalar.addi v5042 c32_i32_1983
  let v5202 : Index := Scalar.indexCast v5200
  ![5, v5202.toNat]

def k0_chk152 (v5205 : IVec S16 32) : Prop :=
  (∀ a x, ((![v5205] : Fin 1 → IVec S16 32) a x).toNat < S1088.size a)
theorem k0_idx152_inb : ∀ (v5205 : IVec S16 32) (k0_hw152 : k0_chk152 v5205), ∀ a x, ((![v5205] : Fin 1 → IVec S16 32) a x).toNat < S1088.size a := fun v5205 k0_hw152 => k0_hw152
def k0_off101 (k0_t3 : Fin k0_t3_loop.trips) : Fin 2 → Nat :=
  let c5_i32_1987 : BitVec 32 := 5#32
  let v5208 : Index := Scalar.indexCast c5_i32_1987
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1986 : BitVec 32 := 48#32
  let v5207 : BitVec 32 := Scalar.addi v5042 c48_i32_1986
  let v5209 : Index := Scalar.indexCast v5207
  ![5, v5209.toNat]

def k0_chk153 (v5212 : IVec S16 32) : Prop :=
  (∀ a x, ((![v5212] : Fin 1 → IVec S16 32) a x).toNat < S1088.size a)
theorem k0_idx153_inb : ∀ (v5212 : IVec S16 32) (k0_hw153 : k0_chk153 v5212), ∀ a x, ((![v5212] : Fin 1 → IVec S16 32) a x).toNat < S1088.size a := fun v5212 k0_hw153 => k0_hw153
def k0_off102 (k0_t3 : Fin k0_t3_loop.trips) : Fin 2 → Nat :=
  let c6_i32_1990 : BitVec 32 := 6#32
  let v5215 : Index := Scalar.indexCast c6_i32_1990
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_1989 : BitVec 32 := 0#32
  let v5214 : BitVec 32 := Scalar.addi v5042 c0_i32_1989
  let v5216 : Index := Scalar.indexCast v5214
  ![6, v5216.toNat]

def k0_chk154 (v5219 : IVec S16 32) : Prop :=
  (∀ a x, ((![v5219] : Fin 1 → IVec S16 32) a x).toNat < S1088.size a)
theorem k0_idx154_inb : ∀ (v5219 : IVec S16 32) (k0_hw154 : k0_chk154 v5219), ∀ a x, ((![v5219] : Fin 1 → IVec S16 32) a x).toNat < S1088.size a := fun v5219 k0_hw154 => k0_hw154
def k0_off103 (k0_t3 : Fin k0_t3_loop.trips) : Fin 2 → Nat :=
  let c6_i32_1993 : BitVec 32 := 6#32
  let v5222 : Index := Scalar.indexCast c6_i32_1993
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_1992 : BitVec 32 := 16#32
  let v5221 : BitVec 32 := Scalar.addi v5042 c16_i32_1992
  let v5223 : Index := Scalar.indexCast v5221
  ![6, v5223.toNat]

def k0_chk155 (v5226 : IVec S16 32) : Prop :=
  (∀ a x, ((![v5226] : Fin 1 → IVec S16 32) a x).toNat < S1088.size a)
theorem k0_idx155_inb : ∀ (v5226 : IVec S16 32) (k0_hw155 : k0_chk155 v5226), ∀ a x, ((![v5226] : Fin 1 → IVec S16 32) a x).toNat < S1088.size a := fun v5226 k0_hw155 => k0_hw155
def k0_off104 (k0_t3 : Fin k0_t3_loop.trips) : Fin 2 → Nat :=
  let c6_i32_1996 : BitVec 32 := 6#32
  let v5229 : Index := Scalar.indexCast c6_i32_1996
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_1995 : BitVec 32 := 32#32
  let v5228 : BitVec 32 := Scalar.addi v5042 c32_i32_1995
  let v5230 : Index := Scalar.indexCast v5228
  ![6, v5230.toNat]

def k0_chk156 (v5233 : IVec S16 32) : Prop :=
  (∀ a x, ((![v5233] : Fin 1 → IVec S16 32) a x).toNat < S1088.size a)
theorem k0_idx156_inb : ∀ (v5233 : IVec S16 32) (k0_hw156 : k0_chk156 v5233), ∀ a x, ((![v5233] : Fin 1 → IVec S16 32) a x).toNat < S1088.size a := fun v5233 k0_hw156 => k0_hw156
def k0_off105 (k0_t3 : Fin k0_t3_loop.trips) : Fin 2 → Nat :=
  let c6_i32_1999 : BitVec 32 := 6#32
  let v5236 : Index := Scalar.indexCast c6_i32_1999
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_1998 : BitVec 32 := 48#32
  let v5235 : BitVec 32 := Scalar.addi v5042 c48_i32_1998
  let v5237 : Index := Scalar.indexCast v5235
  ![6, v5237.toNat]

def k0_chk157 (v5240 : IVec S16 32) : Prop :=
  (∀ a x, ((![v5240] : Fin 1 → IVec S16 32) a x).toNat < S1088.size a)
theorem k0_idx157_inb : ∀ (v5240 : IVec S16 32) (k0_hw157 : k0_chk157 v5240), ∀ a x, ((![v5240] : Fin 1 → IVec S16 32) a x).toNat < S1088.size a := fun v5240 k0_hw157 => k0_hw157
def k0_off106 (k0_t3 : Fin k0_t3_loop.trips) : Fin 2 → Nat :=
  let c7_i32_2002 : BitVec 32 := 7#32
  let v5243 : Index := Scalar.indexCast c7_i32_2002
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2001 : BitVec 32 := 0#32
  let v5242 : BitVec 32 := Scalar.addi v5042 c0_i32_2001
  let v5244 : Index := Scalar.indexCast v5242
  ![7, v5244.toNat]

def k0_chk158 (v5247 : IVec S16 32) : Prop :=
  (∀ a x, ((![v5247] : Fin 1 → IVec S16 32) a x).toNat < S1088.size a)
theorem k0_idx158_inb : ∀ (v5247 : IVec S16 32) (k0_hw158 : k0_chk158 v5247), ∀ a x, ((![v5247] : Fin 1 → IVec S16 32) a x).toNat < S1088.size a := fun v5247 k0_hw158 => k0_hw158
def k0_off107 (k0_t3 : Fin k0_t3_loop.trips) : Fin 2 → Nat :=
  let c7_i32_2005 : BitVec 32 := 7#32
  let v5250 : Index := Scalar.indexCast c7_i32_2005
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2004 : BitVec 32 := 16#32
  let v5249 : BitVec 32 := Scalar.addi v5042 c16_i32_2004
  let v5251 : Index := Scalar.indexCast v5249
  ![7, v5251.toNat]

def k0_chk159 (v5254 : IVec S16 32) : Prop :=
  (∀ a x, ((![v5254] : Fin 1 → IVec S16 32) a x).toNat < S1088.size a)
theorem k0_idx159_inb : ∀ (v5254 : IVec S16 32) (k0_hw159 : k0_chk159 v5254), ∀ a x, ((![v5254] : Fin 1 → IVec S16 32) a x).toNat < S1088.size a := fun v5254 k0_hw159 => k0_hw159
def k0_off108 (k0_t3 : Fin k0_t3_loop.trips) : Fin 2 → Nat :=
  let c7_i32_2008 : BitVec 32 := 7#32
  let v5257 : Index := Scalar.indexCast c7_i32_2008
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2007 : BitVec 32 := 32#32
  let v5256 : BitVec 32 := Scalar.addi v5042 c32_i32_2007
  let v5258 : Index := Scalar.indexCast v5256
  ![7, v5258.toNat]

def k0_chk160 (v5261 : IVec S16 32) : Prop :=
  (∀ a x, ((![v5261] : Fin 1 → IVec S16 32) a x).toNat < S1088.size a)
theorem k0_idx160_inb : ∀ (v5261 : IVec S16 32) (k0_hw160 : k0_chk160 v5261), ∀ a x, ((![v5261] : Fin 1 → IVec S16 32) a x).toNat < S1088.size a := fun v5261 k0_hw160 => k0_hw160
def k0_off109 (k0_t3 : Fin k0_t3_loop.trips) : Fin 2 → Nat :=
  let c7_i32_2011 : BitVec 32 := 7#32
  let v5264 : Index := Scalar.indexCast c7_i32_2011
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2010 : BitVec 32 := 48#32
  let v5263 : BitVec 32 := Scalar.addi v5042 c48_i32_2010
  let v5265 : Index := Scalar.indexCast v5263
  ![7, v5265.toNat]

def k0_chk161 (v5268 : IVec S16 32) : Prop :=
  (∀ a x, ((![v5268] : Fin 1 → IVec S16 32) a x).toNat < S1088.size a)
theorem k0_idx161_inb : ∀ (v5268 : IVec S16 32) (k0_hw161 : k0_chk161 v5268), ∀ a x, ((![v5268] : Fin 1 → IVec S16 32) a x).toNat < S1088.size a := fun v5268 k0_hw161 => k0_hw161
def k0_off110 (k0_t3 : Fin k0_t3_loop.trips) : Fin 2 → Nat :=
  let c8_i32_2014 : BitVec 32 := 8#32
  let v5271 : Index := Scalar.indexCast c8_i32_2014
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2013 : BitVec 32 := 0#32
  let v5270 : BitVec 32 := Scalar.addi v5042 c0_i32_2013
  let v5272 : Index := Scalar.indexCast v5270
  ![8, v5272.toNat]

def k0_chk162 (v5275 : IVec S16 32) : Prop :=
  (∀ a x, ((![v5275] : Fin 1 → IVec S16 32) a x).toNat < S1088.size a)
theorem k0_idx162_inb : ∀ (v5275 : IVec S16 32) (k0_hw162 : k0_chk162 v5275), ∀ a x, ((![v5275] : Fin 1 → IVec S16 32) a x).toNat < S1088.size a := fun v5275 k0_hw162 => k0_hw162
def k0_off111 (k0_t3 : Fin k0_t3_loop.trips) : Fin 2 → Nat :=
  let c8_i32_2017 : BitVec 32 := 8#32
  let v5278 : Index := Scalar.indexCast c8_i32_2017
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2016 : BitVec 32 := 16#32
  let v5277 : BitVec 32 := Scalar.addi v5042 c16_i32_2016
  let v5279 : Index := Scalar.indexCast v5277
  ![8, v5279.toNat]

def k0_chk163 (v5282 : IVec S16 32) : Prop :=
  (∀ a x, ((![v5282] : Fin 1 → IVec S16 32) a x).toNat < S1088.size a)
theorem k0_idx163_inb : ∀ (v5282 : IVec S16 32) (k0_hw163 : k0_chk163 v5282), ∀ a x, ((![v5282] : Fin 1 → IVec S16 32) a x).toNat < S1088.size a := fun v5282 k0_hw163 => k0_hw163
def k0_off112 (k0_t3 : Fin k0_t3_loop.trips) : Fin 2 → Nat :=
  let c8_i32_2020 : BitVec 32 := 8#32
  let v5285 : Index := Scalar.indexCast c8_i32_2020
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2019 : BitVec 32 := 32#32
  let v5284 : BitVec 32 := Scalar.addi v5042 c32_i32_2019
  let v5286 : Index := Scalar.indexCast v5284
  ![8, v5286.toNat]

def k0_chk164 (v5289 : IVec S16 32) : Prop :=
  (∀ a x, ((![v5289] : Fin 1 → IVec S16 32) a x).toNat < S1088.size a)
theorem k0_idx164_inb : ∀ (v5289 : IVec S16 32) (k0_hw164 : k0_chk164 v5289), ∀ a x, ((![v5289] : Fin 1 → IVec S16 32) a x).toNat < S1088.size a := fun v5289 k0_hw164 => k0_hw164
def k0_off113 (k0_t3 : Fin k0_t3_loop.trips) : Fin 2 → Nat :=
  let c8_i32_2023 : BitVec 32 := 8#32
  let v5292 : Index := Scalar.indexCast c8_i32_2023
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2022 : BitVec 32 := 48#32
  let v5291 : BitVec 32 := Scalar.addi v5042 c48_i32_2022
  let v5293 : Index := Scalar.indexCast v5291
  ![8, v5293.toNat]

def k0_chk165 (v5296 : IVec S16 32) : Prop :=
  (∀ a x, ((![v5296] : Fin 1 → IVec S16 32) a x).toNat < S1088.size a)
theorem k0_idx165_inb : ∀ (v5296 : IVec S16 32) (k0_hw165 : k0_chk165 v5296), ∀ a x, ((![v5296] : Fin 1 → IVec S16 32) a x).toNat < S1088.size a := fun v5296 k0_hw165 => k0_hw165
def k0_off114 (k0_t3 : Fin k0_t3_loop.trips) : Fin 2 → Nat :=
  let c9_i32_2026 : BitVec 32 := 9#32
  let v5299 : Index := Scalar.indexCast c9_i32_2026
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2025 : BitVec 32 := 0#32
  let v5298 : BitVec 32 := Scalar.addi v5042 c0_i32_2025
  let v5300 : Index := Scalar.indexCast v5298
  ![9, v5300.toNat]

def k0_chk166 (v5303 : IVec S16 32) : Prop :=
  (∀ a x, ((![v5303] : Fin 1 → IVec S16 32) a x).toNat < S1088.size a)
theorem k0_idx166_inb : ∀ (v5303 : IVec S16 32) (k0_hw166 : k0_chk166 v5303), ∀ a x, ((![v5303] : Fin 1 → IVec S16 32) a x).toNat < S1088.size a := fun v5303 k0_hw166 => k0_hw166
def k0_off115 (k0_t3 : Fin k0_t3_loop.trips) : Fin 2 → Nat :=
  let c9_i32_2029 : BitVec 32 := 9#32
  let v5306 : Index := Scalar.indexCast c9_i32_2029
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2028 : BitVec 32 := 16#32
  let v5305 : BitVec 32 := Scalar.addi v5042 c16_i32_2028
  let v5307 : Index := Scalar.indexCast v5305
  ![9, v5307.toNat]

def k0_chk167 (v5310 : IVec S16 32) : Prop :=
  (∀ a x, ((![v5310] : Fin 1 → IVec S16 32) a x).toNat < S1088.size a)
theorem k0_idx167_inb : ∀ (v5310 : IVec S16 32) (k0_hw167 : k0_chk167 v5310), ∀ a x, ((![v5310] : Fin 1 → IVec S16 32) a x).toNat < S1088.size a := fun v5310 k0_hw167 => k0_hw167
def k0_off116 (k0_t3 : Fin k0_t3_loop.trips) : Fin 2 → Nat :=
  let c9_i32_2032 : BitVec 32 := 9#32
  let v5313 : Index := Scalar.indexCast c9_i32_2032
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2031 : BitVec 32 := 32#32
  let v5312 : BitVec 32 := Scalar.addi v5042 c32_i32_2031
  let v5314 : Index := Scalar.indexCast v5312
  ![9, v5314.toNat]

def k0_chk168 (v5317 : IVec S16 32) : Prop :=
  (∀ a x, ((![v5317] : Fin 1 → IVec S16 32) a x).toNat < S1088.size a)
theorem k0_idx168_inb : ∀ (v5317 : IVec S16 32) (k0_hw168 : k0_chk168 v5317), ∀ a x, ((![v5317] : Fin 1 → IVec S16 32) a x).toNat < S1088.size a := fun v5317 k0_hw168 => k0_hw168
def k0_off117 (k0_t3 : Fin k0_t3_loop.trips) : Fin 2 → Nat :=
  let c9_i32_2035 : BitVec 32 := 9#32
  let v5320 : Index := Scalar.indexCast c9_i32_2035
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2034 : BitVec 32 := 48#32
  let v5319 : BitVec 32 := Scalar.addi v5042 c48_i32_2034
  let v5321 : Index := Scalar.indexCast v5319
  ![9, v5321.toNat]

def k0_chk169 (v5324 : IVec S16 32) : Prop :=
  (∀ a x, ((![v5324] : Fin 1 → IVec S16 32) a x).toNat < S1088.size a)
theorem k0_idx169_inb : ∀ (v5324 : IVec S16 32) (k0_hw169 : k0_chk169 v5324), ∀ a x, ((![v5324] : Fin 1 → IVec S16 32) a x).toNat < S1088.size a := fun v5324 k0_hw169 => k0_hw169
def k0_off118 (k0_t3 : Fin k0_t3_loop.trips) : Fin 2 → Nat :=
  let c10_i32_2038 : BitVec 32 := 10#32
  let v5327 : Index := Scalar.indexCast c10_i32_2038
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2037 : BitVec 32 := 0#32
  let v5326 : BitVec 32 := Scalar.addi v5042 c0_i32_2037
  let v5328 : Index := Scalar.indexCast v5326
  ![10, v5328.toNat]

def k0_chk170 (v5331 : IVec S16 32) : Prop :=
  (∀ a x, ((![v5331] : Fin 1 → IVec S16 32) a x).toNat < S1088.size a)
theorem k0_idx170_inb : ∀ (v5331 : IVec S16 32) (k0_hw170 : k0_chk170 v5331), ∀ a x, ((![v5331] : Fin 1 → IVec S16 32) a x).toNat < S1088.size a := fun v5331 k0_hw170 => k0_hw170
def k0_off119 (k0_t3 : Fin k0_t3_loop.trips) : Fin 2 → Nat :=
  let c10_i32_2041 : BitVec 32 := 10#32
  let v5334 : Index := Scalar.indexCast c10_i32_2041
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2040 : BitVec 32 := 16#32
  let v5333 : BitVec 32 := Scalar.addi v5042 c16_i32_2040
  let v5335 : Index := Scalar.indexCast v5333
  ![10, v5335.toNat]

def k0_chk171 (v5338 : IVec S16 32) : Prop :=
  (∀ a x, ((![v5338] : Fin 1 → IVec S16 32) a x).toNat < S1088.size a)
theorem k0_idx171_inb : ∀ (v5338 : IVec S16 32) (k0_hw171 : k0_chk171 v5338), ∀ a x, ((![v5338] : Fin 1 → IVec S16 32) a x).toNat < S1088.size a := fun v5338 k0_hw171 => k0_hw171
def k0_off120 (k0_t3 : Fin k0_t3_loop.trips) : Fin 2 → Nat :=
  let c10_i32_2044 : BitVec 32 := 10#32
  let v5341 : Index := Scalar.indexCast c10_i32_2044
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2043 : BitVec 32 := 32#32
  let v5340 : BitVec 32 := Scalar.addi v5042 c32_i32_2043
  let v5342 : Index := Scalar.indexCast v5340
  ![10, v5342.toNat]

def k0_chk172 (v5345 : IVec S16 32) : Prop :=
  (∀ a x, ((![v5345] : Fin 1 → IVec S16 32) a x).toNat < S1088.size a)
theorem k0_idx172_inb : ∀ (v5345 : IVec S16 32) (k0_hw172 : k0_chk172 v5345), ∀ a x, ((![v5345] : Fin 1 → IVec S16 32) a x).toNat < S1088.size a := fun v5345 k0_hw172 => k0_hw172
def k0_off121 (k0_t3 : Fin k0_t3_loop.trips) : Fin 2 → Nat :=
  let c10_i32_2047 : BitVec 32 := 10#32
  let v5348 : Index := Scalar.indexCast c10_i32_2047
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2046 : BitVec 32 := 48#32
  let v5347 : BitVec 32 := Scalar.addi v5042 c48_i32_2046
  let v5349 : Index := Scalar.indexCast v5347
  ![10, v5349.toNat]

def k0_chk173 (v5352 : IVec S16 32) : Prop :=
  (∀ a x, ((![v5352] : Fin 1 → IVec S16 32) a x).toNat < S1088.size a)
theorem k0_idx173_inb : ∀ (v5352 : IVec S16 32) (k0_hw173 : k0_chk173 v5352), ∀ a x, ((![v5352] : Fin 1 → IVec S16 32) a x).toNat < S1088.size a := fun v5352 k0_hw173 => k0_hw173
def k0_off122 (k0_t3 : Fin k0_t3_loop.trips) : Fin 2 → Nat :=
  let c11_i32_2050 : BitVec 32 := 11#32
  let v5355 : Index := Scalar.indexCast c11_i32_2050
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2049 : BitVec 32 := 0#32
  let v5354 : BitVec 32 := Scalar.addi v5042 c0_i32_2049
  let v5356 : Index := Scalar.indexCast v5354
  ![11, v5356.toNat]

def k0_chk174 (v5359 : IVec S16 32) : Prop :=
  (∀ a x, ((![v5359] : Fin 1 → IVec S16 32) a x).toNat < S1088.size a)
theorem k0_idx174_inb : ∀ (v5359 : IVec S16 32) (k0_hw174 : k0_chk174 v5359), ∀ a x, ((![v5359] : Fin 1 → IVec S16 32) a x).toNat < S1088.size a := fun v5359 k0_hw174 => k0_hw174
def k0_off123 (k0_t3 : Fin k0_t3_loop.trips) : Fin 2 → Nat :=
  let c11_i32_2053 : BitVec 32 := 11#32
  let v5362 : Index := Scalar.indexCast c11_i32_2053
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2052 : BitVec 32 := 16#32
  let v5361 : BitVec 32 := Scalar.addi v5042 c16_i32_2052
  let v5363 : Index := Scalar.indexCast v5361
  ![11, v5363.toNat]

def k0_chk175 (v5366 : IVec S16 32) : Prop :=
  (∀ a x, ((![v5366] : Fin 1 → IVec S16 32) a x).toNat < S1088.size a)
theorem k0_idx175_inb : ∀ (v5366 : IVec S16 32) (k0_hw175 : k0_chk175 v5366), ∀ a x, ((![v5366] : Fin 1 → IVec S16 32) a x).toNat < S1088.size a := fun v5366 k0_hw175 => k0_hw175
def k0_off124 (k0_t3 : Fin k0_t3_loop.trips) : Fin 2 → Nat :=
  let c11_i32_2056 : BitVec 32 := 11#32
  let v5369 : Index := Scalar.indexCast c11_i32_2056
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2055 : BitVec 32 := 32#32
  let v5368 : BitVec 32 := Scalar.addi v5042 c32_i32_2055
  let v5370 : Index := Scalar.indexCast v5368
  ![11, v5370.toNat]

def k0_chk176 (v5373 : IVec S16 32) : Prop :=
  (∀ a x, ((![v5373] : Fin 1 → IVec S16 32) a x).toNat < S1088.size a)
theorem k0_idx176_inb : ∀ (v5373 : IVec S16 32) (k0_hw176 : k0_chk176 v5373), ∀ a x, ((![v5373] : Fin 1 → IVec S16 32) a x).toNat < S1088.size a := fun v5373 k0_hw176 => k0_hw176
def k0_off125 (k0_t3 : Fin k0_t3_loop.trips) : Fin 2 → Nat :=
  let c11_i32_2059 : BitVec 32 := 11#32
  let v5376 : Index := Scalar.indexCast c11_i32_2059
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2058 : BitVec 32 := 48#32
  let v5375 : BitVec 32 := Scalar.addi v5042 c48_i32_2058
  let v5377 : Index := Scalar.indexCast v5375
  ![11, v5377.toNat]

def k0_chk177 (v5380 : IVec S16 32) : Prop :=
  (∀ a x, ((![v5380] : Fin 1 → IVec S16 32) a x).toNat < S1088.size a)
theorem k0_idx177_inb : ∀ (v5380 : IVec S16 32) (k0_hw177 : k0_chk177 v5380), ∀ a x, ((![v5380] : Fin 1 → IVec S16 32) a x).toNat < S1088.size a := fun v5380 k0_hw177 => k0_hw177
def k0_off126 (k0_t3 : Fin k0_t3_loop.trips) : Fin 2 → Nat :=
  let c12_i32_2062 : BitVec 32 := 12#32
  let v5383 : Index := Scalar.indexCast c12_i32_2062
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2061 : BitVec 32 := 0#32
  let v5382 : BitVec 32 := Scalar.addi v5042 c0_i32_2061
  let v5384 : Index := Scalar.indexCast v5382
  ![12, v5384.toNat]

def k0_chk178 (v5387 : IVec S16 32) : Prop :=
  (∀ a x, ((![v5387] : Fin 1 → IVec S16 32) a x).toNat < S1088.size a)
theorem k0_idx178_inb : ∀ (v5387 : IVec S16 32) (k0_hw178 : k0_chk178 v5387), ∀ a x, ((![v5387] : Fin 1 → IVec S16 32) a x).toNat < S1088.size a := fun v5387 k0_hw178 => k0_hw178
def k0_off127 (k0_t3 : Fin k0_t3_loop.trips) : Fin 2 → Nat :=
  let c12_i32_2065 : BitVec 32 := 12#32
  let v5390 : Index := Scalar.indexCast c12_i32_2065
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2064 : BitVec 32 := 16#32
  let v5389 : BitVec 32 := Scalar.addi v5042 c16_i32_2064
  let v5391 : Index := Scalar.indexCast v5389
  ![12, v5391.toNat]

def k0_chk179 (v5394 : IVec S16 32) : Prop :=
  (∀ a x, ((![v5394] : Fin 1 → IVec S16 32) a x).toNat < S1088.size a)
theorem k0_idx179_inb : ∀ (v5394 : IVec S16 32) (k0_hw179 : k0_chk179 v5394), ∀ a x, ((![v5394] : Fin 1 → IVec S16 32) a x).toNat < S1088.size a := fun v5394 k0_hw179 => k0_hw179
def k0_off128 (k0_t3 : Fin k0_t3_loop.trips) : Fin 2 → Nat :=
  let c12_i32_2068 : BitVec 32 := 12#32
  let v5397 : Index := Scalar.indexCast c12_i32_2068
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2067 : BitVec 32 := 32#32
  let v5396 : BitVec 32 := Scalar.addi v5042 c32_i32_2067
  let v5398 : Index := Scalar.indexCast v5396
  ![12, v5398.toNat]

def k0_chk180 (v5401 : IVec S16 32) : Prop :=
  (∀ a x, ((![v5401] : Fin 1 → IVec S16 32) a x).toNat < S1088.size a)
theorem k0_idx180_inb : ∀ (v5401 : IVec S16 32) (k0_hw180 : k0_chk180 v5401), ∀ a x, ((![v5401] : Fin 1 → IVec S16 32) a x).toNat < S1088.size a := fun v5401 k0_hw180 => k0_hw180
def k0_off129 (k0_t3 : Fin k0_t3_loop.trips) : Fin 2 → Nat :=
  let c12_i32_2071 : BitVec 32 := 12#32
  let v5404 : Index := Scalar.indexCast c12_i32_2071
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2070 : BitVec 32 := 48#32
  let v5403 : BitVec 32 := Scalar.addi v5042 c48_i32_2070
  let v5405 : Index := Scalar.indexCast v5403
  ![12, v5405.toNat]

def k0_chk181 (v5408 : IVec S16 32) : Prop :=
  (∀ a x, ((![v5408] : Fin 1 → IVec S16 32) a x).toNat < S1088.size a)
theorem k0_idx181_inb : ∀ (v5408 : IVec S16 32) (k0_hw181 : k0_chk181 v5408), ∀ a x, ((![v5408] : Fin 1 → IVec S16 32) a x).toNat < S1088.size a := fun v5408 k0_hw181 => k0_hw181
def k0_off130 (k0_t3 : Fin k0_t3_loop.trips) : Fin 2 → Nat :=
  let c13_i32_2074 : BitVec 32 := 13#32
  let v5411 : Index := Scalar.indexCast c13_i32_2074
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2073 : BitVec 32 := 0#32
  let v5410 : BitVec 32 := Scalar.addi v5042 c0_i32_2073
  let v5412 : Index := Scalar.indexCast v5410
  ![13, v5412.toNat]

def k0_chk182 (v5415 : IVec S16 32) : Prop :=
  (∀ a x, ((![v5415] : Fin 1 → IVec S16 32) a x).toNat < S1088.size a)
theorem k0_idx182_inb : ∀ (v5415 : IVec S16 32) (k0_hw182 : k0_chk182 v5415), ∀ a x, ((![v5415] : Fin 1 → IVec S16 32) a x).toNat < S1088.size a := fun v5415 k0_hw182 => k0_hw182
def k0_off131 (k0_t3 : Fin k0_t3_loop.trips) : Fin 2 → Nat :=
  let c13_i32_2077 : BitVec 32 := 13#32
  let v5418 : Index := Scalar.indexCast c13_i32_2077
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2076 : BitVec 32 := 16#32
  let v5417 : BitVec 32 := Scalar.addi v5042 c16_i32_2076
  let v5419 : Index := Scalar.indexCast v5417
  ![13, v5419.toNat]

def k0_chk183 (v5422 : IVec S16 32) : Prop :=
  (∀ a x, ((![v5422] : Fin 1 → IVec S16 32) a x).toNat < S1088.size a)
theorem k0_idx183_inb : ∀ (v5422 : IVec S16 32) (k0_hw183 : k0_chk183 v5422), ∀ a x, ((![v5422] : Fin 1 → IVec S16 32) a x).toNat < S1088.size a := fun v5422 k0_hw183 => k0_hw183
def k0_off132 (k0_t3 : Fin k0_t3_loop.trips) : Fin 2 → Nat :=
  let c13_i32_2080 : BitVec 32 := 13#32
  let v5425 : Index := Scalar.indexCast c13_i32_2080
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2079 : BitVec 32 := 32#32
  let v5424 : BitVec 32 := Scalar.addi v5042 c32_i32_2079
  let v5426 : Index := Scalar.indexCast v5424
  ![13, v5426.toNat]

def k0_chk184 (v5429 : IVec S16 32) : Prop :=
  (∀ a x, ((![v5429] : Fin 1 → IVec S16 32) a x).toNat < S1088.size a)
theorem k0_idx184_inb : ∀ (v5429 : IVec S16 32) (k0_hw184 : k0_chk184 v5429), ∀ a x, ((![v5429] : Fin 1 → IVec S16 32) a x).toNat < S1088.size a := fun v5429 k0_hw184 => k0_hw184
def k0_off133 (k0_t3 : Fin k0_t3_loop.trips) : Fin 2 → Nat :=
  let c13_i32_2083 : BitVec 32 := 13#32
  let v5432 : Index := Scalar.indexCast c13_i32_2083
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2082 : BitVec 32 := 48#32
  let v5431 : BitVec 32 := Scalar.addi v5042 c48_i32_2082
  let v5433 : Index := Scalar.indexCast v5431
  ![13, v5433.toNat]

def k0_chk185 (v5436 : IVec S16 32) : Prop :=
  (∀ a x, ((![v5436] : Fin 1 → IVec S16 32) a x).toNat < S1088.size a)
theorem k0_idx185_inb : ∀ (v5436 : IVec S16 32) (k0_hw185 : k0_chk185 v5436), ∀ a x, ((![v5436] : Fin 1 → IVec S16 32) a x).toNat < S1088.size a := fun v5436 k0_hw185 => k0_hw185
def k0_off134 (k0_t3 : Fin k0_t3_loop.trips) : Fin 2 → Nat :=
  let c14_i32_2086 : BitVec 32 := 14#32
  let v5439 : Index := Scalar.indexCast c14_i32_2086
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2085 : BitVec 32 := 0#32
  let v5438 : BitVec 32 := Scalar.addi v5042 c0_i32_2085
  let v5440 : Index := Scalar.indexCast v5438
  ![14, v5440.toNat]

def k0_chk186 (v5443 : IVec S16 32) : Prop :=
  (∀ a x, ((![v5443] : Fin 1 → IVec S16 32) a x).toNat < S1088.size a)
theorem k0_idx186_inb : ∀ (v5443 : IVec S16 32) (k0_hw186 : k0_chk186 v5443), ∀ a x, ((![v5443] : Fin 1 → IVec S16 32) a x).toNat < S1088.size a := fun v5443 k0_hw186 => k0_hw186
def k0_off135 (k0_t3 : Fin k0_t3_loop.trips) : Fin 2 → Nat :=
  let c14_i32_2089 : BitVec 32 := 14#32
  let v5446 : Index := Scalar.indexCast c14_i32_2089
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2088 : BitVec 32 := 16#32
  let v5445 : BitVec 32 := Scalar.addi v5042 c16_i32_2088
  let v5447 : Index := Scalar.indexCast v5445
  ![14, v5447.toNat]

def k0_chk187 (v5450 : IVec S16 32) : Prop :=
  (∀ a x, ((![v5450] : Fin 1 → IVec S16 32) a x).toNat < S1088.size a)
theorem k0_idx187_inb : ∀ (v5450 : IVec S16 32) (k0_hw187 : k0_chk187 v5450), ∀ a x, ((![v5450] : Fin 1 → IVec S16 32) a x).toNat < S1088.size a := fun v5450 k0_hw187 => k0_hw187
def k0_off136 (k0_t3 : Fin k0_t3_loop.trips) : Fin 2 → Nat :=
  let c14_i32_2092 : BitVec 32 := 14#32
  let v5453 : Index := Scalar.indexCast c14_i32_2092
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2091 : BitVec 32 := 32#32
  let v5452 : BitVec 32 := Scalar.addi v5042 c32_i32_2091
  let v5454 : Index := Scalar.indexCast v5452
  ![14, v5454.toNat]

def k0_chk188 (v5457 : IVec S16 32) : Prop :=
  (∀ a x, ((![v5457] : Fin 1 → IVec S16 32) a x).toNat < S1088.size a)
theorem k0_idx188_inb : ∀ (v5457 : IVec S16 32) (k0_hw188 : k0_chk188 v5457), ∀ a x, ((![v5457] : Fin 1 → IVec S16 32) a x).toNat < S1088.size a := fun v5457 k0_hw188 => k0_hw188
def k0_off137 (k0_t3 : Fin k0_t3_loop.trips) : Fin 2 → Nat :=
  let c14_i32_2095 : BitVec 32 := 14#32
  let v5460 : Index := Scalar.indexCast c14_i32_2095
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2094 : BitVec 32 := 48#32
  let v5459 : BitVec 32 := Scalar.addi v5042 c48_i32_2094
  let v5461 : Index := Scalar.indexCast v5459
  ![14, v5461.toNat]

def k0_chk189 (v5464 : IVec S16 32) : Prop :=
  (∀ a x, ((![v5464] : Fin 1 → IVec S16 32) a x).toNat < S1088.size a)
theorem k0_idx189_inb : ∀ (v5464 : IVec S16 32) (k0_hw189 : k0_chk189 v5464), ∀ a x, ((![v5464] : Fin 1 → IVec S16 32) a x).toNat < S1088.size a := fun v5464 k0_hw189 => k0_hw189
def k0_off138 (k0_t3 : Fin k0_t3_loop.trips) : Fin 2 → Nat :=
  let c15_i32_2098 : BitVec 32 := 15#32
  let v5467 : Index := Scalar.indexCast c15_i32_2098
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c0_i32_2097 : BitVec 32 := 0#32
  let v5466 : BitVec 32 := Scalar.addi v5042 c0_i32_2097
  let v5468 : Index := Scalar.indexCast v5466
  ![15, v5468.toNat]

def k0_chk190 (v5471 : IVec S16 32) : Prop :=
  (∀ a x, ((![v5471] : Fin 1 → IVec S16 32) a x).toNat < S1088.size a)
theorem k0_idx190_inb : ∀ (v5471 : IVec S16 32) (k0_hw190 : k0_chk190 v5471), ∀ a x, ((![v5471] : Fin 1 → IVec S16 32) a x).toNat < S1088.size a := fun v5471 k0_hw190 => k0_hw190
def k0_off139 (k0_t3 : Fin k0_t3_loop.trips) : Fin 2 → Nat :=
  let c15_i32_2101 : BitVec 32 := 15#32
  let v5474 : Index := Scalar.indexCast c15_i32_2101
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c16_i32_2100 : BitVec 32 := 16#32
  let v5473 : BitVec 32 := Scalar.addi v5042 c16_i32_2100
  let v5475 : Index := Scalar.indexCast v5473
  ![15, v5475.toNat]

def k0_chk191 (v5478 : IVec S16 32) : Prop :=
  (∀ a x, ((![v5478] : Fin 1 → IVec S16 32) a x).toNat < S1088.size a)
theorem k0_idx191_inb : ∀ (v5478 : IVec S16 32) (k0_hw191 : k0_chk191 v5478), ∀ a x, ((![v5478] : Fin 1 → IVec S16 32) a x).toNat < S1088.size a := fun v5478 k0_hw191 => k0_hw191
def k0_off140 (k0_t3 : Fin k0_t3_loop.trips) : Fin 2 → Nat :=
  let c15_i32_2104 : BitVec 32 := 15#32
  let v5481 : Index := Scalar.indexCast c15_i32_2104
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c32_i32_2103 : BitVec 32 := 32#32
  let v5480 : BitVec 32 := Scalar.addi v5042 c32_i32_2103
  let v5482 : Index := Scalar.indexCast v5480
  ![15, v5482.toNat]

def k0_chk192 (v5485 : IVec S16 32) : Prop :=
  (∀ a x, ((![v5485] : Fin 1 → IVec S16 32) a x).toNat < S1088.size a)
theorem k0_idx192_inb : ∀ (v5485 : IVec S16 32) (k0_hw192 : k0_chk192 v5485), ∀ a x, ((![v5485] : Fin 1 → IVec S16 32) a x).toNat < S1088.size a := fun v5485 k0_hw192 => k0_hw192
def k0_off141 (k0_t3 : Fin k0_t3_loop.trips) : Fin 2 → Nat :=
  let c15_i32_2107 : BitVec 32 := 15#32
  let v5488 : Index := Scalar.indexCast c15_i32_2107
  let c2_i32_1517 : BitVec 32 := 2#32
  let c0_i32_918 : BitVec 32 := 0#32
  let c1_i32_919 : BitVec 32 := 1#32
  let arg12 : BitVec 32 := Scf.iv c0_i32_918 c1_i32_919 k0_t3
  let v3924 : BitVec 32 := Scalar.muli c2_i32_1517 arg12
  let c2_i32_1518 : BitVec 32 := 2#32
  let v3925 : BitVec 32 := Scalar.addi v3924 c2_i32_1518
  let c64_i32_1915 : BitVec 32 := 64#32
  let v5042 : BitVec 32 := Scalar.muli v3925 c64_i32_1915
  let c48_i32_2106 : BitVec 32 := 48#32
  let v5487 : BitVec 32 := Scalar.addi v5042 c48_i32_2106
  let v5489 : Index := Scalar.indexCast v5487
  ![15, v5489.toNat]
def k0_mult3 (i : grid0.Coords) (k0_t1 : Fin k0_t1_loop.trips) : BitVec 32 :=
  let c2_i32_921 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2348 : BitVec 32 := Scalar.muli c2_i32_921 v1
  let c0_i32_1 : BitVec 32 := 0#32
  let c1_i32 : BitVec 32 := 1#32
  let arg11 : BitVec 32 := Scf.iv c0_i32_1 c1_i32 k0_t1
  let v2349 : BitVec 32 := Scalar.addi v2348 arg11
  let c16_i32_922 : BitVec 32 := 16#32
  let v2350 : BitVec 32 := Scalar.muli v2349 c16_i32_922
  v2350
def k0_off142 (i : grid0.Coords) (k0_t1 : Fin k0_t1_loop.trips) : Fin 2 → Nat :=
  let c2_i32_921 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2348 : BitVec 32 := Scalar.muli c2_i32_921 v1
  let c0_i32_1 : BitVec 32 := 0#32
  let c1_i32 : BitVec 32 := 1#32
  let arg11 : BitVec 32 := Scf.iv c0_i32_1 c1_i32 k0_t1
  let v2349 : BitVec 32 := Scalar.addi v2348 arg11
  let c16_i32_922 : BitVec 32 := 16#32
  let v2350 : BitVec 32 := Scalar.muli v2349 c16_i32_922
  let v2351 : BitVec 32 := v2350
  let c0_i32_923 : BitVec 32 := 0#32
  ![v2351.toNat, 0]
def k0_mult4 (i : grid0.Coords) : BitVec 32 :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.muli c2_i32_4 v1
  let c1_i32_5 : BitVec 32 := 1#32
  let v11 : BitVec 32 := Scalar.addi v10 c1_i32_5
  let c16_i32 : BitVec 32 := 16#32
  let v12 : BitVec 32 := Scalar.muli v11 c16_i32
  v12
def k0_off143 (i : grid0.Coords) : Fin 2 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.muli c2_i32_4 v1
  let c1_i32_5 : BitVec 32 := 1#32
  let v11 : BitVec 32 := Scalar.addi v10 c1_i32_5
  let c16_i32 : BitVec 32 := 16#32
  let v12 : BitVec 32 := Scalar.muli v11 c16_i32
  let v13 : BitVec 32 := v12
  let c0_i32_6 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S192x64 : Shape := ⟨2, ![192, 64]⟩
abbrev S64x2 : Shape := ⟨2, ![64, 2]⟩
abbrev S2x64x2 : Shape := ⟨3, ![2, 64, 2]⟩
abbrev S1x1024x1x128 : Shape := ⟨4, ![1, 1024, 1, 128]⟩
abbrev S1x1024x3x128 : Shape := ⟨4, ![1, 1024, 3, 128]⟩
abbrev S1024x384 : Shape := ⟨2, ![1024, 384]⟩
abbrev S_ : Shape := ⟨0, ![]⟩
abbrev S1024x64 : Shape := ⟨2, ![1024, 64]⟩
abbrev S1 : Shape := ⟨1, ![1]⟩
abbrev S1024 : Shape := ⟨1, ![1024]⟩
abbrev S1024x4160 : Shape := ⟨2, ![1024, 4160]⟩
abbrev S1024x2 : Shape := ⟨2, ![1024, 2]⟩
abbrev S1x64 : Shape := ⟨2, ![1, 64]⟩
abbrev S64 : Shape := ⟨1, ![64]⟩
abbrev S1024x64x2 : Shape := ⟨3, ![1024, 64, 2]⟩
abbrev S64x2x1 : Shape := ⟨3, ![64, 2, 1]⟩
abbrev S1x64x1 : Shape := ⟨3, ![1, 64, 1]⟩
abbrev S1024x1 : Shape := ⟨2, ![1024, 1]⟩

abbrev nBuf : Space → Nat
  | .hbm => 113
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S192x64, .f32⟩
  | .hbm, ⟨2, _⟩ => ⟨S64x2, .i32⟩
  | .hbm, ⟨3, _⟩ => ⟨S2x64x2, .f32⟩
  | .hbm, ⟨4, _⟩ => ⟨S1x1024x1x128, .f32⟩
  | .hbm, ⟨5, _⟩ => ⟨S1x1024x3x128, .f32⟩
  | .hbm, ⟨6, _⟩ => ⟨S1024x384, .f32⟩
  | .hbm, ⟨7, _⟩ => ⟨S_, .f32⟩
  | .hbm, ⟨8, _⟩ => ⟨S1024x64, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S1024, .f32⟩
  | .hbm, ⟨13, _⟩ => ⟨S1024x64, .f32⟩
  | .hbm, ⟨14, _⟩ => ⟨S_, .f32⟩
  | .hbm, ⟨15, _⟩ => ⟨S1024x4160, .f32⟩
  | .hbm, ⟨16, _⟩ => ⟨S_, .i32⟩
  | .hbm, ⟨17, _⟩ => ⟨S_, .i32⟩
  | .hbm, ⟨18, _⟩ => ⟨S1024x384, .f32⟩
  | .hbm, ⟨19, _⟩ => ⟨S192x64, .f32⟩
  | .hbm, ⟨20, _⟩ => ⟨S2x64x2, .f32⟩
  | .hbm, ⟨21, _⟩ => ⟨S64x2, .i32⟩
  | .hbm, ⟨22, _⟩ => ⟨S_, .i32⟩
  | .hbm, ⟨23, _⟩ => ⟨S_, .i32⟩
  | .hbm, ⟨24, _⟩ => ⟨S1024x64, .f32⟩
  | .hbm, ⟨25, _⟩ => ⟨S1024x4160, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1024x2, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i1⟩
  | .hbm, ⟨44, _⟩ => ⟨S_, .i1⟩
  | .hbm, ⟨45, _⟩ => ⟨S_, .i1⟩
  | .hbm, ⟨46, _⟩ => ⟨S_, .i1⟩
  | .hbm, ⟨47, _⟩ => ⟨S_, .i1⟩
  | .hbm, ⟨48, _⟩ => ⟨S_, .i1⟩
  | .hbm, ⟨49, _⟩ => ⟨S_, .i1⟩
  | .hbm, ⟨50, _⟩ => ⟨S_, .i1⟩
  | .hbm, ⟨51, _⟩ => ⟨S_, .i1⟩
  | .hbm, ⟨52, _⟩ => ⟨S_, .i1⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x64, .f32⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S1024x64x2, .f32⟩
  | .hbm, ⟨67, _⟩ => ⟨S_, .i32⟩
  | .hbm, ⟨68, _⟩ => ⟨S64x2, .i32⟩
  | .hbm, ⟨69, _⟩ => ⟨S64x2, .i1⟩
  | .hbm, ⟨70, _⟩ => ⟨S_, .i32⟩
  | .hbm, ⟨71, _⟩ => ⟨S64x2, .i32⟩
  | .hbm, ⟨72, _⟩ => ⟨S64x2, .i32⟩
  | .hbm, ⟨73, _⟩ => ⟨S64x2, .i32⟩
  | .hbm, ⟨74, _⟩ => ⟨S64x2x1, .i32⟩
  | .hbm, ⟨75, _⟩ => ⟨S1024x64x2, .f32⟩
  | .hbm, ⟨76, _⟩ => ⟨S1x64x1, .f32⟩
  | .hbm, ⟨77, _⟩ => ⟨S1024x64x2, .f32⟩
  | .hbm, ⟨78, _⟩ => ⟨S1024x64x2, .f32⟩
  | .hbm, ⟨79, _⟩ => ⟨S1024x64x2, .f32⟩
  | .hbm, ⟨80, _⟩ => ⟨S_, .f32⟩
  | .hbm, ⟨81, _⟩ => ⟨S1024x64, .f32⟩
  | .hbm, ⟨82, _⟩ => ⟨S_, .f32⟩
  | .hbm, ⟨83, _⟩ => ⟨S1024, .f32⟩
  | .hbm, ⟨84, _⟩ => ⟨S1024x1, .f32⟩
  | .hbm, ⟨85, _⟩ => ⟨S_, .f32⟩
  | .hbm, ⟨86, _⟩ => ⟨S1024x1, .f32⟩
  | .hbm, ⟨87, _⟩ => ⟨S1024x1, .f32⟩
  | .hbm, ⟨88, _⟩ => ⟨S1024x64, .f32⟩
  | .hbm, ⟨89, _⟩ => ⟨S1024x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1024x64, .f32⟩
  | .hbm, ⟨94, _⟩ => ⟨S1024x64, .f32⟩
  | .hbm, ⟨95, _⟩ => ⟨S_, .f32⟩
  | .hbm, ⟨96, _⟩ => ⟨S1024x64, .f32⟩
  | .hbm, ⟨97, _⟩ => ⟨S1024x64, .f32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S1024x4160, .f32⟩
  | .hbm, ⟨110, _⟩ => ⟨S1024x4160, .f32⟩
  | .hbm, ⟨111, _⟩ => ⟨S_, .i32⟩
  | .hbm, ⟨112, _⟩ => ⟨S_, .i32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_c_4 : Ref sig .tc := ⟨.hbm, 16, rfl⟩
abbrev main_c_5 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_while0c_c_13 : Ref sig .tc := ⟨.hbm, 26, rfl⟩
abbrev main_while0c_v9 : Ref sig .tc := ⟨.hbm, 27, rfl⟩
abbrev main_while0b_c_13 : Ref sig .tc := ⟨.hbm, 28, rfl⟩
abbrev main_while0b_v9 : Ref sig .tc := ⟨.hbm, 29, rfl⟩
abbrev main_while0b_c_14 : Ref sig .tc := ⟨.hbm, 30, rfl⟩
abbrev main_while0b_v10 : Ref sig .tc := ⟨.hbm, 31, rfl⟩
abbrev main_while0b_c_15 : Ref sig .tc := ⟨.hbm, 32, rfl⟩
abbrev main_while0b_v11 : Ref sig .tc := ⟨.hbm, 33, rfl⟩
abbrev main_while0b_v12 : Ref sig .tc := ⟨.hbm, 34, rfl⟩
abbrev main_while0b_c_16 : Ref sig .tc := ⟨.hbm, 35, rfl⟩
abbrev main_while0b_v13 : Ref sig .tc := ⟨.hbm, 36, rfl⟩
abbrev main_while0b_v14 : Ref sig .tc := ⟨.hbm, 37, rfl⟩
abbrev main_while0b_c_17 : Ref sig .tc := ⟨.hbm, 38, rfl⟩
abbrev main_while0b_v15 : Ref sig .tc := ⟨.hbm, 39, rfl⟩
abbrev main_while0b_c_18 : Ref sig .tc := ⟨.hbm, 40, rfl⟩
abbrev main_while0b_v16 : Ref sig .tc := ⟨.hbm, 41, rfl⟩
abbrev main_while0b_c_19 : Ref sig .tc := ⟨.hbm, 42, rfl⟩
abbrev main_while0b_v17 : Ref sig .tc := ⟨.hbm, 43, rfl⟩
abbrev main_while0b_c_20 : Ref sig .tc := ⟨.hbm, 44, rfl⟩
abbrev main_while0b_v18 : Ref sig .tc := ⟨.hbm, 45, rfl⟩
abbrev main_while0b_v19 : Ref sig .tc := ⟨.hbm, 46, rfl⟩
abbrev main_while0b_v20 : Ref sig .tc := ⟨.hbm, 47, rfl⟩
abbrev main_while0b_c_21 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_c_22 : Ref sig .tc := ⟨.hbm, 53, rfl⟩
abbrev main_while0b_v25 : Ref sig .tc := ⟨.hbm, 54, rfl⟩
abbrev main_while0b_v26 : Ref sig .tc := ⟨.hbm, 55, rfl⟩
abbrev main_while0b_c_23 : Ref sig .tc := ⟨.hbm, 56, rfl⟩
abbrev main_while0b_v27 : Ref sig .tc := ⟨.hbm, 57, rfl⟩
abbrev main_while0b_v28 : Ref sig .tc := ⟨.hbm, 58, rfl⟩
abbrev main_while0b_c_24 : Ref sig .tc := ⟨.hbm, 59, rfl⟩
abbrev main_while0b_v29 : Ref sig .tc := ⟨.hbm, 60, rfl⟩
abbrev main_while0b_v30 : Ref sig .tc := ⟨.hbm, 61, rfl⟩
abbrev main_while0b_cst_25 : Ref sig .tc := ⟨.hbm, 62, rfl⟩
abbrev main_while0b_call0_v0 : Ref sig .tc := ⟨.hbm, 63, rfl⟩
abbrev main_while0b_call0_v1 : Ref sig .tc := ⟨.hbm, 64, rfl⟩
abbrev main_while0b_v31 : Ref sig .tc := ⟨.hbm, 65, rfl⟩
abbrev main_while0b_v32 : Ref sig .tc := ⟨.hbm, 66, rfl⟩
abbrev main_while0b_c_26 : Ref sig .tc := ⟨.hbm, 67, rfl⟩
abbrev main_while0b_v33 : Ref sig .tc := ⟨.hbm, 68, rfl⟩
abbrev main_while0b_v34 : Ref sig .tc := ⟨.hbm, 69, rfl⟩
abbrev main_while0b_c_27 : Ref sig .tc := ⟨.hbm, 70, rfl⟩
abbrev main_while0b_v35 : Ref sig .tc := ⟨.hbm, 71, rfl⟩
abbrev main_while0b_v36 : Ref sig .tc := ⟨.hbm, 72, rfl⟩
abbrev main_while0b_v37 : Ref sig .tc := ⟨.hbm, 73, rfl⟩
abbrev main_while0b_v38 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_v42 : Ref sig .tc := ⟨.hbm, 78, rfl⟩
abbrev main_while0b_v43 : Ref sig .tc := ⟨.hbm, 79, rfl⟩
abbrev main_while0b_cst_28 : Ref sig .tc := ⟨.hbm, 80, rfl⟩
abbrev main_while0b_v44 : Ref sig .tc := ⟨.hbm, 81, rfl⟩
abbrev main_while0b_cst_29 : Ref sig .tc := ⟨.hbm, 82, rfl⟩
abbrev main_while0b_v45 : Ref sig .tc := ⟨.hbm, 83, rfl⟩
abbrev main_while0b_v46 : Ref sig .tc := ⟨.hbm, 84, rfl⟩
abbrev main_while0b_cst_30 : Ref sig .tc := ⟨.hbm, 85, rfl⟩
abbrev main_while0b_v47 : Ref sig .tc := ⟨.hbm, 86, rfl⟩
abbrev main_while0b_v48 : Ref sig .tc := ⟨.hbm, 87, rfl⟩
abbrev main_while0b_v49 : Ref sig .tc := ⟨.hbm, 88, rfl⟩
abbrev main_while0b_v50 : Ref sig .tc := ⟨.hbm, 89, rfl⟩
abbrev main_while0b_cst_31 : Ref sig .tc := ⟨.hbm, 90, rfl⟩
abbrev main_while0b_cst_32 : Ref sig .tc := ⟨.hbm, 91, rfl⟩
abbrev main_while0b_call1_v0 : Ref sig .tc := ⟨.hbm, 92, rfl⟩
abbrev main_while0b_call1_v1 : Ref sig .tc := ⟨.hbm, 93, rfl⟩
abbrev main_while0b_call1_v2 : Ref sig .tc := ⟨.hbm, 94, rfl⟩
abbrev main_while0b_call1_v3 : Ref sig .tc := ⟨.hbm, 95, rfl⟩
abbrev main_while0b_call1_v4 : Ref sig .tc := ⟨.hbm, 96, rfl⟩
abbrev main_while0b_v51 : Ref sig .tc := ⟨.hbm, 97, rfl⟩
abbrev main_while0b_c_33 : Ref sig .tc := ⟨.hbm, 98, rfl⟩
abbrev main_while0b_v52 : Ref sig .tc := ⟨.hbm, 99, rfl⟩
abbrev main_while0b_c_34 : Ref sig .tc := ⟨.hbm, 100, rfl⟩
abbrev main_while0b_v53 : Ref sig .tc := ⟨.hbm, 101, rfl⟩
abbrev main_while0b_c_35 : Ref sig .tc := ⟨.hbm, 102, rfl⟩
abbrev main_while0b_v54 : Ref sig .tc := ⟨.hbm, 103, rfl⟩
abbrev main_while0b_v55 : Ref sig .tc := ⟨.hbm, 104, rfl⟩
abbrev main_while0b_c_36 : Ref sig .tc := ⟨.hbm, 105, rfl⟩
abbrev main_while0b_v56 : Ref sig .tc := ⟨.hbm, 106, rfl⟩
abbrev main_while0b_v57 : Ref sig .tc := ⟨.hbm, 107, rfl⟩
abbrev main_while0b_c_37 : Ref sig .tc := ⟨.hbm, 108, rfl⟩
abbrev main_while0b_v58 : Ref sig .tc := ⟨.hbm, 109, rfl⟩
abbrev main_while0b_v59 : Ref sig .tc := ⟨.hbm, 110, rfl⟩
abbrev main_while0b_c_38 : Ref sig .tc := ⟨.hbm, 111, rfl⟩
abbrev main_while0b_v60 : Ref sig .tc := ⟨.hbm, 112, rfl⟩

abbrev nD : Nat := 1
abbrev τ : Topo := Topo.v7x

variable {F : FTy → Type} [FloatOps F]

abbrev main_while0_count : Scf.Loop 32 := ⟨0#32, 192#32, 1#32⟩
-- ==== Proof.Base.lean ====
/-
  The trellis step of the decoder, as one vector of sixteen batch rows per state, and the ground rules for running the tile's straight-line text:
  what a load and a store of a row of a state buffer do to the rows the buffer holds.
-/
module

public import proofs.«01_k».proof.KernelIdeal
public import Idealize.ShloMosaic.Lib.Pipeline
public import Idealize.ShloMosaic.Lib.Scf
public import Idealize.ShloMosaic.Lib.HostLoop
public import Idealize.ShloMosaic.PureOps.BitExact
public import Idealize.ShloMosaic.PureOps.Ideal
public import Idealize.ShloMosaic.PureOps.IdealRules
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The assertions of the proof. -/
abbrev Assn (F : FTy → Type) : Type _ := sProp (MT nD τ sig (HIx 1) (Elt F) ℕ UU ℕ)

abbrev EH : Emb UH (MT nD τ sig (HIx 1) (Elt F) ℕ UU ℕ) := embL

variable [FloatOps F]

/-! ## One trellis step on sixteen batch rows -/

/-- A value per batch row of a group of sixteen. -/
abbrev Vc (F : FTy → Type) : Type := FVec F S16 .f32

/-- The states whose branch metric is `±(x0 + x1)` (the others: `±(x0 - x1)`). -/
def useSum (s : Fin 64) : Bool := Nat.beq (0xaaaa5555aaaa5555 / Nat.pow 2 s.val % 2) 1
/-- The states whose branch metric from the even predecessor is positive. -/
def positive (s : Fin 64) : Bool := Nat.beq (0xf00f0ff00ff0f00f / Nat.pow 2 s.val % 2) 1

/-- The two predecessors of state `s`. -/
def pred0 (s : Fin 64) : Fin 64 := ⟨2 * (s.val % 32), by omega⟩
def pred1 (s : Fin 64) : Fin 64 := ⟨2 * (s.val % 32) + 1, by omega⟩

/-- The unweighted branch metric of state `s`. -/
def sel (x0 x1 : Vc F) (s : Fin 64) : Vc F := bif useSum s then addf x0 x1 else subf x0 x1

/-- The better of the two ways into a state, at branch metric `t`. -/
def cand (pos : Bool) (p0 p1 t : Vc F) : Vc F :=
  bif pos then maximumf (addf p0 t) (subf p1 t) else maximumf (subf p0 t) (addf p1 t)

/-- Add, compare, select: every state from its two predecessors. -/
def acs (a : Fin 64 → Vc F) (t : Fin 64 → Vc F) (s : Fin 64) : Vc F := cand (positive s) (a (pred0 s)) (a (pred1 s)) (t s)

/-- The sum of the states `j, j + 32, j + 8, j + 40, …` in that order. -/
def partSum (o : Fin 64 → Vc F) (j : Fin 8) : Vc F :=
  addf (addf (addf (addf (addf (addf (addf (o ⟨j.val, by omega⟩) (o ⟨j.val + 32, by omega⟩)) (o ⟨j.val + 8, by omega⟩)) (o ⟨j.val + 40, by omega⟩))
    (o ⟨j.val + 16, by omega⟩)) (o ⟨j.val + 48, by omega⟩)) (o ⟨j.val + 24, by omega⟩)) (o ⟨j.val + 56, by omega⟩)

/-- The mean over the states, from eight partial sums. -/
def meanOf (o : Fin 64 → Vc F) : Vc F :=
  mulf (addf (addf (addf (partSum o 0) (partSum o 1)) (addf (partSum o 2) (partSum o 3)))
    (addf (addf (partSum o 4) (partSum o 5)) (addf (partSum o 6) (partSum o 7)))) (broadcast S16 (FloatOps.ofBits .f32 0x3C800000#32))

/-- A state's metric less the mean, clipped to `±50`. -/
def clip (v μ : Vc F) : Vc F :=
  minimumf (maximumf (subf v μ) (broadcast S16 (FloatOps.ofBits .f32 0xC2480000#32))) (broadcast S16 (FloatOps.ofBits .f32 0x42480000#32))

/-- Every state less the mean over the states, clipped. -/
def norm (o : Fin 64 → Vc F) (s : Fin 64) : Vc F := clip (o s) (meanOf o)

/-! ## The tile's text, run -/

/-- Vector subcore `(c, i)` of device `d`. -/
abbrev tl (d : Dev nD) (c : Fin τ.nSC) (i : Fin τ.nSub) : Thread nD τ := V d c i

section Run

variable (d : Dev nD) (c : Fin τ.nSC) (i : Fin τ.nSub)

/-- From `H` the program `p` runs to `Q`. -/
def Ok {α : Type} (H : Assn F) (p : Prog (TpuEff nD τ sig (Elt F) Λ₀ (.scVector c i)) α) (Q : α → Assn F) : Prop :=
  H ⊢ wp frame (wpE (defs₀ (F := F)) 𝒱₀ (V d c i) none) Set.univ p Q

theorem rowInb (s : Fin 64) : ∀ a, (![17 * s.val] : Fin 1 → ℕ) a + S16.size a ≤ S1088.size a := by
  intro a; have := s.isLt; fin_cases a; simp; omega

/-- Row `s` of a state buffer: sixteen of its seventeen words. -/
abbrev rowRect (s : Fin 64) : Rect S1088 := Rect.unit (s := S1088) ![17 * s.val] S16.size (rowInb s)

/-- The state buffer `m` holds row `a s` for every state `s` (and something on each row's seventeenth word). -/
def Rows (m : Memref sig .scVector .vmem S1088 .f32) (a : Fin 64 → Vc F) : Assn F :=
  iprop(∃ f : Buf (Elt F) (m.view.loc (V d c i)), ⌜∀ s, (m.access (rowRect s)).read (Elt F) f = a s⌝ ∗ m.view.loc (V d c i) ↦{fullShare} f)

/-- The five buffers of a tile: two state buffers, the fetched input, the fetched weights, the staged output. -/
def Hold (A B X W T : Assn F) : Assn F := iprop(A ∗ B ∗ X ∗ W ∗ T)

variable {d c i} {α : Type} {A B X W T : Assn F} {Q : α → Assn F}

/-- A load of row `s` reads what the buffer holds there. -/
theorem rows_load {m : Memref sig .scVector .vmem S1088 .f32} {a : Fin 64 → Vc F} {o : Fin 1 → ℕ} {h : ∀ j, o j + S16.size j ≤ S1088.size j}
    {hl : m.view.LoadsAt (Rect.unit (s := S1088) o S16.size h).toLoadRect} {k : Vc F → Prog (TpuEff nD τ sig (Elt F) Λ₀ (.scVector c i)) α}
    (s : Fin 64) (ho : o = ![17 * s.val]) :
    (Rows d c i m a : Assn F) ⊢ iprop((Rows d c i m a -∗ wp frame (wpE (defs₀ (F := F)) 𝒱₀ (V d c i) none) Set.univ (k (a s)) Q)
      -∗ wp frame (wpE (defs₀ (F := F)) 𝒱₀ (V d c i) none) Set.univ (.op (.load m (Rect.unit (s := S1088) o S16.size h).toLoadRect hl) k) Q) := by
  subst ho
  unfold Rows
  iintro ⟨%f, %hf, H⟩ Hk
  iapply (wp_load_rect 𝒱₀ (V d c i) none Set.univ (m := m) (S := Finset.univ) (r := rowRect s) (Finset.subset_univ _)) $$ H
  iintro H
  rw [hf s]
  iapply Hk
  iexists f; isplitr
  · ipureintro; exact hf
  · iexact H

/-- A store of row `s` replaces it and leaves the other rows. -/
theorem rows_store {m : Memref sig .scVector .vmem S1088 .f32} {a : Fin 64 → Vc F} {o : Fin 1 → ℕ} {h : ∀ j, o j + S16.size j ≤ S1088.size j}
    {v : Vc F} {hx : (m.access (Rect.unit (s := S1088) o S16.size h)).Stores Finset.univ}
    {hm : Finset.univ = Finset.univ ∨ ∀ j, (Rect.unit (s := S1088) o S16.size h).stride j = 1}
    {k : PUnit → Prog (TpuEff nD τ sig (Elt F) Λ₀ (.scVector c i)) α}
    (s : Fin 64) (ho : o = ![17 * s.val]) :
    (Rows d c i m a : Assn F) ⊢ iprop((Rows d c i m (Function.update a s v) -∗ wp frame (wpE (defs₀ (F := F)) 𝒱₀ (V d c i) none) Set.univ (k ⟨⟩) Q)
      -∗ wp frame (wpE (defs₀ (F := F)) 𝒱₀ (V d c i) none) Set.univ (.op (.store m (Rect.unit (s := S1088) o S16.size h) v Finset.univ hx hm) k) Q) := by
  subst ho
  unfold Rows
  iintro ⟨%f, %hf, H⟩ Hk
  iapply (wp_store 𝒱₀ (V d c i) none Set.univ (m := m) (S := Finset.univ) (r := rowRect s) (Mk := Finset.univ) (Finset.subset_univ _)) $$ H
  iintro H
  iapply Hk
  iexists _; isplitr
  swap
  · iexact H
  · ipureintro; intro s'
    by_cases hs : s' = s
    · subst hs
      rw [Function.update_self]
      exact View.read_write_univ _ _
    · rw [Function.update_of_ne hs, ← hf s']
      funext l
      refine View.read_slice_write_of_not_mem (v := m.view) (rowRect s) f v Finset.univ (y := (rowRect s').emb l) ?_
      rw [Rect.map_emb_univ]
      have hne : s'.val ≠ s.val := fun h => hs (Fin.ext h)
      have hl : (l 0).val < 16 := (l 0).isLt
      refine (rowRect s).not_mem_set_of_axis _ 0 (17 * s.val) 16 rfl rfl rfl ?_
      show 17 * s'.val + 1 * (l 0).val < 17 * s.val ∨ 17 * s.val + 16 ≤ 17 * s'.val + 1 * (l 0).val
      omega

end Run

end Cert.Proof

end
-- ==== Proof.Rules.lean ====
/-
  The rules by which a trellis step's text is run, one memory operation at a time. The state buffer being written is described by how many of its rows
  the step has written so far (`part`), so that a rule reads its row off that count.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## A buffer written so far -/

/-- Rows written in the order `pos`: the first `n` of them hold `o`, the others still `b`. -/
def part (pos : Fin 64 → ℕ) (o b : Fin 64 → Vc F) (n : ℕ) (s : Fin 64) : Vc F := if pos s < n then o s else b s

/-- The order in which add-compare-select writes the states: `0, 32, 1, 33, …`. -/
def acsPos (s : Fin 64) : ℕ := 2 * (s.val % 32) + s.val / 32

theorem part_zero (pos : Fin 64 → ℕ) (o b : Fin 64 → Vc F) : part pos o b 0 = b := by
  funext s; simp [part]

theorem part_all {pos : Fin 64 → ℕ} (o b : Fin 64 → Vc F) (h : ∀ s, pos s < 64) : part pos o b 64 = o := by
  funext s; simp [part, h s]

theorem part_succ {pos : Fin 64 → ℕ} (hp : Function.Injective pos) (o b : Fin 64 → Vc F) (n : ℕ) (s : Fin 64) (hs : pos s = n) :
    Function.update (part pos o b n) s (o s) = part pos o b (n + 1) := by
  funext s'
  by_cases h : s' = s
  · subst h; rw [Function.update_self]; simp [part, hs]
  · rw [Function.update_of_ne h]
    have : pos s' ≠ n := fun e => h (hp (e.trans hs.symm))
    unfold part
    congr 1
    exact propext ⟨fun h => by omega, fun h => by omega⟩

theorem part_at {pos : Fin 64 → ℕ} (o b : Fin 64 → Vc F) (n : ℕ) (s : Fin 64) (hs : pos s = n) : part pos o b n s = b s := by
  simp [part, hs]

theorem acsPos_injective : Function.Injective acsPos := by
  intro s s' h; unfold acsPos at h; apply Fin.ext; omega
theorem acsPos_lt (s : Fin 64) : acsPos s < 64 := by unfold acsPos; omega
theorem val_lt (s : Fin 64) : s.val < 64 := s.isLt

/-- The SparseCore and the subcore at a grid point. -/
abbrev cOf (i : grid0.Coords) : Fin τ.nSC := (i 0).castLE hcore0
abbrev jOf (i : grid0.Coords) : Fin τ.nSub := (i 1).castLE hsub0

section Run

variable {d : Dev nD} {c : Fin τ.nSC} {i : Fin τ.nSub} {α : Type} {A B X W T : Assn F} {Q : α → Assn F}

/-- The program of the rules: an operation and what follows it. -/
abbrev Pg (c : Fin τ.nSC) (i : Fin τ.nSub) (F : FTy → Type) (α : Type) : Type 1 := Prog (TpuEff nD τ sig (Elt F) Λ₀ (.scVector c i)) α

/-- A rule for one resource, used inside all the tile holds. -/
theorem ok_step {H H' P P' R : Assn F} {p p' : Pg c i F α} (hin : H ⊢ iprop(P ∗ R)) (hout : iprop(P' ∗ R) ⊢ H')
    (h : P ⊢ iprop((P' -∗ wp frame (wpE (defs₀ (F := F)) 𝒱₀ (V d c i) none) Set.univ p' Q) -∗ wp frame (wpE (defs₀ (F := F)) 𝒱₀ (V d c i) none) Set.univ p Q))
    (hk : Ok d c i H' p' Q) : Ok d c i H p Q := by
  unfold Ok at hk ⊢
  refine hin.trans ?_
  iintro ⟨HP, HR⟩
  iapply h $$ HP
  iintro HP
  iapply hk
  iapply hout
  isplitl [HP] <;> iassumption

theorem hold_B : (Hold A B X W T : Assn F) ⊢ iprop(B ∗ A ∗ X ∗ W ∗ T) := by
  unfold Hold; iintro ⟨HA, HB, HR⟩
  isplitl [HB]; · iexact HB
  isplitl [HA] <;> iassumption
theorem hold_B' : (iprop(B ∗ A ∗ X ∗ W ∗ T) : Assn F) ⊢ Hold A B X W T := hold_B
theorem hold_swap : (Hold A B X W T : Assn F) = Hold B A X W T := BI.Entails.antisymm hold_B hold_B
theorem hold_X : (Hold A B X W T : Assn F) ⊢ iprop(X ∗ A ∗ B ∗ W ∗ T) := by
  unfold Hold; iintro ⟨HA, HB, HX, HR⟩
  isplitl [HX]; · iexact HX
  isplitl [HA]; · iexact HA
  isplitl [HB] <;> iassumption
theorem hold_X' : (iprop(X ∗ A ∗ B ∗ W ∗ T) : Assn F) ⊢ Hold A B X W T := by
  unfold Hold; iintro ⟨HX, HA, HB, HR⟩
  isplitl [HA]; · iexact HA
  isplitl [HB]; · iexact HB
  isplitl [HX] <;> iassumption
theorem hold_W : (Hold A B X W T : Assn F) ⊢ iprop(W ∗ A ∗ B ∗ X ∗ T) := by
  unfold Hold; iintro ⟨HA, HB, HX, HW, HT⟩
  isplitl [HW]; · iexact HW
  isplitl [HA]; · iexact HA
  isplitl [HB]; · iexact HB
  isplitl [HX] <;> iassumption
theorem hold_W' : (iprop(W ∗ A ∗ B ∗ X ∗ T) : Assn F) ⊢ Hold A B X W T := by
  unfold Hold; iintro ⟨HW, HA, HB, HX, HT⟩
  isplitl [HA]; · iexact HA
  isplitl [HB]; · iexact HB
  isplitl [HX]; · iexact HX
  isplitl [HW] <;> iassumption
theorem hold_T : (Hold A B X W T : Assn F) ⊢ iprop(T ∗ A ∗ B ∗ X ∗ W) := by
  unfold Hold; iintro ⟨HA, HB, HX, HW, HT⟩
  isplitl [HT]; · iexact HT
  isplitl [HA]; · iexact HA
  isplitl [HB]; · iexact HB
  isplitl [HX] <;> iassumption
theorem hold_T' : (iprop(T ∗ A ∗ B ∗ X ∗ W) : Assn F) ⊢ Hold A B X W T := by
  unfold Hold; iintro ⟨HT, HA, HB, HX, HW⟩
  isplitl [HA]; · iexact HA
  isplitl [HB]; · iexact HB
  isplitl [HX]; · iexact HX
  isplitl [HW] <;> iassumption

/-- The end of a run. -/
theorem ok_ret {H : Assn F} {a : α} (h : H ⊢ Q a) : Ok d c i H (Prog.ret a) Q := by
  unfold Ok
  exact h.trans (le_wp_ret _ _ _ _ _)

/-- One program after another. -/
theorem ok_bind {β : Type} {H : Assn F} {p : Pg c i F β} {f : β → Pg c i F α} (h : Ok d c i H p fun v => wp frame (wpE (defs₀ (F := F)) 𝒱₀ (V d c i) none) Set.univ (f v) Q) :
    Ok d c i H (p >>= f) Q := by
  unfold Ok at h ⊢
  rwa [wp_bind]

/-- A weaker hold before. -/
theorem ok_of {H H' : Assn F} {p : Pg c i F α} (h : H ⊢ H') (hk : Ok d c i H' p Q) : Ok d c i H p Q := h.trans hk

/-- A stronger hold after. -/
theorem ok_mono {H : Assn F} {p : Pg c i F α} {Q' : α → Assn F} (hk : Ok d c i H p Q') (h : ∀ a, Q' a ⊢ Q a) : Ok d c i H p Q :=
  BI.Entails.trans hk (wp_mono _ _ _ h)

/-- A hold with a fact. -/
theorem ok_pure {φ : Prop} {H : Assn F} {p : Pg c i F α} (h : φ → Ok d c i H p Q) : Ok d c i iprop(⌜φ⌝ ∗ H) p Q := by
  unfold Ok at h ⊢
  iintro ⟨%hφ, H⟩
  iapply (h hφ) $$ H

/-! ### Loads and stores of the state buffers -/

variable {m m' : Memref sig .scVector .vmem S1088 .f32} {a b o t : Fin 64 → Vc F} {n : ℕ}
variable {of : Fin 1 → ℕ} {h : ∀ j, of j + S16.size j ≤ S1088.size j}
variable {k : Vc F → Pg c i F α} {k' : PUnit → Pg c i F α}

/-- A load of row `s` of the buffer read from. -/
theorem ok_ldA {hl : m.view.LoadsAt (Rect.unit (s := S1088) of S16.size h).toLoadRect} (s : Fin 64) (ho : of = ![17 * s.val])
    (hk : Ok d c i (Hold (Rows d c i m a) B X W T) (k (a s)) Q) :
    Ok d c i (Hold (Rows d c i m a) B X W T) (.op (.load m (Rect.unit (s := S1088) of S16.size h).toLoadRect hl) k) Q :=
  ok_step .rfl .rfl (rows_load s ho) hk

/-- A load of row `s` of the buffer written to. -/
theorem ok_ldB {hl : m.view.LoadsAt (Rect.unit (s := S1088) of S16.size h).toLoadRect} (s : Fin 64) (ho : of = ![17 * s.val])
    (hk : Ok d c i (Hold A (Rows d c i m b) X W T) (k (b s)) Q) :
    Ok d c i (Hold A (Rows d c i m b) X W T) (.op (.load m (Rect.unit (s := S1088) of S16.size h).toLoadRect hl) k) Q :=
  ok_step hold_B hold_B' (rows_load s ho) hk

/-- A load of the row to be written next. -/
theorem ok_ldB_part {pos : Fin 64 → ℕ} {hl : m.view.LoadsAt (Rect.unit (s := S1088) of S16.size h).toLoadRect} (s : Fin 64) (hs : pos s = n)
    (ho : of = ![17 * s.val]) (hk : Ok d c i (Hold A (Rows d c i m (part pos o b n)) X W T) (k (b s)) Q) :
    Ok d c i (Hold A (Rows d c i m (part pos o b n)) X W T) (.op (.load m (Rect.unit (s := S1088) of S16.size h).toLoadRect hl) k) Q :=
  ok_ldB s ho (by rw [part_at o b n s hs]; exact hk)

/-- The store of the row to be written next. -/
theorem ok_stB_part {pos : Fin 64 → ℕ} (hp : Function.Injective pos) {v : Vc F} {hx : (m.access (Rect.unit (s := S1088) of S16.size h)).Stores Finset.univ}
    {hm : Finset.univ = Finset.univ ∨ ∀ j, (Rect.unit (s := S1088) of S16.size h).stride j = 1} (s : Fin 64) (hs : pos s = n)
    (ho : of = ![17 * s.val]) (hv : v = o s) (hk : Ok d c i (Hold A (Rows d c i m (part pos o b (n + 1))) X W T) (k' ⟨⟩) Q) :
    Ok d c i (Hold A (Rows d c i m (part pos o b n)) X W T) (.op (.store m (Rect.unit (s := S1088) of S16.size h) v Finset.univ hx hm) k') Q := by
  subst hv
  rw [← part_succ hp o b n s hs] at hk
  exact ok_step hold_B hold_B' (rows_store s ho) hk

/-- The rows about to be written in the order `pos`. -/
theorem ok_begin (pos : Fin 64 → ℕ) (o : Fin 64 → Vc F) {p : Pg c i F α} (hk : Ok d c i (Hold A (Rows d c i m (part pos o b 0)) X W T) p Q) :
    Ok d c i (Hold A (Rows d c i m b) X W T) p Q := by rwa [part_zero] at hk

/-- All rows written. -/
theorem ok_end {pos : Fin 64 → ℕ} (hp : ∀ s, pos s < 64) {p : Pg c i F α} (hk : Ok d c i (Hold A (Rows d c i m o) X W T) p Q) :
    Ok d c i (Hold A (Rows d c i m (part pos o b 64)) X W T) p Q := by rwa [part_all o b hp]

/-- The buffer written becomes the buffer read. -/
theorem ok_swap {p : Pg c i F α} (hk : Ok d c i (Hold B A X W T) p Q) : Ok d c i (Hold A B X W T) p Q := by rwa [hold_swap]

/-! ### Loads of the fetched input -/

/-- The tile's input buffer holds `x`; beside it is held `R`, which no operation of a step touches. -/
def InX (d : Dev nD) (c : Fin τ.nSC) (i : Fin τ.nSub) (m : Memref sig .scVector .vmem S4096 .f32) (x : S4096.Idx → F .f32) (R : Assn F) : Assn F :=
  iprop((∃ f : Buf (Elt F) (m.view.loc (V d c i)), ⌜m.view.read (Elt F) f = x⌝ ∗ m.view.loc (V d c i) ↦{fullShare} f) ∗ R)

/-- Sixteen words of the input buffer. -/
def xrow (x : S4096.Idx → F .f32) (of : Fin 1 → ℕ) (h : ∀ j, of j + S16.size j ≤ S4096.size j) : Vc F :=
  fun l => x ((Rect.unit (s := S4096) of S16.size h).emb l)

/-- A load of sixteen words of the input buffer. -/
theorem ok_ldX {R : Assn F} {m : Memref sig .scVector .vmem S4096 .f32} {x : S4096.Idx → F .f32} {of : Fin 1 → ℕ} {h : ∀ j, of j + S16.size j ≤ S4096.size j}
    {hl : m.view.LoadsAt (Rect.unit (s := S4096) of S16.size h).toLoadRect}
    (hk : Ok d c i (Hold A B (InX d c i m x R) W T) (k (xrow x of h)) Q) :
    Ok d c i (Hold A B (InX d c i m x R) W T) (.op (.load m (Rect.unit (s := S4096) of S16.size h).toLoadRect hl) k) Q := by
  refine ok_step hold_X hold_X' ?_ hk
  unfold InX
  iintro ⟨⟨%f, %hf, H⟩, HR⟩ Hk
  iapply (wp_load_rect 𝒱₀ (V d c i) none Set.univ (m := m) (S := Finset.univ) (r := Rect.unit (s := S4096) of S16.size h) (Finset.subset_univ _)) $$ H
  iintro H
  rw [show (m.access (Rect.unit (s := S4096) of S16.size h)).read (Elt F) f = xrow x of h from funext fun l => congrFun hf _]
  iapply Hk
  isplitl [H]
  · iexists f; isplitr
    · ipureintro; exact hf
    · iexact H
  · iexact HR

/-! ### Add, compare, select: a pair of states at a time -/

variable {of0 of1 of2 of3 : Fin 1 → ℕ} {h0 : ∀ j, of0 j + S16.size j ≤ S1088.size j} {h1 : ∀ j, of1 j + S16.size j ≤ S1088.size j}
  {h2 : ∀ j, of2 j + S16.size j ≤ S1088.size j} {h3 : ∀ j, of3 j + S16.size j ≤ S1088.size j}
  {n' : ℕ}

/-- Two rows read, two rows written (each read once before it is written, the value unused). -/
theorem ok_acs {hl0 : m.view.LoadsAt (Rect.unit (s := S1088) of0 S16.size h0).toLoadRect} {hl1 : m.view.LoadsAt (Rect.unit (s := S1088) of1 S16.size h1).toLoadRect}
    {hl2 : m'.view.LoadsAt (Rect.unit (s := S1088) of2 S16.size h2).toLoadRect} {hl3 : m'.view.LoadsAt (Rect.unit (s := S1088) of3 S16.size h3).toLoadRect}
    {hx2 : (m'.access (Rect.unit (s := S1088) of2 S16.size h2)).Stores Finset.univ} {hx3 : (m'.access (Rect.unit (s := S1088) of3 S16.size h3)).Stores Finset.univ}
    {hm2 : Finset.univ = Finset.univ ∨ ∀ j, (Rect.unit (s := S1088) of2 S16.size h2).stride j = 1}
    {hm3 : Finset.univ = Finset.univ ∨ ∀ j, (Rect.unit (s := S1088) of3 S16.size h3).stride j = 1}
    {v2 v3 : Vc F → Vc F → Vc F} {kk : Vc F → Vc F → Pg c i F α}
    {n1 e e' : ℕ} (hn' : n + 2 = n') (h1' : n + 1 = n1) (he : n / 2 = e) (he' : 32 + n / 2 = e') (hn : n1 < 64) (hev : n % 2 = 0)
    (ho0 : of0 = ![17 * n]) (ho1 : of1 = ![17 * n1]) (ho2 : of2 = ![17 * e]) (ho3 : of3 = ![17 * e'])
    (hv2 : v2 (a ⟨n, by omega⟩) (a ⟨n1, hn⟩) = o ⟨e, by omega⟩) (hv3 : v3 (a ⟨n, by omega⟩) (a ⟨n1, hn⟩) = o ⟨e', by omega⟩)
    (hk : Ok d c i (Hold (Rows d c i m a) (Rows d c i m' (part acsPos o b n')) X W T) (kk (a ⟨n, by omega⟩) (a ⟨n1, hn⟩)) Q) :
    Ok d c i (Hold (Rows d c i m a) (Rows d c i m' (part acsPos o b n)) X W T)
      (.op (.load m (Rect.unit (s := S1088) of0 S16.size h0).toLoadRect hl0) fun (p0 : Vc F) => .op (.load m (Rect.unit (s := S1088) of1 S16.size h1).toLoadRect hl1) fun (p1 : Vc F) =>
        .op (.load m' (Rect.unit (s := S1088) of2 S16.size h2).toLoadRect hl2) fun _ => .op (.store m' (Rect.unit (s := S1088) of2 S16.size h2) (v2 p0 p1) Finset.univ hx2 hm2) fun _ =>
        .op (.load m' (Rect.unit (s := S1088) of3 S16.size h3).toLoadRect hl3) fun _ => .op (.store m' (Rect.unit (s := S1088) of3 S16.size h3) (v3 p0 p1) Finset.univ hx3 hm3) fun _ =>
        kk p0 p1) Q := by
  have e2 : acsPos ⟨e, by omega⟩ = n := by unfold acsPos; simp only; omega
  have e3 : acsPos ⟨e', by omega⟩ = n1 := by unfold acsPos; simp only; omega
  refine ok_ldA ⟨n, by omega⟩ ho0 (ok_ldA ⟨n1, hn⟩ ho1 ?_)
  refine ok_ldB_part ⟨e, by omega⟩ e2 ho2 (ok_stB_part acsPos_injective ⟨e, by omega⟩ e2 ho2 hv2 ?_)
  subst h1'
  refine ok_ldB_part ⟨e', by omega⟩ e3 ho3 (ok_stB_part acsPos_injective ⟨e', by omega⟩ e3 ho3 hv3 ?_)
  subst hn'
  exact hk

/-- A row read, less the mean, clipped, written back. -/
theorem ok_norm {hl0 : m.view.LoadsAt (Rect.unit (s := S1088) of0 S16.size h0).toLoadRect} {hl1 : m.view.LoadsAt (Rect.unit (s := S1088) of1 S16.size h1).toLoadRect}
    {hx1 : (m.access (Rect.unit (s := S1088) of1 S16.size h1)).Stores Finset.univ}
    {hm1 : Finset.univ = Finset.univ ∨ ∀ j, (Rect.unit (s := S1088) of1 S16.size h1).stride j = 1}
    {v : Vc F → Vc F} {kk : Pg c i F α} (hn' : n + 1 = n') (hn : n < 64) (ho0 : of0 = ![17 * n]) (ho1 : of1 = ![17 * n])
    (hv : v (b ⟨n, hn⟩) = o ⟨n, hn⟩)
    (hk : Ok d c i (Hold A (Rows d c i m (part Fin.val o b n')) X W T) kk Q) :
    Ok d c i (Hold A (Rows d c i m (part Fin.val o b n)) X W T)
      (.op (.load m (Rect.unit (s := S1088) of0 S16.size h0).toLoadRect hl0) fun (p : Vc F) => .op (.load m (Rect.unit (s := S1088) of1 S16.size h1).toLoadRect hl1) fun _ =>
        .op (.store m (Rect.unit (s := S1088) of1 S16.size h1) (v p) Finset.univ hx1 hm1) fun _ => kk) Q := by
  refine ok_ldB_part ⟨n, hn⟩ rfl ho0 (ok_ldB_part ⟨n, hn⟩ rfl ho1 (ok_stB_part Fin.val_injective ⟨n, hn⟩ rfl ho1 hv ?_))
  subst hn'
  exact hk

end Run

end Cert.Proof

end
-- ==== Proof.Emit.lean ====
/-
  The rules for the staged output: a column of the state buffer gathered and stored as part of a row; and for the fetched weights.
-/
module

public import proofs.«01_k».proof.Proof.Rules
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The fetched weights -/

section Weights

/-- The tile's weight buffer holds `w`. -/
def InW (d : Dev nD) (c : Fin τ.nSC) (i : Fin τ.nSub) (m : Memref sig .scVector .vmem S4160 .f32) (w : S4160.Idx → F .f32) : Assn F :=
  iprop(∃ f : Buf (Elt F) (m.view.loc (V d c i)), ⌜m.view.read (Elt F) f = w⌝ ∗ m.view.loc (V d c i) ↦{fullShare} f)

/-- Sixteen words of the weight buffer. -/
def wrow (w : S4160.Idx → F .f32) (of : Fin 1 → ℕ) (h : ∀ j, of j + S16.size j ≤ S4160.size j) : Vc F :=
  fun l => w ((Rect.unit (s := S4160) of S16.size h).emb l)

theorem slices16 (k : Fin 64) : S16.Slices ![k.val % 16] S1 := by
  refine ⟨rfl, fun a => ?_⟩
  fin_cases a
  show k.val % 16 + 1 ≤ 16
  omega

/-- The weighted branch metric of state `s`, the weights in four registers. -/
def wsel (wv : Fin 4 → Vc F) (x0 x1 : Vc F) (s : Fin 64) : Vc F :=
  mulf (broadcast S16 (extractAt ![0] (extractStridedSlice S1 ![s.val % 16] (wv ⟨s.val / 16, by omega⟩) (slices16 s)) inpos_S1_p0)) (sel x0 x1 s)

variable {d : Dev nD} {c : Fin τ.nSC} {i : Fin τ.nSub} {α : Type} {A B X W T : Assn F} {Q : α → Assn F}

/-- A load of sixteen weights. -/
theorem ok_ldW {m : Memref sig .scVector .vmem S4160 .f32} {w : S4160.Idx → F .f32} {of : Fin 1 → ℕ} {h : ∀ j, of j + S16.size j ≤ S4160.size j}
    {hl : m.view.LoadsAt (Rect.unit (s := S4160) of S16.size h).toLoadRect} {k : Vc F → Pg c i F α}
    (hk : Ok d c i (Hold A B X (InW d c i m w) T) (k (wrow w of h)) Q) :
    Ok d c i (Hold A B X (InW d c i m w) T) (.op (.load m (Rect.unit (s := S4160) of S16.size h).toLoadRect hl) k) Q := by
  refine ok_step hold_W hold_W' ?_ hk
  unfold InW
  iintro ⟨%f, %hf, H⟩ Hk
  iapply (wp_load_rect 𝒱₀ (V d c i) none Set.univ (m := m) (S := Finset.univ) (r := Rect.unit (s := S4160) of S16.size h) (Finset.subset_univ _)) $$ H
  iintro H
  rw [show (m.access (Rect.unit (s := S4160) of S16.size h)).read (Elt F) f = wrow w of h from funext fun l => congrFun hf _]
  iapply Hk
  iexists f; isplitr
  · ipureintro; exact hf
  · iexact H

end Weights

/-- A counted loop without results: the invariant is kept by every trip. -/
theorem ok_for {d : Dev nD} {c : Fin τ.nSC} {i : Fin τ.nSub} {α : Type} {Q : α → Assn F} {w : ℕ} {lb ub st : BitVec w} {hok : Scf.OK lb ub st}
    {body : Fin (Scf.trips lb ub st) → PUnit → Pg c i F PUnit} {kk : PUnit → Pg c i F α} {H : Assn F} (I : ℕ → Assn F) (h0 : H ⊢ I 0)
    (hb : ∀ k acc, Ok d c i (I k.val) (body k acc) fun _ => I (k.val + 1)) (hk : Ok d c i (I (Scf.trips lb ub st)) (kk ⟨⟩) Q) :
    Ok d c i H (Scf.for lb ub st hok PUnit.unit body >>= kk) Q := by
  unfold Ok at hb hk ⊢
  refine h0.trans ?_
  iintro HI
  iapply (Scf.wp_for_bind frame (wpE (defs₀ (F := F)) 𝒱₀ (V d c i) none) Set.univ lb ub st hok PUnit.unit body (fun n _ => I n) (fun k acc => hb k acc)) $$ HI
  iintro %acc HI
  iapply hk $$ HI

/-! ## The staged output -/

/-- A printed offset in closed form. -/
theorem closed_eq {k : ℕ} {of z : Fin k → ℕ} [C : ClosedOff of] (h : C.form = z) : of = z := C.eq.trans h

/-- Batch row `j` of a group of sixteen. -/
abbrev lane (j : Fin 16) : S16.Idx := Shape.ofLane (d := ![16]) j

/-- The lanes' offsets in a state buffer, one row of seventeen words a lane. -/
def stride17 : IVec S16 32 := muli (iota .scVector S16 32 [0] iota_S16_d0_w32_scVector) (broadcast S16 17#32)

theorem stride17_add (k : ℕ) (hk : k < 1000) (l : S16.Idx) : (addi stride17 (broadcast S16 (BitVec.ofNat 32 k)) l).toNat = 17 * (l 0).val + k := by
  have hl : (l 0).val < 16 := (l 0).isLt
  show ((iota .scVector S16 32 [0] iota_S16_d0_w32_scVector l) * 17#32 + BitVec.ofNat 32 k).toNat = _
  rw [iota_single_apply]
  simp only [BitVec.toNat_add, BitVec.toNat_mul, BitVec.toNat_ofNat]
  omega

/-- The staged output holds, in slots below `r` and in the first `n` sixteenths of slot `r` (row by row), the states `st` (slot by slot, state by state). -/
def Emit (d : Dev nD) (c : Fin τ.nSC) (i : Fin τ.nSub) (m : Memref sig .scVector .vmem S16x4160 .f32) (st : ℕ → Fin 64 → Vc F) (r n : ℕ) : Assn F :=
  iprop(∃ f : Buf (Elt F) (m.view.loc (V d c i)), ⌜∀ y : S16x4160.Idx, ((y 1).val < 64 * r ∨ ((y 1).val < 64 * r + 64 ∧ 4 * (y 0).val + (y 1).val % 64 / 16 < n)) →
    m.view.read (Elt F) f y = st ((y 1).val / 64) ⟨(y 1).val % 64, Nat.mod_lt _ (by norm_num)⟩ (lane ⟨(y 0).val, (y 0).isLt⟩)⌝ ∗ m.view.loc (V d c i) ↦{fullShare} f)

theorem emit_next {d : Dev nD} {c : Fin τ.nSC} {i : Fin τ.nSub} {m : Memref sig .scVector .vmem S16x4160 .f32} {st : ℕ → Fin 64 → Vc F} {r : ℕ} :
    (Emit d c i m st r 64 : Assn F) ⊢ Emit d c i m st (r + 1) 0 := by
  unfold Emit
  iintro ⟨%f, %hf, H⟩
  iexists f; isplitr
  · ipureintro
    intro y hy
    refine hf y ?_
    have : (y 0).val < 16 := (y 0).isLt
    omega
  · iexact H

section Run

variable {d : Dev nD} {c : Fin τ.nSC} {i : Fin τ.nSub} {α : Type} {A B X W T : Assn F} {Q : α → Assn F}
variable {m : Memref sig .scVector .vmem S1088 .f32} {mt : Memref sig .scVector .vmem S16x4160 .f32} {a : Fin 64 → Vc F} {st : ℕ → Fin 64 → Vc F} {r n n' : ℕ}

/-- Sixteen states of one batch row. -/
def colOf (a : Fin 64 → Vc F) (g j : ℕ) (hg : g < 4) (hj : j < 16) : Vc F :=
  fun l => a ⟨16 * g + (l 0).val, by have : (l 0).val < 16 := (l 0).isLt; omega⟩ (lane ⟨j, hj⟩)

/-- A load of a whole state buffer: sixteen of its words, one of each of sixteen rows, are those rows' values at one batch row. -/
theorem rows_gather {v : IVec S16 32} {j g : ℕ} (hj : j < 16) (hg : g < 4) (hv : v = addi stride17 (broadcast S16 (BitVec.ofNat 32 (272 * g + j))))
    {hl : m.view.LoadsAt (.whole S1088)} {k : Vec F S1088 .f32 → Pg c i F α}
    (hk : ∀ f : Vec F S1088 .f32, (∀ h, loadIdx f ![v] h = colOf a g j hg hj) → (iprop(Rows d c i m a ∗ B) : Assn F) ⊢ wp frame (wpE (defs₀ (F := F)) 𝒱₀ (V d c i) none) Set.univ (k f) Q) :
    (iprop(Rows d c i m a ∗ B) : Assn F) ⊢ wp frame (wpE (defs₀ (F := F)) 𝒱₀ (V d c i) none) Set.univ (.op (.load m (.whole S1088) hl) k) Q := by
  iintro ⟨HR, HB⟩
  ihave HR := (show (Rows d c i m a : Assn F) ⊢ iprop(∃ f : Buf (Elt F) (m.view.loc (V d c i)), ⌜∀ s, (m.access (rowRect s)).read (Elt F) f = a s⌝ ∗ m.view.loc (V d c i) ↦{fullShare} f) from .rfl) $$ HR
  icases HR with ⟨%f, %hf, H⟩
  have hcol : ∀ h, loadIdx ((m.access (.whole S1088)).read (Elt F) f) ![v] h = colOf a g j hg hj := by
    intro h
    funext l
    have hl' : (l 0).val < 16 := (l 0).isLt
    unfold colOf
    rw [← hf]
    show m.view.read (Elt F) f _ = m.view.read (Elt F) f _
    congr 1
    funext b
    fin_cases b
    apply Fin.ext
    show 0 + 1 * (v l).toNat = 17 * (16 * g + (l 0).val) + 1 * j
    rw [hv, stride17_add _ (by omega)]
    omega
  iapply (wp_load_rect 𝒱₀ (V d c i) none Set.univ (m := m) (S := Finset.univ) (r := Rect.whole S1088) (Finset.subset_univ _)) $$ H
  iintro H
  iapply (hk ((m.access (.whole S1088)).read (Elt F) f) hcol)
  isplitl [H]
  · unfold Rows
    iexists f; isplitr
    · ipureintro; exact hf
    · iexact H
  · iexact HB

/-- Part of a row of the staged output stored. -/
theorem emit_store {of : Fin 2 → ℕ} {h : ∀ j, of j + S1x16.size j ≤ S16x4160.size j} {col : Vc F}
    {hx : (mt.access (Rect.unit (s := S16x4160) of S1x16.size h)).Stores Finset.univ}
    {hm : Finset.univ = Finset.univ ∨ ∀ j, (Rect.unit (s := S16x4160) of S1x16.size h).stride j = 1}
    {k : PUnit → Pg c i F α} {j g : ℕ} (hj : j < 16) (hg : g < 4) (hn : 4 * j + g = n) (ho : of = ![j, 64 * r + 16 * g])
    (hcol : ∀ l : S16.Idx, col l = st r ⟨16 * g + (l 0).val, by have : (l 0).val < 16 := (l 0).isLt; omega⟩ (lane ⟨j, hj⟩)) :
    (Emit d c i mt st r n : Assn F) ⊢ iprop((Emit d c i mt st r (n + 1) -∗ wp frame (wpE (defs₀ (F := F)) 𝒱₀ (V d c i) none) Set.univ (k ⟨⟩) Q)
      -∗ wp frame (wpE (defs₀ (F := F)) 𝒱₀ (V d c i) none) Set.univ
        (.op (.store mt (Rect.unit (s := S16x4160) of S1x16.size h) (shapeCast S1x16 col shapeCasts_S16_S1x16) Finset.univ hx hm) k) Q) := by
  subst ho
  unfold Emit
  iintro ⟨%f, %hf, H⟩ Hk
  iapply (wp_store 𝒱₀ (V d c i) none Set.univ (m := mt) (S := Finset.univ) (r := Rect.unit (s := S16x4160) ![j, 64 * r + 16 * g] S1x16.size h)
    (Mk := Finset.univ) (Finset.subset_univ _)) $$ H
  iintro H
  iapply Hk
  iexists _; isplitr
  swap
  · iexact H
  · ipureintro; intro y hy
    have hy0 : (y 0).val < 16 := (y 0).isLt
    by_cases hin : (y 0).val = j ∧ 64 * r + 16 * g ≤ (y 1).val ∧ (y 1).val < 64 * r + 16 * g + 16
    · obtain ⟨e0, e1, e2⟩ := hin
      let l : S16.Idx := lane ⟨(y 1).val - (64 * r + 16 * g), by omega⟩
      let z : S1x16.Idx := Fin.cons ⟨0, Nat.one_pos⟩ l
      have hz : (Rect.unit (s := S16x4160) ![j, 64 * r + 16 * g] S1x16.size h).emb z = y := by
        funext b
        fin_cases b
        · apply Fin.ext
          show j + 1 * 0 = (y 0).val
          omega
        · apply Fin.ext
          show 64 * r + 16 * g + 1 * ((y 1).val - (64 * r + 16 * g)) = (y 1).val
          omega
      have hw := congrFun (View.read_write_univ (v := mt.access (Rect.unit (s := S16x4160) ![j, 64 * r + 16 * g] S1x16.size h)) f (shapeCast S1x16 col shapeCasts_S16_S1x16)) z
      rw [← hz]
      refine hw.trans ?_
      rw [shapeCast_addUnit_apply (d := ![16])]
      refine (hcol _).trans ?_
      rw [hz]
      have q1 : (y 1).val / 64 = r := by omega
      have q2 : (y 1).val % 64 = 16 * g + ((y 1).val - (64 * r + 16 * g)) := by omega
      rw [q1]
      exact congrArg₂ (fun s y => st r s y) (Fin.ext q2.symm) (congrArg lane (Fin.ext e0.symm))
    · rw [← hf y ?_]
      · refine View.read_slice_write_of_not_mem (v := mt.view) (Rect.unit (s := S16x4160) ![j, 64 * r + 16 * g] S1x16.size h) f _ Finset.univ (y := y) ?_
        rw [Rect.map_emb_univ]
        by_cases e0 : (y 0).val = j
        · refine Rect.not_mem_set_of_axis _ _ 1 (64 * r + 16 * g) 16 rfl rfl rfl ?_
          omega
        · refine Rect.not_mem_set_of_axis _ _ 0 j 1 rfl rfl rfl ?_
          omega
      · omega

/-- A gather at the head of a program. -/
theorem ok_gath {v : IVec S16 32} {P : Prop} {dP : Decidable P} {hl : m.view.LoadsAt (.whole S1088)} {k : PLift P → Vec F S1088 .f32 → Pg c i F α}
    {j g k272 : ℕ} (hj' : n / 4 = j) (hg' : n % 4 = g) (hn : n < 64) (hk272 : 272 * g + j = k272)
    (hv : v = addi stride17 (broadcast S16 (BitVec.ofNat 32 k272))) (hP : (∀ b x, ((![v] : Fin 1 → IVec S16 32) b x).toNat < S1088.size b) → P)
    (hk : ∀ hp f, (∀ h, loadIdx f ![v] h = colOf a g j (by omega) (by omega)) → Ok d c i (Hold (Rows d c i m a) B X W (Emit d c i mt st r n)) (k hp f) Q) :
    Ok d c i (Hold (Rows d c i m a) B X W (Emit d c i mt st r n)) (.op (.assume P dP) fun hw => .op (.load m (.whole S1088) hl) (k hw)) Q := by
  have hjj : j < 16 := by omega
  have hgg : g < 4 := by omega
  subst hk272
  have hp : P := hP fun b x => by
    fin_cases b
    show (v x).toNat < 1088
    have : (x 0).val < 16 := (x 0).isLt
    rw [hv, stride17_add _ (by omega)]
    omega
  unfold Ok
  rw [wp_assume_of _ _ _ _ hp]
  exact rows_gather hjj hgg hv fun f hf => hk ⟨hp⟩ f hf

/-- A load of the staged output, its value unused. -/
theorem ok_ldT {of : Fin 2 → ℕ} {h : ∀ j, of j + S1x16.size j ≤ S16x4160.size j}
    {hl' : mt.view.LoadsAt (Rect.unit (s := S16x4160) of S1x16.size h).toLoadRect} {k : FVec F S1x16 .f32 → Pg c i F α}
    (hk : ∀ z, Ok d c i (Hold A B X W (Emit d c i mt st r n)) (k z) Q) :
    Ok d c i (Hold A B X W (Emit d c i mt st r n)) (.op (.load mt (Rect.unit (s := S16x4160) of S1x16.size h).toLoadRect hl') k) Q := by
  have hk' : ∀ z, (Hold A B X W (Emit d c i mt st r n) : Assn F) ⊢ wp frame (wpE (defs₀ (F := F)) 𝒱₀ (V d c i) none) Set.univ (k z) Q := hk
  unfold Ok
  refine (hold_T (A := A)).trans ?_
  iintro ⟨HT, HR⟩
  ihave HT := (show (Emit d c i mt st r n : Assn F) ⊢ iprop(∃ f : Buf (Elt F) (mt.view.loc (V d c i)), ⌜∀ y : S16x4160.Idx, ((y 1).val < 64 * r ∨ ((y 1).val < 64 * r + 64 ∧ 4 * (y 0).val + (y 1).val % 64 / 16 < n)) →
    mt.view.read (Elt F) f y = st ((y 1).val / 64) ⟨(y 1).val % 64, Nat.mod_lt _ (by norm_num)⟩ (lane ⟨(y 0).val, (y 0).isLt⟩)⌝ ∗ mt.view.loc (V d c i) ↦{fullShare} f) from .rfl) $$ HT
  icases HT with ⟨%f, %hf, H⟩
  iapply (wp_load_rect 𝒱₀ (V d c i) none Set.univ (m := mt) (S := Finset.univ) (r := Rect.unit (s := S16x4160) of S1x16.size h) (Finset.subset_univ _)) $$ H
  iintro H
  iapply (hk' _)
  iapply (hold_T' (A := A))
  isplitl [H]
  · unfold Emit
    iexists f; isplitr
    · ipureintro; exact hf
    · iexact H
  · iexact HR

/-- The store of a sixteenth of a slot. -/
theorem ok_stT {of : Fin 2 → ℕ} {h : ∀ j, of j + S1x16.size j ≤ S16x4160.size j} {col : Vc F}
    {hx : (mt.access (Rect.unit (s := S16x4160) of S1x16.size h)).Stores Finset.univ}
    {hm : Finset.univ = Finset.univ ∨ ∀ j, (Rect.unit (s := S16x4160) of S1x16.size h).stride j = 1}
    {k : PUnit → Pg c i F α} {j g k16 C : ℕ} (hn' : n + 1 = n') (hj' : n / 4 = j) (hg' : n % 4 = g) (hn : n < 64) (hk16 : 16 * g = k16)
    (hC : 64 * r = C) (ha : st r = a) (ho : of = ![j, C + k16]) (hcol : col = colOf a g j (by omega) (by omega))
    (hk : Ok d c i (Hold A B X W (Emit d c i mt st r n')) (k ⟨⟩) Q) :
    Ok d c i (Hold A B X W (Emit d c i mt st r n))
      (.op (.store mt (Rect.unit (s := S16x4160) of S1x16.size h) (shapeCast S1x16 col shapeCasts_S16_S1x16) Finset.univ hx hm) k) Q := by
  subst hk16 hC hn' hcol ha
  exact ok_step hold_T hold_T' (emit_store (by omega) (by omega) (by omega) ho fun l => rfl) hk

/-- One sixteenth of a slot: a gather, a load unused, a store. -/
theorem ok_emit {v : IVec S16 32} {P : Prop} {dP : Decidable P} {idx : PLift P → ∀ b x, ((![v] : Fin 1 → IVec S16 32) b x).toNat < S1088.size b}
    {hl : m.view.LoadsAt (.whole S1088)} {of : Fin 2 → ℕ} {h : ∀ j, of j + S1x16.size j ≤ S16x4160.size j}
    {hl' : mt.view.LoadsAt (Rect.unit (s := S16x4160) of S1x16.size h).toLoadRect}
    {hx : (mt.access (Rect.unit (s := S16x4160) of S1x16.size h)).Stores Finset.univ}
    {hm : Finset.univ = Finset.univ ∨ ∀ j, (Rect.unit (s := S16x4160) of S1x16.size h).stride j = 1}
    {k : Pg c i F α} {j g k272 k16 C : ℕ} (hC : 64 * r = C) (ha : st r = a)
    (hn' : n + 1 = n') (hj' : n / 4 = j) (hg' : n % 4 = g) (hn : n < 64) (hk272 : 272 * g + j = k272) (hk16 : 16 * g = k16)
    (hv : v = addi stride17 (broadcast S16 (BitVec.ofNat 32 k272))) (ho : of = ![j, C + k16]) (hP : (∀ b x, ((![v] : Fin 1 → IVec S16 32) b x).toNat < S1088.size b) → P)
    (hk : Ok d c i (Hold (Rows d c i m a) B X W (Emit d c i mt st r n')) k Q) :
    Ok d c i (Hold (Rows d c i m a) B X W (Emit d c i mt st r n))
      (.op (.assume P dP) fun hw => .op (.load m (.whole S1088) hl) fun (f : Vec F S1088 .f32) =>
        .op (.load mt (Rect.unit (s := S16x4160) of S1x16.size h).toLoadRect hl') fun _ =>
        .op (.store mt (Rect.unit (s := S16x4160) of S1x16.size h) (shapeCast S1x16 (loadIdx f ![v] (idx hw)) shapeCasts_S16_S1x16) Finset.univ hx hm) fun _ => k) Q :=
  ok_gath hj' hg' hn hk272 hv hP fun hp f hf => ok_ldT fun _ => ok_stT hn' hj' hg' hn hk16 hC ha ho (hf _) hk

end Run

end Cert.Proof

end
-- ==== Proof.Ph1.lean ====
/-
  A round of the unweighted loop: two trellis steps, from the first state buffer to the second and back.
-/
module

public import proofs.«01_k».proof.Proof.Rules

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

/-- The state after a round: two unweighted steps. -/
def roundU (x : S4096.Idx → F .f32) (t1 : Fin k0_t1_loop.trips) (t2 : Fin k0_t2_loop.trips) (a : Fin 64 → Vc F) : Fin 64 → Vc F :=
  norm (acs (norm (acs a (sel (xrow x (k0_off2 t1 t2) (k0_off2_inb t1 t2)) (xrow x (k0_off3 t1 t2) (k0_off3_inb t1 t2)))))
    (sel (xrow x (k0_off4 t1 t2) (k0_off4_inb t1 t2)) (xrow x (k0_off5 t1 t2) (k0_off5_inb t1 t2))))

set_option maxHeartbeats 0 in
set_option maxRecDepth 100000 in
/-- The round's text but its last row: what is left to write is the last row less the mean. -/
theorem roundU_run (d : Dev nD) (t1 : Fin k0_t1_loop.trips) (v16 c0 c1 : BitVec 32) (t2 : Fin k0_t2_loop.trips) (a b : Fin 64 → Vc F)
    (x : S4096.Idx → F .f32) (R W T : Assn F) :
    Ok d (cOf i) (jOf i) (Hold (Rows d (cOf i) (jOf i) arg7 a) (Rows d (cOf i) (jOf i) arg8 b) (InX d (cOf i) (jOf i) arg5 x R) W T)
      (k0_part46 i arg2 harg2 arg3 harg3 arg4 harg4 arg5 harg5 arg6 harg6 arg7 harg7 arg8 harg8 arg9 harg9 arg10 v16_r0 v16_r1 t1 v16 c0 c1 t2)
      fun v => iprop(∃ o : Fin 64 → Vc F, ∃ b' : Fin 64 → Vc F, ⌜norm o = roundU x t1 t2 a ∧ v = meanOf o⌝ ∗
        Hold (Rows d (cOf i) (jOf i) arg8 b') (Rows d (cOf i) (jOf i) arg7 (part Fin.val (norm o) o 63)) (InX d (cOf i) (jOf i) arg5 x R) W T) := by
  refine ok_ldX (ok_ldX ?_)
  refine ok_begin acsPos (acs a (sel (xrow x (k0_off2 t1 t2) (k0_off2_inb t1 t2)) (xrow x (k0_off3 t1 t2) (k0_off3_inb t1 t2)))) ?_
  iterate 32
    refine ok_acs (by simp only [Nat.reduceAdd]; rfl) (by simp only [Nat.reduceAdd]; rfl) (by simp only [Nat.reduceDiv]; rfl) (by simp only [Nat.reduceAdd, Nat.reduceDiv]; rfl) (by decide) (by decide) rfl rfl rfl rfl (by exact rfl) (by exact rfl) ?_
  refine ok_end acsPos_lt (ok_begin Fin.val (norm (acs a (sel (xrow x (k0_off2 t1 t2) (k0_off2_inb t1 t2)) (xrow x (k0_off3 t1 t2) (k0_off3_inb t1 t2))))) ?_)
  iterate 64
    refine ok_norm (by simp only [Nat.reduceAdd]; rfl) (by decide) rfl rfl (by exact rfl) ?_
  refine ok_end val_lt (ok_swap ?_)
  unfold roundU
  generalize norm (acs a (sel (xrow x (k0_off2 t1 t2) (k0_off2_inb t1 t2)) (xrow x (k0_off3 t1 t2) (k0_off3_inb t1 t2)))) = a1
  refine ok_ldX (ok_ldX ?_)
  refine ok_begin acsPos (acs a1 (sel (xrow x (k0_off4 t1 t2) (k0_off4_inb t1 t2)) (xrow x (k0_off5 t1 t2) (k0_off5_inb t1 t2)))) ?_
  iterate 32
    refine ok_acs (by simp only [Nat.reduceAdd]; rfl) (by simp only [Nat.reduceAdd]; rfl) (by simp only [Nat.reduceDiv]; rfl) (by simp only [Nat.reduceAdd, Nat.reduceDiv]; rfl) (by decide) (by decide) rfl rfl rfl rfl (by exact rfl) (by exact rfl) ?_
  refine ok_end acsPos_lt (ok_begin Fin.val (norm (acs a1 (sel (xrow x (k0_off4 t1 t2) (k0_off4_inb t1 t2)) (xrow x (k0_off5 t1 t2) (k0_off5_inb t1 t2))))) ?_)
  iterate 63
    refine ok_norm (by simp only [Nat.reduceAdd]; rfl) (by decide) rfl rfl (by exact rfl) ?_
  refine ok_ret ?_
  iintro H
  iexists _, _
  isplitr
  swap
  · iexact H
  · ipureintro; exact ⟨rfl, rfl⟩

end Cert.Proof

end
-- ==== Proof.Pass.lean ====
/-
  A pass over sixteen batch rows: the state's start, the unweighted loop, the two steps between the loops, and the second one's states staged
  (through the place where the printed text is cut).
-/
module

public import proofs.«01_k».proof.Proof.Emit
public import proofs.«01_k».proof.Proof.Ph1

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

section Rules

variable {d : Dev nD} {c : Fin τ.nSC} {i : Fin τ.nSub} {α : Type} {A B X W T : Assn F} {Q : α → Assn F}
variable {m : Memref sig .scVector .vmem S1088 .f32} {b o : Fin 64 → Vc F} {n n' : ℕ} {of0 : Fin 1 → ℕ} {h0 : ∀ j, of0 j + S16.size j ≤ S1088.size j}

/-- A hold of something unnamed. -/
theorem ok_exists {β : Sort _} {H : β → Assn F} {p : Pg c i F α} (h : ∀ b, Ok d c i (H b) p Q) : Ok d c i iprop(∃ b, H b) p Q := exists_elim h

/-- What is still to be shown of a run, as a run. -/
theorem ok_goal {H : Assn F} {p : Pg c i F α} (h : Ok d c i H p Q) : H ⊢ wp frame (wpE (defs₀ (F := F)) 𝒱₀ (V d c i) none) Set.univ p Q := h

/-- A program's end runs on into the program after it. -/
theorem ok_unbind {β : Type} {H : Assn F} {p : Pg c i F β} {g : β → Pg c i F α} (h : Ok d c i H (p >>= g) Q) :
    Ok d c i H p fun v => wp frame (wpE (defs₀ (F := F)) 𝒱₀ (V d c i) none) Set.univ (g v) Q := by
  unfold Ok at h ⊢
  rwa [wp_bind] at h

/-- A row set (read once before it is written, the value unused). -/
theorem ok_init {hl0 : m.view.LoadsAt (Rect.unit (s := S1088) of0 S16.size h0).toLoadRect}
    {hx0 : (m.access (Rect.unit (s := S1088) of0 S16.size h0)).Stores Finset.univ}
    {hm0 : Finset.univ = Finset.univ ∨ ∀ j, (Rect.unit (s := S1088) of0 S16.size h0).stride j = 1}
    {v : Vc F} {kk : Pg c i F α} (hn' : n + 1 = n') (hn : n < 64) (ho0 : of0 = ![17 * n]) (hv : v = o ⟨n, hn⟩)
    (hk : Ok d c i (Hold A (Rows d c i m (part Fin.val o b n')) X W T) kk Q) :
    Ok d c i (Hold A (Rows d c i m (part Fin.val o b n)) X W T)
      (.op (.load m (Rect.unit (s := S1088) of0 S16.size h0).toLoadRect hl0) fun _ =>
        .op (.store m (Rect.unit (s := S1088) of0 S16.size h0) v Finset.univ hx0 hm0) fun _ => kk) Q := by
  refine ok_ldB_part ⟨n, hn⟩ rfl ho0 (ok_stB_part Fin.val_injective ⟨n, hn⟩ rfl ho0 hv ?_)
  subst hn'
  exact hk

end Rules

/-- The state before the first step: `20` in state `0`, `0` in the others. -/
def start (s : Fin 64) : Vc F := bif Nat.beq s.val 0 then broadcast S16 (FloatOps.ofBits .f32 0x41A00000#32) else broadcast S16 (FloatOps.ofBits .f32 0x00000000#32)

/-- The state after `n` unweighted rounds. -/
def afterU (x : S4096.Idx → F .f32) (t1 : Fin k0_t1_loop.trips) : ℕ → Fin 64 → Vc F
  | 0 => start
  | n + 1 => if h : n < k0_t2_loop.trips then roundU x t1 ⟨n, h⟩ (afterU x t1 n) else afterU x t1 n

/-- The branch metrics of the two steps between the loops. -/
def metric124 (x : S4096.Idx → F .f32) (t1 : Fin k0_t1_loop.trips) : Fin 64 → Vc F :=
  sel (xrow x (k0_off6 t1 3968#32) (k0_off6_inb t1 0)) (xrow x (k0_off6 t1 4000#32) (k0_off6_inb t1 1))
def metric126 (x : S4096.Idx → F .f32) (w : S4160.Idx → F .f32) (t1 : Fin k0_t1_loop.trips) : Fin 64 → Vc F :=
  wsel ![wrow w ![0] inb_S4160_S16_0, wrow w ![16] inb_S4160_S16_16, wrow w ![32] inb_S4160_S16_32, wrow w ![48] inb_S4160_S16_48]
    (xrow x (k0_off6 t1 4032#32) (k0_off6_inb t1 2)) (xrow x (k0_off6 t1 4064#32) (k0_off6_inb t1 3))

/-- The state after the steps between the loops: the first state put out. -/
def firstOut (x : S4096.Idx → F .f32) (w : S4160.Idx → F .f32) (t1 : Fin k0_t1_loop.trips) : Fin 64 → Vc F :=
  norm (acs (norm (acs (afterU x t1 k0_t2_loop.trips) (metric124 x t1))) (metric126 x w t1))

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

/-- What the text does before it stages a state: in the second pass it waits for the first pass's copy; then `k`. -/
abbrev waitPrev (t1 : Fin k0_t1_loop.trips) {α : Type} (k : Pg (cOf i) (jOf i) F α) : Pg (cOf i) (jOf i) F α :=
  if h : k0_cond1 t1 = 1#1 then do
    Prog.lift (.waitDma2 arg10.sem arg9 (arg4.slice (Rect.unit (s := S1024x4160) (k0_off7 i t1) S16x4160.size (k0_off7_inb i t1 h)) (fun _ => rfl)) harg9.wordExact (View.wordExact_bits rfl))
    k
  else k

set_option maxHeartbeats 0 in
set_option maxRecDepth 100000 in
/-- The pass's first part; `T` and `R` are what the tile holds of the staged output and of the copies before, `R'` after. -/
theorem pass_run (d : Dev nD) (t1 : Fin k0_t1_loop.trips) (v1 : BitVec 32) (a b : Fin 64 → Vc F)
    (x : S4096.Idx → F .f32) (w : S4160.Idx → F .f32) (R R' T : Assn F) (st : ℕ → Fin 64 → Vc F) (hst : st 0 = firstOut x w t1)
    (hwait : ∀ (α : Type) (A B W : Assn F) (k : Pg (cOf i) (jOf i) F α) (Q : α → Assn F),
      Ok d (cOf i) (jOf i) (Hold A B (InX d (cOf i) (jOf i) arg5 x R') W (Emit d (cOf i) (jOf i) arg9 st 0 0)) k Q →
      Ok d (cOf i) (jOf i) (Hold A B (InX d (cOf i) (jOf i) arg5 x R) W T) (waitPrev i arg4 arg9 harg9 arg10 t1 k) Q) :
    Ok d (cOf i) (jOf i) (Hold (Rows d (cOf i) (jOf i) arg7 a) (Rows d (cOf i) (jOf i) arg8 b) (InX d (cOf i) (jOf i) arg5 x R) (InW d (cOf i) (jOf i) arg6 w) T)
      (k0_part196 i arg2 harg2 arg3 harg3 arg4 harg4 arg5 harg5 arg6 harg6 arg7 harg7 arg8 harg8 arg9 harg9 arg10 v16_r0 v16_r1 v1 stride17 (broadcast S16 (FloatOps.ofBits .f32 0x41A00000#32)) (broadcast S16 (FloatOps.ofBits .f32 0x00000000#32)) 0#32 1#32 t1)
      fun r => iprop(∃ b' : Fin 64 → Vc F, ⌜r.2.2.1 = colOf (firstOut x w t1) 1 9 (by decide) (by decide)⌝ ∗
        Hold (Rows d (cOf i) (jOf i) arg7 (firstOut x w t1)) (Rows d (cOf i) (jOf i) arg8 b') (InX d (cOf i) (jOf i) arg5 x R') (InW d (cOf i) (jOf i) arg6 w) (Emit d (cOf i) (jOf i) arg9 st 0 37)) := by
  refine ok_swap (ok_begin Fin.val start ?_)
  iterate 63
    refine ok_init (by simp only [Nat.reduceAdd]; rfl) (by decide) rfl (by exact rfl) ?_
  refine ok_ldB_part ⟨63, by decide⟩ rfl rfl (ok_stB_part Fin.val_injective ⟨63, by decide⟩ rfl rfl (by exact rfl) ?_)
  refine ok_end val_lt (ok_swap ?_)
  refine ok_bind (ok_for (I := fun n => iprop(∃ b' : Fin 64 → Vc F, Hold (Rows d (cOf i) (jOf i) arg7 (afterU x t1 n)) (Rows d (cOf i) (jOf i) arg8 b') (InX d (cOf i) (jOf i) arg5 x R) (InW d (cOf i) (jOf i) arg6 w) T)) ?_ ?_ ?_)
  · iintro H
    iexists b
    iexact H
  · intro k acc
    refine ok_exists fun b' => ?_
    refine ok_bind (ok_mono (roundU_run i arg2 harg2 arg3 harg3 arg4 harg4 arg5 harg5 arg6 harg6 arg7 harg7 arg8 harg8 arg9 harg9 arg10 v16_r0 v16_r1 d t1 _ _ _ k (afterU x t1 k.val) b' x R (InW d (cOf i) (jOf i) arg6 w) T) fun v => ?_)
    refine ok_exists fun o => ok_exists fun b'' => ok_pure fun ⟨ho, hv⟩ => ?_
    subst hv
    refine ok_norm (n := 63) rfl (by decide) rfl rfl (by exact rfl) ?_
    refine ok_end val_lt (ok_ret ?_)
    rw [hold_swap, ho, show afterU x t1 (k.val + 1) = roundU x t1 k (afterU x t1 k.val) from dif_pos k.isLt]
    iintro H
    iexists b''
    iexact H
  · refine ok_exists fun b' => ok_unbind ?_
    unfold firstOut metric124 metric126 at hst ⊢
    change Ok _ _ _ (Hold (Rows _ _ _ _ (afterU x t1 k0_t2_loop.trips)) _ _ _ _) _ _
    generalize afterU x t1 k0_t2_loop.trips = a0 at hst ⊢
    refine ok_ldX (ok_ldX ?_)
    refine ok_begin acsPos (acs a0 (sel (xrow x (k0_off6 t1 3968#32) (k0_off6_inb t1 0)) (xrow x (k0_off6 t1 4000#32) (k0_off6_inb t1 1)))) ?_
    iterate 32
      refine ok_acs (by simp only [Nat.reduceAdd]; rfl) (by simp only [Nat.reduceAdd]; rfl) (by simp only [Nat.reduceDiv]; rfl) (by simp only [Nat.reduceAdd, Nat.reduceDiv]; rfl) (by decide) (by decide) rfl rfl rfl rfl (by exact rfl) (by exact rfl) ?_
    refine ok_end acsPos_lt (ok_begin Fin.val (norm (acs a0 (sel (xrow x (k0_off6 t1 3968#32) (k0_off6_inb t1 0)) (xrow x (k0_off6 t1 4000#32) (k0_off6_inb t1 1))))) ?_)
    iterate 63
      refine ok_norm (by simp only [Nat.reduceAdd]; rfl) (by decide) rfl rfl (by exact rfl) ?_
    refine ok_ldB_part ⟨63, by decide⟩ rfl rfl (ok_ldB_part ⟨63, by decide⟩ rfl rfl (ok_stB_part Fin.val_injective ⟨63, by decide⟩ rfl rfl (by exact rfl) ?_))
    refine ok_end val_lt (ok_swap ?_)
    generalize norm (acs a0 (sel (xrow x (k0_off6 t1 3968#32) (k0_off6_inb t1 0)) (xrow x (k0_off6 t1 4000#32) (k0_off6_inb t1 1)))) = a1 at hst ⊢
    refine ok_bind (ok_ret (ok_goal ?_))
    refine ok_bind ?_
    unfold k0_part157
    refine hwait _ _ _ _ _ _ (ok_unbind ?_)
    refine ok_ldX (ok_ldX (ok_ldW (ok_ldW (ok_ldW (ok_ldW ?_)))))
    refine ok_begin acsPos (acs a1 (wsel ![wrow w ![0] inb_S4160_S16_0, wrow w ![16] inb_S4160_S16_16, wrow w ![32] inb_S4160_S16_32, wrow w ![48] inb_S4160_S16_48]
    (xrow x (k0_off6 t1 4032#32) (k0_off6_inb t1 2)) (xrow x (k0_off6 t1 4064#32) (k0_off6_inb t1 3)))) ?_
    iterate 32
      refine ok_acs (by simp only [Nat.reduceAdd]; rfl) (by simp only [Nat.reduceAdd]; rfl) (by simp only [Nat.reduceDiv]; rfl) (by simp only [Nat.reduceAdd, Nat.reduceDiv]; rfl) (by decide) (by decide) rfl rfl rfl rfl (by exact rfl) (by exact rfl) ?_
    refine ok_end acsPos_lt (ok_begin Fin.val (norm (acs a1 (wsel ![wrow w ![0] inb_S4160_S16_0, wrow w ![16] inb_S4160_S16_16, wrow w ![32] inb_S4160_S16_32, wrow w ![48] inb_S4160_S16_48]
    (xrow x (k0_off6 t1 4032#32) (k0_off6_inb t1 2)) (xrow x (k0_off6 t1 4064#32) (k0_off6_inb t1 3))))) ?_)
    iterate 64
      refine ok_norm (by simp only [Nat.reduceAdd]; rfl) (by decide) rfl rfl (by exact rfl) ?_
    refine ok_end val_lt (ok_swap ?_)
    generalize norm (acs a1 (wsel ![wrow w ![0] inb_S4160_S16_0, wrow w ![16] inb_S4160_S16_16, wrow w ![32] inb_S4160_S16_32, wrow w ![48] inb_S4160_S16_48]
    (xrow x (k0_off6 t1 4032#32) (k0_off6_inb t1 2)) (xrow x (k0_off6 t1 4064#32) (k0_off6_inb t1 3)))) = a2 at hst ⊢
    iterate 37
      refine ok_emit (C := 0) rfl hst (by simp only [Nat.reduceAdd]; rfl) (by simp only [Nat.reduceDiv]; rfl) (by simp only [Nat.reduceMod]; rfl) (by decide) (by simp only [Nat.reduceMul, Nat.reduceAdd]; rfl) (by simp only [Nat.reduceMul]; rfl) (by exact rfl) (by exact rfl) (fun h => h) ?_
    refine ok_gath (n := 37) rfl rfl (by decide) rfl (by exact rfl) (fun h => h) fun hp f hf => ok_ldT fun z => ok_ret ?_
    iintro H
    iexists _
    isplitr
    swap
    · iexact H
    · ipureintro; exact hf _

end Cert.Proof

end
-- ==== Proof.Ph2.lean ====
/-
  The first three quarters of a round of the weighted loop: a weighted trellis step from the first state buffer to the second, its states staged,
  and the next step's add, compare, select.
-/
module

public import proofs.«01_k».proof.Proof.Emit

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

/-- The branch metrics of the two steps of a weighted round. -/
def metricA (x : S4096.Idx → F .f32) (w : S4160.Idx → F .f32) (t1 : Fin k0_t1_loop.trips) (t3 : Fin k0_t3_loop.trips) : Fin 64 → Vc F :=
  (wsel ![wrow w (k0_off10 t3 0#32) (k0_off10_inb t3 0), wrow w (k0_off10 t3 16#32) (k0_off10_inb t3 1), wrow w (k0_off10 t3 32#32) (k0_off10_inb t3 2), wrow w (k0_off10 t3 48#32) (k0_off10_inb t3 3)]
    (xrow x (k0_off8 t1 t3) (k0_off8_inb t1 t3)) (xrow x (k0_off9 t1 t3) (k0_off9_inb t1 t3)))
def metricB (x : S4096.Idx → F .f32) (w : S4160.Idx → F .f32) (t1 : Fin k0_t1_loop.trips) (t3 : Fin k0_t3_loop.trips) : Fin 64 → Vc F :=
  (wsel ![wrow w (k0_off77 t3 0#32) (k0_off77_inb t3 0), wrow w (k0_off77 t3 16#32) (k0_off77_inb t3 1), wrow w (k0_off77 t3 32#32) (k0_off77_inb t3 2), wrow w (k0_off77 t3 48#32) (k0_off77_inb t3 3)]
    (xrow x (k0_off75 t1 t3) (k0_off75_inb t1 t3)) (xrow x (k0_off76 t1 t3) (k0_off76_inb t1 t3)))

set_option maxHeartbeats 0 in
set_option maxRecDepth 100000 in
/-- Through the twentieth row's mean of the second step. -/
theorem roundW_run (d : Dev nD) (t1 : Fin k0_t1_loop.trips) (v16 c0 c1 : BitVec 32) (t3 : Fin k0_t3_loop.trips) (a b : Fin 64 → Vc F)
    (x : S4096.Idx → F .f32) (w : S4160.Idx → F .f32) (R : Assn F) (st : ℕ → Fin 64 → Vc F) (hst : st (2 * t3.val + 1) = norm (acs a (metricA x w t1 t3))) :
    Ok d (cOf i) (jOf i) (Hold (Rows d (cOf i) (jOf i) arg7 a) (Rows d (cOf i) (jOf i) arg8 b) (InX d (cOf i) (jOf i) arg5 x R) (InW d (cOf i) (jOf i) arg6 w)
        (Emit d (cOf i) (jOf i) arg9 st (2 * t3.val + 1) 0))
      (k0_part129 i arg2 harg2 arg3 harg3 arg4 harg4 arg5 harg5 arg6 harg6 arg7 harg7 arg8 harg8 arg9 harg9 arg10 v16_r0 v16_r1 stride17 t1 v16 c0 c1 t3)
      fun r => iprop(∃ o : Fin 64 → Vc F, ∃ b' : Fin 64 → Vc F, ⌜o = acs (norm (acs a (metricA x w t1 t3))) (metricB x w t1 t3) ∧ r.2.1 = meanOf o ∧ r.2.2 = norm o 19⌝ ∗
        Hold (Rows d (cOf i) (jOf i) arg8 b') (Rows d (cOf i) (jOf i) arg7 (part Fin.val (norm o) o 19)) (InX d (cOf i) (jOf i) arg5 x R) (InW d (cOf i) (jOf i) arg6 w)
          (Emit d (cOf i) (jOf i) arg9 st (2 * t3.val + 1) 64)) := by
  unfold metricA at hst ⊢
  unfold metricB
  refine ok_ldX (ok_ldX (ok_ldW (ok_ldW (ok_ldW (ok_ldW ?_)))))
  refine ok_begin acsPos (acs a (wsel ![wrow w (k0_off10 t3 0#32) (k0_off10_inb t3 0), wrow w (k0_off10 t3 16#32) (k0_off10_inb t3 1), wrow w (k0_off10 t3 32#32) (k0_off10_inb t3 2), wrow w (k0_off10 t3 48#32) (k0_off10_inb t3 3)]
    (xrow x (k0_off8 t1 t3) (k0_off8_inb t1 t3)) (xrow x (k0_off9 t1 t3) (k0_off9_inb t1 t3)))) ?_
  iterate 32
    refine ok_acs (by simp only [Nat.reduceAdd]; rfl) (by simp only [Nat.reduceAdd]; rfl) (by simp only [Nat.reduceDiv]; rfl) (by simp only [Nat.reduceAdd, Nat.reduceDiv]; rfl) (by decide) (by decide) rfl rfl rfl rfl (by exact rfl) (by exact rfl) ?_
  refine ok_end acsPos_lt (ok_begin Fin.val (norm (acs a (wsel ![wrow w (k0_off10 t3 0#32) (k0_off10_inb t3 0), wrow w (k0_off10 t3 16#32) (k0_off10_inb t3 1), wrow w (k0_off10 t3 32#32) (k0_off10_inb t3 2), wrow w (k0_off10 t3 48#32) (k0_off10_inb t3 3)]
    (xrow x (k0_off8 t1 t3) (k0_off8_inb t1 t3)) (xrow x (k0_off9 t1 t3) (k0_off9_inb t1 t3))))) ?_)
  iterate 64
    refine ok_norm (by simp only [Nat.reduceAdd]; rfl) (by decide) rfl rfl (by exact rfl) ?_
  refine ok_end val_lt (ok_swap ?_)
  generalize norm (acs a (wsel ![wrow w (k0_off10 t3 0#32) (k0_off10_inb t3 0), wrow w (k0_off10 t3 16#32) (k0_off10_inb t3 1), wrow w (k0_off10 t3 32#32) (k0_off10_inb t3 2), wrow w (k0_off10 t3 48#32) (k0_off10_inb t3 3)]
    (xrow x (k0_off8 t1 t3) (k0_off8_inb t1 t3)) (xrow x (k0_off9 t1 t3) (k0_off9_inb t1 t3)))) = a1 at hst ⊢
  iterate 64
    refine ok_emit (C := 128 * t3.val + 64) (by omega) hst (by simp only [Nat.reduceAdd]; rfl) (by simp only [Nat.reduceDiv]; rfl) (by simp only [Nat.reduceMod]; rfl) (by decide) (by simp only [Nat.reduceMul, Nat.reduceAdd]; rfl) (by simp only [Nat.reduceMul]; rfl) (by exact rfl) (by exact closed_eq rfl) (fun h => h) ?_
  refine ok_ldX (ok_ldX (ok_ldW (ok_ldW (ok_ldW (ok_ldW ?_)))))
  refine ok_begin acsPos (acs a1 (wsel ![wrow w (k0_off77 t3 0#32) (k0_off77_inb t3 0), wrow w (k0_off77 t3 16#32) (k0_off77_inb t3 1), wrow w (k0_off77 t3 32#32) (k0_off77_inb t3 2), wrow w (k0_off77 t3 48#32) (k0_off77_inb t3 3)]
    (xrow x (k0_off75 t1 t3) (k0_off75_inb t1 t3)) (xrow x (k0_off76 t1 t3) (k0_off76_inb t1 t3)))) ?_
  iterate 32
    refine ok_acs (by simp only [Nat.reduceAdd]; rfl) (by simp only [Nat.reduceAdd]; rfl) (by simp only [Nat.reduceDiv]; rfl) (by simp only [Nat.reduceAdd, Nat.reduceDiv]; rfl) (by decide) (by decide) rfl rfl rfl rfl (by exact rfl) (by exact rfl) ?_
  refine ok_end acsPos_lt (ok_begin Fin.val (norm (acs a1 (wsel ![wrow w (k0_off77 t3 0#32) (k0_off77_inb t3 0), wrow w (k0_off77 t3 16#32) (k0_off77_inb t3 1), wrow w (k0_off77 t3 32#32) (k0_off77_inb t3 2), wrow w (k0_off77 t3 48#32) (k0_off77_inb t3 3)]
    (xrow x (k0_off75 t1 t3) (k0_off75_inb t1 t3)) (xrow x (k0_off76 t1 t3) (k0_off76_inb t1 t3))))) ?_)
  iterate 19
    refine ok_norm (by simp only [Nat.reduceAdd]; rfl) (by decide) rfl rfl (by exact rfl) ?_
  refine ok_ldB_part ⟨19, by decide⟩ rfl rfl (ok_ldB_part ⟨19, by decide⟩ rfl rfl (ok_ret ?_))
  iintro H
  iexists _, _
  isplitr
  swap
  · iexact H
  · ipureintro; exact ⟨rfl, rfl, rfl⟩

end Cert.Proof

end
-- ==== Proof.Ph3.lean ====
/-
  The last quarter of a round of the weighted loop: the second step's rows less their mean, its states staged but for the last sixteenth's store.
-/
module

public import proofs.«01_k».proof.Proof.Emit

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

set_option maxHeartbeats 0 in
set_option maxRecDepth 100000 in
/-- From the twentieth row of the mean's subtraction through the last gather. -/
theorem roundW_end (d : Dev nD) (t3 : Fin k0_t3_loop.trips) (v3925 : BitVec 32) (o b : Fin 64 → Vc F) (X W : Assn F)
    (st : ℕ → Fin 64 → Vc F) (hst : st (2 * t3.val + 2) = norm o) :
    Ok d (cOf i) (jOf i) (Hold (Rows d (cOf i) (jOf i) arg8 b) (Rows d (cOf i) (jOf i) arg7 (part Fin.val (norm o) o 19)) X W (Emit d (cOf i) (jOf i) arg9 st (2 * t3.val + 2) 0))
      (k0_part130 i arg2 harg2 arg3 harg3 arg4 harg4 arg5 harg5 arg6 harg6 arg7 harg7 arg8 harg8 arg9 harg9 arg10 v16_r0 v16_r1 stride17 t3 v3925 (meanOf o) (norm o 19))
      fun r => iprop(⌜r.1 = colOf (norm o) 3 15 (by decide) (by decide)⌝ ∗ Hold (Rows d (cOf i) (jOf i) arg7 (norm o)) (Rows d (cOf i) (jOf i) arg8 b) X W (Emit d (cOf i) (jOf i) arg9 st (2 * t3.val + 2) 63)) := by
  refine ok_stB_part Fin.val_injective ⟨19, by decide⟩ rfl rfl rfl ?_
  iterate 44
    refine ok_norm (by simp only [Nat.reduceAdd]; rfl) (by decide) rfl rfl (by exact rfl) ?_
  refine ok_end val_lt (ok_swap ?_)
  generalize norm o = a1 at hst ⊢
  iterate 63
    refine ok_emit (C := 128 * t3.val + 128) (by omega) hst (by simp only [Nat.reduceAdd]; rfl) (by simp only [Nat.reduceDiv]; rfl) (by simp only [Nat.reduceMod]; rfl) (by decide) (by simp only [Nat.reduceMul, Nat.reduceAdd]; rfl) (by simp only [Nat.reduceMul]; rfl) (by exact rfl) (by exact closed_eq rfl) (fun h => h) ?_
  refine ok_gath (j := 15) (g := 3) rfl rfl (by decide) rfl rfl (fun h => h) fun _ f hf => ok_ret ?_
  iintro H
  isplitr
  · ipureintro; exact hf _
  · iexact H

end Cert.Proof

end
-- ==== Proof.Rest.lean ====
/-
  A pass over sixteen batch rows, from the place where the printed text is cut to the last state staged.
-/
module

public import proofs.«01_k».proof.Proof.Pass
public import proofs.«01_k».proof.Proof.Ph2
public import proofs.«01_k».proof.Proof.Ph3

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The next slot of the staged output. -/
theorem ok_slot {d : Dev nD} {c : Fin τ.nSC} {i : Fin τ.nSub} {α : Type} {A B X W : Assn F} {Q : α → Assn F} {m : Memref sig .scVector .vmem S16x4160 .f32}
    {st : ℕ → Fin 64 → Vc F} {r : ℕ} {p : Pg c i F α} (hk : Ok d c i (Hold A B X W (Emit d c i m st (r + 1) 0)) p Q) :
    Ok d c i (Hold A B X W (Emit d c i m st r 64)) p Q := by
  refine ok_of ?_ hk
  unfold Hold
  iintro ⟨HA, HB, HX, HW, HT⟩
  isplitl [HA]; · iexact HA
  isplitl [HB]; · iexact HB
  isplitl [HX]; · iexact HX
  isplitl [HW]; · iexact HW
  iapply emit_next $$ HT

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

set_option maxHeartbeats 0 in
set_option maxRecDepth 100000 in
/-- A round of the weighted loop: both of its states staged. -/
theorem roundW_all (d : Dev nD) (t1 : Fin k0_t1_loop.trips) (v16 c0 c1 : BitVec 32) (k : Fin k0_t3_loop.trips) (b : Fin 64 → Vc F)
    (x : S4096.Idx → F .f32) (w : S4160.Idx → F .f32) (R : Assn F) (st : ℕ → Fin 64 → Vc F)
    (hA : st (2 * k.val + 1) = norm (acs (st (2 * k.val)) (metricA x w t1 k)))
    (hB : st (2 * k.val + 2) = norm (acs (st (2 * k.val + 1)) (metricB x w t1 k))) :
    Ok d (cOf i) (jOf i) (Hold (Rows d (cOf i) (jOf i) arg7 (st (2 * k.val))) (Rows d (cOf i) (jOf i) arg8 b) (InX d (cOf i) (jOf i) arg5 x R) (InW d (cOf i) (jOf i) arg6 w) (Emit d (cOf i) (jOf i) arg9 st (2 * k.val + 1) 0))
      (do
        let r ← k0_part129 i arg2 harg2 arg3 harg3 arg4 harg4 arg5 harg5 arg6 harg6 arg7 harg7 arg8 harg8 arg9 harg9 arg10 v16_r0 v16_r1 stride17 t1 v16 c0 c1 k
        let q ← k0_part130 i arg2 harg2 arg3 harg3 arg4 harg4 arg5 harg5 arg6 harg6 arg7 harg7 arg8 harg8 arg9 harg9 arg10 v16_r0 v16_r1 stride17 k r.1 r.2.1 r.2.2
        let _ ← Prog.lift (.load arg9 (Rect.unit (s := S16x4160) (k0_off141 k) S1x16.size (k0_off141_inb k)).toLoadRect (View.loadsAt_vmem h_S1x16))
        Prog.lift (.store arg9 (Rect.unit (s := S16x4160) (k0_off141 k) S1x16.size (k0_off141_inb k)) (shapeCast S1x16 q.1 shapeCasts_S16_S1x16) Finset.univ (View.stores_vmem_bits_univ h_S1x16 rfl) (.inl rfl))
        pure PUnit.unit)
      fun _ => iprop(∃ b' : Fin 64 → Vc F, Hold (Rows d (cOf i) (jOf i) arg7 (st (2 * (k.val + 1)))) (Rows d (cOf i) (jOf i) arg8 b') (InX d (cOf i) (jOf i) arg5 x R) (InW d (cOf i) (jOf i) arg6 w) (Emit d (cOf i) (jOf i) arg9 st (2 * (k.val + 1) + 1) 0)) := by
  refine ok_bind (ok_mono (roundW_run i arg2 harg2 arg3 harg3 arg4 harg4 arg5 harg5 arg6 harg6 arg7 harg7 arg8 harg8 arg9 harg9 arg10 v16_r0 v16_r1 d t1 v16 c0 c1 k (st (2 * k.val)) b x w R st hA) fun r => ?_)
  obtain ⟨r1, r2, r3⟩ := r
  refine ok_exists fun o => ok_exists fun b' => ok_pure fun ⟨ho, h1, h2⟩ => ok_slot ?_
  simp only at h1 h2
  subst h1 h2
  have hst : st (2 * k.val + 2) = norm o := by rw [hB, hA, ho]
  refine ok_bind (ok_mono (roundW_end i arg2 harg2 arg3 harg3 arg4 harg4 arg5 harg5 arg6 harg6 arg7 harg7 arg8 harg8 arg9 harg9 arg10 v16_r0 v16_r1 d k r1 o b' _ _ st hst) fun q => ok_pure fun hq => ?_)
  refine ok_ldT fun z => ok_stT (n := 63) (C := 128 * k.val + 128) rfl rfl rfl (by decide) rfl (by omega) hst (by exact closed_eq rfl) hq (ok_slot (ok_ret ?_))
  rw [← hst]
  iintro H
  iexists b'
  iexact H

set_option maxHeartbeats 0 in
set_option maxRecDepth 100000 in
/-- The rest of a pass: the remaining parts of the first state staged, then the weighted loop. -/
theorem pass_rest (d : Dev nD) (t1 : Fin k0_t1_loop.trips) (v1 arg11 v16 : BitVec 32) (b : Fin 64 → Vc F) (v2214 : Vc F) (z : Vec F S1x16 .f32)
    (x : S4096.Idx → F .f32) (w : S4160.Idx → F .f32) (R : Assn F) (st : ℕ → Fin 64 → Vc F)
    (hA : ∀ k : Fin k0_t3_loop.trips, st (2 * k.val + 1) = norm (acs (st (2 * k.val)) (metricA x w t1 k)))
    (hB : ∀ k : Fin k0_t3_loop.trips, st (2 * k.val + 2) = norm (acs (st (2 * k.val + 1)) (metricB x w t1 k)))
    (hv : v2214 = colOf (st 0) 1 9 (by decide) (by decide)) :
    Ok d (cOf i) (jOf i) (Hold (Rows d (cOf i) (jOf i) arg7 (st 0)) (Rows d (cOf i) (jOf i) arg8 b) (InX d (cOf i) (jOf i) arg5 x R) (InW d (cOf i) (jOf i) arg6 w) (Emit d (cOf i) (jOf i) arg9 st 0 37))
      (do
        let v2243 ← k0_part191 i arg2 harg2 arg3 harg3 arg4 harg4 arg5 harg5 arg6 harg6 arg7 harg7 arg8 harg8 arg9 harg9 arg10 v16_r0 v16_r1 stride17 v2214 z
        let v2269 ← k0_part192 i arg2 harg2 arg3 harg3 arg4 harg4 arg5 harg5 arg6 harg6 arg7 harg7 arg8 harg8 arg9 harg9 arg10 v16_r0 v16_r1 stride17 v2243
        let v2297 ← k0_part193 i arg2 harg2 arg3 harg3 arg4 harg4 arg5 harg5 arg6 harg6 arg7 harg7 arg8 harg8 arg9 harg9 arg10 v16_r0 v16_r1 stride17 v2269
        let v2324 ← k0_part194 i arg2 harg2 arg3 harg3 arg4 harg4 arg5 harg5 arg6 harg6 arg7 harg7 arg8 harg8 arg9 harg9 arg10 v16_r0 v16_r1 stride17 v2297
        k0_part195 i arg2 harg2 arg3 harg3 arg4 harg4 arg5 harg5 arg6 harg6 arg7 harg7 arg8 harg8 arg9 harg9 arg10 v16_r0 v16_r1 v1 stride17 t1 arg11 v16 v2324)
      fun _ => iprop(∃ b' : Fin 64 → Vc F, Hold (Rows d (cOf i) (jOf i) arg7 (st 64)) (Rows d (cOf i) (jOf i) arg8 b') (InX d (cOf i) (jOf i) arg5 x R) (InW d (cOf i) (jOf i) arg6 w) (Emit d (cOf i) (jOf i) arg9 st 65 0)) := by
  refine ok_stT (n := 37) (n' := 38) (k16 := 16) (C := 0) rfl rfl rfl (by decide) rfl rfl rfl (by exact rfl) hv ?_
  iterate 25
    refine ok_emit (C := 0) rfl rfl (by simp only [Nat.reduceAdd]; rfl) (by simp only [Nat.reduceDiv]; rfl) (by simp only [Nat.reduceMod]; rfl) (by decide) (by simp only [Nat.reduceMul, Nat.reduceAdd]; rfl) (by simp only [Nat.reduceMul]; rfl) (by exact rfl) (by exact rfl) (fun h => h) ?_
  refine ok_gath (n := 63) rfl rfl (by decide) rfl (by exact rfl) (fun h => h) fun hp f hf => ok_ldT fun z => ok_stT (n := 63) (n' := 64) (k16 := 48) (C := 0) rfl rfl rfl (by decide) rfl rfl rfl (by exact rfl) (hf _) (ok_slot ?_)
  refine ok_for (I := fun n => iprop(∃ b' : Fin 64 → Vc F, Hold (Rows d (cOf i) (jOf i) arg7 (st (2 * n))) (Rows d (cOf i) (jOf i) arg8 b') (InX d (cOf i) (jOf i) arg5 x R) (InW d (cOf i) (jOf i) arg6 w) (Emit d (cOf i) (jOf i) arg9 st (2 * n + 1) 0))) ?_ ?_ ?_
  · iintro H
    iexists b
    iexact H
  · intro k acc
    exact ok_exists fun b' => roundW_all i arg2 harg2 arg3 harg3 arg4 harg4 arg5 harg5 arg6 harg6 arg7 harg7 arg8 harg8 arg9 harg9 arg10 v16_r0 v16_r1 d t1 v16 _ _ k b' x w R st (hA k) (hB k)
  · exact ok_ret .rfl

end Cert.Proof

end
-- ==== Proof.Tile.lean ====
/-
  One pass of a tile, with its copies: the states a pass puts out, the wait for the pass before it, and the copy of the staged states to the
  pass's sixteen rows of the result.
-/
module

public import proofs.«01_k».proof.Proof.Rest

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The states a pass puts out -/

/-- The states a pass puts out: the first, then one for each weighted step. -/
def states (x : S4096.Idx → F .f32) (w : S4160.Idx → F .f32) (t1 : Fin k0_t1_loop.trips) : ℕ → Fin 64 → Vc F
  | 0 => firstOut x w t1
  | n + 1 => if h : n / 2 < k0_t3_loop.trips then
      norm (acs (states x w t1 n) (bif Nat.beq (n % 2) 0 then metricA x w t1 ⟨n / 2, h⟩ else metricB x w t1 ⟨n / 2, h⟩))
    else states x w t1 n

/-- A pass's step, at the round and the half of the round it is in. -/
theorem states_succ (x : S4096.Idx → F .f32) (w : S4160.Idx → F .f32) (t1 : Fin k0_t1_loop.trips) (k : Fin k0_t3_loop.trips) (n : ℕ) (hn : n / 2 = k.val) :
    states x w t1 (n + 1) = norm (acs (states x w t1 n) (bif Nat.beq (n % 2) 0 then metricA x w t1 k else metricB x w t1 k)) := by
  have h : n / 2 < k0_t3_loop.trips := hn ▸ k.isLt
  have hk : (⟨n / 2, h⟩ : Fin k0_t3_loop.trips) = k := Fin.ext hn
  rw [states, dif_pos h, hk]

theorem states_even (x : S4096.Idx → F .f32) (w : S4160.Idx → F .f32) (t1 : Fin k0_t1_loop.trips) (k : Fin k0_t3_loop.trips) :
    states x w t1 (2 * k.val + 1) = norm (acs (states x w t1 (2 * k.val)) (metricA x w t1 k)) := by
  rw [states_succ x w t1 k (2 * k.val) (by omega), Nat.mul_mod_right]
  rfl

theorem states_odd (x : S4096.Idx → F .f32) (w : S4160.Idx → F .f32) (t1 : Fin k0_t1_loop.trips) (k : Fin k0_t3_loop.trips) :
    states x w t1 (2 * k.val + 2) = norm (acs (states x w t1 (2 * k.val + 1)) (metricB x w t1 k)) := by
  rw [states_succ x w t1 k (2 * k.val + 1) (by omega), show (2 * k.val + 1) % 2 = 1 by omega]
  rfl

/-! ## A pass -/

section Pass

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

/-- The sixteen rows of the result that pass `t1` writes. -/
abbrev piece (t1 : Fin k0_t1_loop.trips) : Memref sig .scVector .hbm S16x4160 .f32 :=
  arg4.slice (Rect.unit (s := S1024x4160) (k0_off142 i t1) S16x4160.size (k0_off142_inb i t1)) (fun _ => rfl)

/-- What a tile owes, the waits it has made since `W`, and its leave to wait for its own copies. -/
def Owed (d : Dev nD) (O : CellTallies nD τ sig (HIx 1)) (W : Waits sig (HIx 1)) : Assn F :=
  iprop(Transfers.MayWaits (V d (cOf i) (jOf i)) (default : HIx 1) O ∗ ∃ W', ⌜∀ p ∈ W', p ∈ W ∨ p.2 = none⌝ ∗ owes (V d (cOf i) (jOf i)) O W')

/-- The pass's rows of the result, at `g`. -/
abbrev PiecePts (d : Dev nD) (t1 : Fin k0_t1_loop.trips) (g : Buf (Elt F) (arg4.view.loc (V d (cOf i) (jOf i)))) : Assn F :=
  iprop((piece i arg4 t1).view.loc (V d (cOf i) (jOf i)) ↦[(piece i arg4 t1).view.set]{fullShare} g)

/-- The staged output, at anything. -/
abbrev Staged (d : Dev nD) : Assn F := iprop(∃ f : Buf (Elt F) (arg9.view.loc (V d (cOf i) (jOf i))), arg9.view.loc (V d (cOf i) (jOf i)) ↦{fullShare} f)

/-- The pass's copy under way: it will leave its rows at `g` and give the staged output back. -/
def Flying (d : Dev nD) (t1 : Fin k0_t1_loop.trips) (g : Buf (Elt F) (arg4.view.loc (V d (cOf i) (jOf i)))) : Assn F :=
  Transfers.Flight countersEmb (V d (cOf i) (jOf i)) (.dma arg10.sem) (default : HIx 1) (piece i arg4 t1).view.dmaCredit
    iprop(PiecePts i arg4 d t1 g ∗ Staged i arg9 d)

/-- The loop's body. -/
abbrev passBody (v1 : BitVec 32) (t1 : Fin k0_t1_loop.trips) : Pg (cOf i) (jOf i) F PUnit := do
  let ⟨arg11, v16, v2214, v2216_ld⟩ ← k0_part196 i arg2 harg2 arg3 harg3 arg4 harg4 arg5 harg5 arg6 harg6 arg7 harg7 arg8 harg8 arg9 harg9 arg10 v16_r0 v16_r1 v1 stride17 (broadcast S16 (FloatOps.ofBits .f32 0x41A00000#32)) (broadcast S16 (FloatOps.ofBits .f32 0x00000000#32)) 0#32 1#32 t1
  let v2243 ← k0_part191 i arg2 harg2 arg3 harg3 arg4 harg4 arg5 harg5 arg6 harg6 arg7 harg7 arg8 harg8 arg9 harg9 arg10 v16_r0 v16_r1 stride17 v2214 v2216_ld
  let v2269 ← k0_part192 i arg2 harg2 arg3 harg3 arg4 harg4 arg5 harg5 arg6 harg6 arg7 harg7 arg8 harg8 arg9 harg9 arg10 v16_r0 v16_r1 stride17 v2243
  let v2297 ← k0_part193 i arg2 harg2 arg3 harg3 arg4 harg4 arg5 harg5 arg6 harg6 arg7 harg7 arg8 harg8 arg9 harg9 arg10 v16_r0 v16_r1 stride17 v2269
  let v2324 ← k0_part194 i arg2 harg2 arg3 harg3 arg4 harg4 arg5 harg5 arg6 harg6 arg7 harg7 arg8 harg8 arg9 harg9 arg10 v16_r0 v16_r1 stride17 v2297
  let _ ← k0_part195 i arg2 harg2 arg3 harg3 arg4 harg4 arg5 harg5 arg6 harg6 arg7 harg7 arg8 harg8 arg9 harg9 arg10 v16_r0 v16_r1 v1 stride17 t1 arg11 v16 v2324
  Prog.lift (.enqueueDma arg9 (.here (piece i arg4 t1)) (.dma arg10.sem) harg9.wordExact (View.wordExact_bits rfl) ⟨Or.inl rfl, trivial⟩)
  pure ⟨⟩

/-- A buffer written through a view is, on the view's elements, any buffer that reads the same through it. -/
theorem write_congr {κ : Kind} {sp : Space} {s : Shape} {e : EltTy} {v : View sig κ sp s e} {Val : EltTy → Type} (f g : v.ty.Contents Val) (p : s.Idx → Val e)
    (h : ∀ y, v.read Val g y = p y) : ∀ j ∈ v.set, v.write Val f p Finset.univ j = g j := by
  intro j hj
  obtain ⟨y, -, rfl⟩ := Finset.mem_map.mp hj
  rw [View.write_emb_of_mem _ _ (Finset.mem_univ y), ← h y, View.read_apply, cast_cast, cast_eq]

set_option maxHeartbeats 1000000 in
/-- The copy's start: the staged states go to the pass's rows. -/
theorem ok_send (d : Dev nD) (t1 : Fin k0_t1_loop.trips) (O : CellTallies nD τ sig (HIx 1)) (W : Waits sig (HIx 1)) (A B W' E : Assn F)
    (x : S4096.Idx → F .f32) (st : ℕ → Fin 64 → Vc F) (g : Buf (Elt F) (arg4.view.loc (V d (cOf i) (jOf i))))
    (hg : ∀ y : S16x4160.Idx, (piece i arg4 t1).view.read (Elt F) g y = st ((y 1).val / 64) ⟨(y 1).val % 64, Nat.mod_lt _ (by norm_num)⟩ (lane ⟨(y 0).val, (y 0).isLt⟩)) :
    Ok d (cOf i) (jOf i)
      (Hold A B (InX d (cOf i) (jOf i) arg5 x iprop(Owed i d O W ∗ semVal (V d (cOf i) (jOf i), .dma arg10.sem) 0 ∗ (∃ f, PiecePts i arg4 d t1 f) ∗ E)) W'
        (Emit d (cOf i) (jOf i) arg9 st 65 0))
      (Prog.lift (.enqueueDma arg9 (.here (piece i arg4 t1)) (.dma arg10.sem) harg9.wordExact (View.wordExact_bits rfl) ⟨Or.inl rfl, trivial⟩))
      fun _ => Hold A B (InX d (cOf i) (jOf i) arg5 x iprop(Owed i d O W ∗ E)) W' (Flying i arg4 arg9 arg10 d t1 g) := by
  unfold Hold InX Emit Flying Ok
  iintro ⟨HA, HB, ⟨HX, HO, Hv, ⟨%f, Hp⟩, HE⟩, HW, ⟨%fs, %hfs, Hs⟩⟩
  have hset : arg9.view.set = Finset.univ := harg9.set_eq_univ
  ihave Hs' := (Entails.of_eq (show (arg9.view.loc (V d (cOf i) (jOf i)) ↦{fullShare} fs : Assn F) = (arg9.view.loc (V d (cOf i) (jOf i)) ↦[arg9.view.set]{fullShare} fs) by rw [hset])) $$ Hs
  iapply (Transfers.wp_dmaLocal countersEmb 𝒱₀ (V d (cOf i) (jOf i)) none (sm := .dma arg10.sem) (dst := piece i arg4 t1) (src := arg9) (default : HIx 1) (piece i arg4 t1).view.dmaCredit rfl (View.dmaCredit_pos _ (by decide)) (subset_refl _)) $$ [Hs' Hp Hv]
  · isplitl [Hs']; · iexact Hs'
    isplitl [Hp] <;> iassumption
  iintro Hf
  sl_step
  isplitl [HA]; · iexact HA
  isplitl [HB]; · iexact HB
  isplitl [HX HO HE]
  · isplitl [HX]; · iexact HX
    isplitl [HO] <;> iassumption
  isplitl [HW]; · iexact HW
  iapply (Transfers.Flight_mono (c := V d (cOf i) (jOf i)) ?_) $$ Hf
  refine BIClass.sep_mono ?_ ?_
  · refine Entails.of_eq (pointsTo_congr (write_congr _ _ _ fun y => (hg y).trans (hfs y (Or.inl ?_)).symm))
    have : (y 1).val < 4160 := (y 1).isLt
    omega
  · rw [hset]
    iintro H
    iexists fs
    iexact H

set_option maxHeartbeats 1000000 in
/-- A pass: from what the tile holds before it (`T` of the staged output, `R` beside) to its copy under way. -/
theorem pass_all (d : Dev nD) (t1 : Fin k0_t1_loop.trips) (v1 : BitVec 32) (a b : Fin 64 → Vc F) (O : CellTallies nD τ sig (HIx 1)) (W : Waits sig (HIx 1))
    (x : S4096.Idx → F .f32) (w : S4160.Idx → F .f32) (R T E : Assn F) (g : Buf (Elt F) (arg4.view.loc (V d (cOf i) (jOf i))))
    (hg : ∀ y : S16x4160.Idx, (piece i arg4 t1).view.read (Elt F) g y = states x w t1 ((y 1).val / 64) ⟨(y 1).val % 64, Nat.mod_lt _ (by norm_num)⟩ (lane ⟨(y 0).val, (y 0).isLt⟩))
    (hwait : ∀ (α : Type) (A B W' : Assn F) (k : Pg (cOf i) (jOf i) F α) (Q : α → Assn F),
      Ok d (cOf i) (jOf i) (Hold A B (InX d (cOf i) (jOf i) arg5 x iprop(Owed i d O W ∗ semVal (V d (cOf i) (jOf i), .dma arg10.sem) 0 ∗ (∃ f, PiecePts i arg4 d t1 f) ∗ E)) W'
        (Emit d (cOf i) (jOf i) arg9 (states x w t1) 0 0)) k Q →
      Ok d (cOf i) (jOf i) (Hold A B (InX d (cOf i) (jOf i) arg5 x R) W' T) (waitPrev i arg4 arg9 harg9 arg10 t1 k) Q) :
    Ok d (cOf i) (jOf i) (Hold (Rows d (cOf i) (jOf i) arg7 a) (Rows d (cOf i) (jOf i) arg8 b) (InX d (cOf i) (jOf i) arg5 x R) (InW d (cOf i) (jOf i) arg6 w) T)
      (passBody i arg2 harg2 arg3 harg3 arg4 harg4 arg5 harg5 arg6 harg6 arg7 harg7 arg8 harg8 arg9 harg9 arg10 v16_r0 v16_r1 v1 t1)
      fun _ => iprop(∃ a' b' : Fin 64 → Vc F, Hold (Rows d (cOf i) (jOf i) arg7 a') (Rows d (cOf i) (jOf i) arg8 b')
        (InX d (cOf i) (jOf i) arg5 x iprop(Owed i d O W ∗ E)) (InW d (cOf i) (jOf i) arg6 w) (Flying i arg4 arg9 arg10 d t1 g)) := by
  refine ok_bind (ok_mono (pass_run i arg2 harg2 arg3 harg3 arg4 harg4 arg5 harg5 arg6 harg6 arg7 harg7 arg8 harg8 arg9 harg9 arg10 v16_r0 v16_r1 d t1 v1 a b x w R _ T (states x w t1) rfl hwait) fun r => ?_)
  obtain ⟨arg11, v16, v2214, z⟩ := r
  refine ok_exists fun b' => ok_pure fun hv => ?_
  have hr := ok_bind (Q := fun _ => iprop(∃ a' b' : Fin 64 → Vc F, Hold (Rows d (cOf i) (jOf i) arg7 a') (Rows d (cOf i) (jOf i) arg8 b')
        (InX d (cOf i) (jOf i) arg5 x iprop(Owed i d O W ∗ E)) (InW d (cOf i) (jOf i) arg6 w) (Flying i arg4 arg9 arg10 d t1 g)))
    (f := fun _ => (Prog.lift (.enqueueDma arg9 (.here (piece i arg4 t1)) (.dma arg10.sem) harg9.wordExact (View.wordExact_bits rfl) ⟨Or.inl rfl, trivial⟩) : Pg (cOf i) (jOf i) F PUnit))
    (ok_mono (pass_rest i arg2 harg2 arg3 harg3 arg4 harg4 arg5 harg5 arg6 harg6 arg7 harg7 arg8 harg8 arg9 harg9 arg10 v16_r0 v16_r1 d t1 v1 arg11 v16 b' v2214 z x w _ (states x w t1)
      (states_even x w t1) (states_odd x w t1) hv) fun _ => ok_exists fun b'' => ok_mono (ok_send i arg4 arg5 arg9 harg9 arg10 d t1 O W _ _ _ E x (states x w t1) g hg) fun _ => ?_)
  · simp only [bind_assoc] at hr
    exact hr
  · iintro H
    iexists _, b''
    iexact H

end Pass

end Cert.Proof

end
-- ==== Proof.Task.lean ====
/-
  A tile's task: it fetches its part of the input and the weights, runs its two passes, each pass's copy under way while the next one computes, and
  waits for the last copy.
-/
module

public import proofs.«01_k».proof.Proof.Tile
public import Idealize.ShloMosaic.Lib.SparseCore.FromWhole

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the result holds -/

/-- A tile's part of the input. -/
def xPart (xv : S131072.Idx → F .f32) (t : Fin 32) : S4096.Idx → F .f32 :=
  fun k => xv (fun | 0 => ⟨4096 * t.val + (k 0).val, by
    have : (k 0).val < 4096 := (k 0).isLt
    show _ < 131072
    omega⟩)

/-- The result: batch row by batch row, the states its tile's pass puts out. -/
def result (xv : S131072.Idx → F .f32) (wv : S4160.Idx → F .f32) : S1024x4160.Idx → F .f32 := fun y =>
  states (xPart xv ⟨(y 0).val / 32, by have : (y 0).val < 1024 := (y 0).isLt; omega⟩) wv ⟨(y 0).val / 16 % 2, by show _ < 2; omega⟩
    ((y 1).val / 64) ⟨(y 1).val % 64, Nat.mod_lt _ (by norm_num)⟩ (lane ⟨(y 0).val % 16, Nat.mod_lt _ (by norm_num)⟩)

/-- The tile at a grid point. -/
def tileOf (i : grid0.Coords) : Fin 32 := ⟨2 * (i 1).val + (i 0).val, by
  have h0 : (i 0).val < 2 := (i 0).isLt
  have h1 : (i 1).val < 16 := (i 1).isLt
  omega⟩

/-- What a tile fetches is its part of the input. -/
theorem fetched_eq (i : grid0.Coords) (xv : S131072.Idx → F .f32) (k : S4096.Idx) :
    xv ((Rect.unit (s := S131072) (k0_off1 i) S4096.size (k0_off1_inb i)).emb k) = xPart xv (tileOf i) k := by
  unfold xPart
  congr 1
  funext a
  fin_cases a
  apply Fin.ext
  show (k0_off1 i) 0 + 1 * (k 0).val = 4096 * (tileOf i).val + (k 0).val
  rw [k0_off1_eq]
  show 8192 * (i 1).val + 4096 * (i 0).val + 1 * (k 0).val = 4096 * (2 * (i 1).val + (i 0).val) + (k 0).val
  omega

theorem states_congr (xv : S131072.Idx → F .f32) (wv : S4160.Idx → F .f32) {t t' : Fin 32} {t1 t1' : Fin k0_t1_loop.trips} {n n' : ℕ} {s s' : Fin 64} {l l' : S16.Idx}
    (ht : t = t') (h1 : t1 = t1') (hn : n = n') (hs : s = s') (hl : l = l') :
    states (xPart xv t) wv t1 n s l = states (xPart xv t') wv t1' n' s' l' := by
  subst ht h1 hn hs hl
  rfl

/-- The result, at the rows of a tile's pass. -/
theorem result_piece (i : grid0.Coords) (t1 : Fin k0_t1_loop.trips) (xv : S131072.Idx → F .f32) (wv : S4160.Idx → F .f32) (y : S16x4160.Idx) :
    result xv wv ((Rect.unit (s := S1024x4160) (k0_off142 i t1) S16x4160.size (k0_off142_inb i t1)).emb y) =
      states (xPart xv (tileOf i)) wv t1 ((y 1).val / 64) ⟨(y 1).val % 64, Nat.mod_lt _ (by norm_num)⟩ (lane ⟨(y 0).val, (y 0).isLt⟩) := by
  have e0 : ((Rect.unit (s := S1024x4160) (k0_off142 i t1) S16x4160.size (k0_off142_inb i t1)).emb y 0).val = 64 * (i 1).val + 32 * (i 0).val + 16 * t1.val + (y 0).val := by
    show (k0_off142 i t1) 0 + 1 * (y 0).val = _
    rw [k0_off142_eq]
    show 64 * (i 1).val + 32 * (i 0).val + 16 * t1.val + 1 * (y 0).val = _
    omega
  have e1 : ((Rect.unit (s := S1024x4160) (k0_off142 i t1) S16x4160.size (k0_off142_inb i t1)).emb y 1).val = (y 1).val := by
    show (k0_off142 i t1) 1 + 1 * (y 1).val = _
    rw [k0_off142_eq]
    show 0 + 1 * (y 1).val = _
    omega
  have h0 : (i 0).val < 2 := (i 0).isLt
  have ht : t1.val < 2 := t1.isLt
  have hy : (y 0).val < 16 := (y 0).isLt
  unfold result
  generalize (Rect.unit (s := S1024x4160) (k0_off142 i t1) S16x4160.size (k0_off142_inb i t1)).emb y = z at e0 e1
  refine states_congr xv wv (Fin.ext ?_) (Fin.ext ?_) (congrArg (· / 64) e1) (Fin.ext (congrArg (· % 64) e1)) (congrArg lane (Fin.ext ?_))
  · show (z 0).val / 32 = 2 * (i 1).val + (i 0).val
    omega
  · show (z 0).val / 16 % 2 = t1.val
    omega
  · show (z 0).val % 16 = (y 0).val
    omega

section Task

variable (i : grid0.Coords) (arg2 : Memref sig .scVector .hbm S131072 .f32) (harg2 : arg2.IsWhole) (arg3 : Memref sig .scVector .hbm S4160 .f32) (harg3 : arg3.IsWhole) (arg4 : Memref sig .scVector .hbm S1024x4160 .f32) (harg4 : arg4.IsWhole) (arg5 : Memref sig .scVector .vmem S4096 .f32) (harg5 : arg5.IsWhole) (arg6 : Memref sig .scVector .vmem S4160 .f32) (harg6 : arg6.IsWhole) (arg7 : Memref sig .scVector .vmem S1088 .f32) (harg7 : arg7.IsWhole) (arg8 : Memref sig .scVector .vmem S1088 .f32) (harg8 : arg8.IsWhole) (arg9 : Memref sig .scVector .vmem S16x4160 .f32) (harg9 : arg9.IsWhole) (arg10 : DmaSems sig S_) (v16_r0 : DmaSems sig S_) (v16_r1 : DmaSems sig S_)

abbrev pass0 : Fin k0_t1_loop.trips := ⟨0, by decide⟩
abbrev pass1 : Fin k0_t1_loop.trips := ⟨1, by decide⟩

set_option maxHeartbeats 1000000 in
/-- A wait for a pass's copy: its rows are there, and the staged output is free. -/
theorem wait_flying (d : Dev nD) (t1 : Fin k0_t1_loop.trips) (O : CellTallies nD τ sig (HIx 1)) (W : Waits sig (HIx 1)) (g : Buf (Elt F) (arg4.view.loc (V d (cOf i) (jOf i))))
    {dst : Memref sig .scVector .hbm S16x4160 .f32} {hs : arg9.view.WordExact} {hd : dst.view.WordExact} (hc : dst.view.dmaCredit = (piece i arg4 t1).view.dmaCredit)
    {α : Type} {k : PUnit → Pg (cOf i) (jOf i) F α} {Q : α → Assn F} :
    iprop(Flying i arg4 arg9 arg10 d t1 g ∗ Owed i d O W) ⊢
      iprop((iprop((PiecePts i arg4 d t1 g ∗ Staged i arg9 d) ∗ semVal (V d (cOf i) (jOf i), .dma arg10.sem) 0 ∗ Owed i d O W)
          -∗ wp frame (wpE (defs₀ (F := F)) 𝒱₀ (V d (cOf i) (jOf i)) none) Set.univ (k ⟨⟩) Q)
        -∗ wp frame (wpE (defs₀ (F := F)) 𝒱₀ (V d (cOf i) (jOf i)) none) Set.univ (.op (.waitDma2 arg10.sem arg9 dst hs hd) k) Q) := by
  unfold Flying Owed
  iintro ⟨Hf, ⟨#Hmw, ⟨%W', %hW', HO⟩⟩⟩ Hk
  iapply (Transfers.wp_waitLocalO countersEmb 𝒱₀ (V d (cOf i) (jOf i)) none (default : HIx 1) hc) $$ [Hf HO]
  · isplitl [Hf]; · iexact Hf
    isplitl [HO]; · iexact HO
    iapply (Transfers.MayWaits.elim (SemLoc.dma arg10.sem)) $$ Hmw
  iintro ⟨HD, Hv, HO⟩
  iapply Hk
  isplitl [HD]; · iexact HD
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

set_option maxHeartbeats 1000000 in
/-- A copy in and its wait. -/
theorem fetch (d : Dev nD) (O : CellTallies nD τ sig (HIx 1)) (W : Waits sig (HIx 1)) {sp : Space} {s : Shape} {src : Memref sig .scVector sp s .f32} {dst : Memref sig .scVector .vmem s .f32}
    (sem : DmaSem sig) (hpos : 0 < s.numel) {q : PosShare TreeShare} {fs : Buf (Elt F) (src.view.loc (V d (cOf i) (jOf i)))} {fd : Buf (Elt F) (dst.view.loc (V d (cOf i) (jOf i)))}
    {h1 : src.view.WordExact} {h2 : dst.view.WordExact} {h3 : DmaTarget.Typed (nD := nD) sp (.dma sem) (.here (τ := τ) (p := Proc.scVector (cOf i) (jOf i)) dst)} {h4 : src.view.WordExact} {h5 : dst.view.WordExact}
    {α : Type} {k : PUnit → Pg (cOf i) (jOf i) F α} {Q : α → Assn F} :
    iprop((src.view.loc (V d (cOf i) (jOf i)) ↦{q} fs) ∗ (dst.view.loc (V d (cOf i) (jOf i)) ↦{fullShare} fd) ∗ semVal (V d (cOf i) (jOf i), .dma sem) 0 ∗ Owed i d O W) ⊢
      iprop((iprop((src.view.loc (V d (cOf i) (jOf i)) ↦{q} fs)
            ∗ (∃ f : Buf (Elt F) (dst.view.loc (V d (cOf i) (jOf i))), ⌜dst.view.read (Elt F) f = src.view.read (Elt F) fs⌝ ∗ dst.view.loc (V d (cOf i) (jOf i)) ↦{fullShare} f)
            ∗ semVal (V d (cOf i) (jOf i), .dma sem) 0 ∗ Owed i d O W)
          -∗ wp frame (wpE (defs₀ (F := F)) 𝒱₀ (V d (cOf i) (jOf i)) none) Set.univ (k ⟨⟩) Q)
        -∗ wp frame (wpE (defs₀ (F := F)) 𝒱₀ (V d (cOf i) (jOf i)) none) Set.univ
          (.op (.enqueueDma src (.here dst) (.dma sem) h1 h2 h3) fun _ => .op (.waitDma2 sem src dst h4 h5) k) Q) := by
  unfold Owed
  iintro ⟨Hs, Hd, Hv, ⟨#Hmw, ⟨%W', %hW', HO⟩⟩⟩ Hk
  iapply (Transfers.wp_dmaFromWhole countersEmb 𝒱₀ (V d (cOf i) (jOf i)) none (sm := .dma sem) (dst := dst) (src := src) (default : HIx 1) dst.view.dmaCredit rfl
    (View.dmaCredit_pos _ hpos) (Finset.subset_univ _)) $$ [Hs Hd Hv]
  · isplitl [Hs]; · iexact Hs
    isplitl [Hd] <;> iassumption
  iintro Hf
  iapply (Transfers.wp_waitLocalO countersEmb 𝒱₀ (V d (cOf i) (jOf i)) none (default : HIx 1) (rfl : dst.view.dmaCredit = _)) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]
  · iexists _; isplitr
    swap; · iexact Hd
    ipureintro; exact View.read_write_univ _ _
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

/-- What is beside the fetched input before pass `n`: the copies' semaphore until the first copy starts, and the rows of the result. -/
def beside (d : Dev nD) (O : CellTallies nD τ sig (HIx 1)) (W : Waits sig (HIx 1)) (g : Buf (Elt F) (arg4.view.loc (V d (cOf i) (jOf i)))) : ℕ → Assn F
  | 0 => iprop(Owed i d O W ∗ semVal (V d (cOf i) (jOf i), .dma arg10.sem) 0 ∗ (∃ f, PiecePts i arg4 d pass0 f) ∗ (∃ f, PiecePts i arg4 d pass1 f))
  | 1 => iprop(Owed i d O W ∗ (∃ f, PiecePts i arg4 d pass1 f))
  | _ => iprop(Owed i d O W ∗ PiecePts i arg4 d pass0 g)

/-- The staged output before pass `n`: free before the first pass, then being copied. -/
def stagedAt (d : Dev nD) (g : Buf (Elt F) (arg4.view.loc (V d (cOf i) (jOf i)))) : ℕ → Assn F
  | 0 => Staged i arg9 d
  | 1 => Flying i arg4 arg9 arg10 d pass0 g
  | _ => Flying i arg4 arg9 arg10 d pass1 g

theorem staged_emit (d : Dev nD) (st : ℕ → Fin 64 → Vc F) : (Staged i arg9 d : Assn F) ⊢ Emit d (cOf i) (jOf i) arg9 st 0 0 := by
  unfold Emit
  iintro ⟨%f, H⟩
  iexists f; isplitr
  · ipureintro; intro y hy; omega
  · iexact H

/-- The first pass waits for nothing. -/
theorem wait_first (d : Dev nD) (O : CellTallies nD τ sig (HIx 1)) (W : Waits sig (HIx 1)) (g : Buf (Elt F) (arg4.view.loc (V d (cOf i) (jOf i)))) (x : S4096.Idx → F .f32) (st : ℕ → Fin 64 → Vc F)
    (α : Type) (A B W' : Assn F) (k : Pg (cOf i) (jOf i) F α) (Q : α → Assn F)
    (hk : Ok d (cOf i) (jOf i) (Hold A B (InX d (cOf i) (jOf i) arg5 x iprop(Owed i d O W ∗ semVal (V d (cOf i) (jOf i), .dma arg10.sem) 0 ∗ (∃ f, PiecePts i arg4 d pass0 f) ∗ (∃ f, PiecePts i arg4 d pass1 f))) W'
        (Emit d (cOf i) (jOf i) arg9 st 0 0)) k Q) :
    Ok d (cOf i) (jOf i) (Hold A B (InX d (cOf i) (jOf i) arg5 x (beside i arg4 arg10 d O W g 0)) W' (stagedAt i arg4 arg9 arg10 d g 0)) (waitPrev i arg4 arg9 harg9 arg10 pass0 k) Q := by
  unfold waitPrev
  rw [dif_neg (by decide)]
  refine ok_of ?_ hk
  rw [show beside i arg4 arg10 d O W g 0 = iprop(Owed i d O W ∗ semVal (V d (cOf i) (jOf i), .dma arg10.sem) 0 ∗ (∃ f, PiecePts i arg4 d pass0 f) ∗ (∃ f, PiecePts i arg4 d pass1 f)) from rfl,
    show stagedAt i arg4 arg9 arg10 d g 0 = Staged i arg9 d from rfl]
  unfold Hold
  iintro ⟨HA, HB, HX, HW, HT⟩
  isplitl [HA]; · iexact HA
  isplitl [HB]; · iexact HB
  isplitl [HX]; · iexact HX
  isplitl [HW]; · iexact HW
  iapply (staged_emit i arg9 d st) $$ HT

/-- The second pass waits for the first one's copy. -/
theorem wait_second (d : Dev nD) (O : CellTallies nD τ sig (HIx 1)) (W : Waits sig (HIx 1)) (g : Buf (Elt F) (arg4.view.loc (V d (cOf i) (jOf i)))) (x : S4096.Idx → F .f32) (st : ℕ → Fin 64 → Vc F)
    (α : Type) (A B W' : Assn F) (k : Pg (cOf i) (jOf i) F α) (Q : α → Assn F)
    (hk : Ok d (cOf i) (jOf i) (Hold A B (InX d (cOf i) (jOf i) arg5 x iprop(Owed i d O W ∗ semVal (V d (cOf i) (jOf i), .dma arg10.sem) 0 ∗ (∃ f, PiecePts i arg4 d pass1 f) ∗ PiecePts i arg4 d pass0 g)) W'
        (Emit d (cOf i) (jOf i) arg9 st 0 0)) k Q) :
    Ok d (cOf i) (jOf i) (Hold A B (InX d (cOf i) (jOf i) arg5 x (beside i arg4 arg10 d O W g 1)) W' (stagedAt i arg4 arg9 arg10 d g 1)) (waitPrev i arg4 arg9 harg9 arg10 pass1 k) Q := by
  unfold waitPrev
  rw [dif_pos (by decide)]
  rw [show beside i arg4 arg10 d O W g 1 = iprop(Owed i d O W ∗ (∃ f, PiecePts i arg4 d pass1 f)) from rfl,
    show stagedAt i arg4 arg9 arg10 d g 1 = Flying i arg4 arg9 arg10 d pass0 g from rfl]
  unfold Ok at hk ⊢
  unfold Hold InX
  unfold Hold InX at hk
  iintro ⟨HA, HB, ⟨HX, HO, Hp1⟩, HW, HT⟩
  iapply (wait_flying i arg4 arg9 arg10 d pass0 O W g rfl) $$ [HT HO]
  · isplitl [HT] <;> iassumption
  iintro ⟨⟨Hp0, Hs⟩, Hv, HO⟩
  iapply hk
  isplitl [HA]; · iexact HA
  isplitl [HB]; · iexact HB
  isplitl [HX HO Hp1 Hp0 Hv]
  · isplitl [HX]; · iexact HX
    isplitl [HO]; · iexact HO
    isplitl [Hv]; · iexact Hv
    isplitl [Hp1] <;> iassumption
  isplitl [HW]; · iexact HW
  iapply (staged_emit i arg9 d st) $$ Hs

set_option maxHeartbeats 1000000 in
/-- The two passes and the last wait. -/
theorem passes_run (d : Dev nD) (v1 : BitVec 32) (a b : Fin 64 → Vc F) (O : CellTallies nD τ sig (HIx 1)) (W : Waits sig (HIx 1))
    (x : S4096.Idx → F .f32) (w : S4160.Idx → F .f32) (g : Buf (Elt F) (arg4.view.loc (V d (cOf i) (jOf i))))
    (hg : ∀ (t1 : Fin k0_t1_loop.trips) (y : S16x4160.Idx), (piece i arg4 t1).view.read (Elt F) g y = states x w t1 ((y 1).val / 64) ⟨(y 1).val % 64, Nat.mod_lt _ (by norm_num)⟩ (lane ⟨(y 0).val, (y 0).isLt⟩)) :
    Ok d (cOf i) (jOf i) (Hold (Rows d (cOf i) (jOf i) arg7 a) (Rows d (cOf i) (jOf i) arg8 b) (InX d (cOf i) (jOf i) arg5 x (beside i arg4 arg10 d O W g 0)) (InW d (cOf i) (jOf i) arg6 w) (stagedAt i arg4 arg9 arg10 d g 0))
      (do
        Scf.Loop.for k0_t1_loop k0_t1_ok PUnit.unit fun k0_t1 _ => passBody i arg2 harg2 arg3 harg3 arg4 harg4 arg5 harg5 arg6 harg6 arg7 harg7 arg8 harg8 arg9 harg9 arg10 v16_r0 v16_r1 v1 k0_t1
        Prog.lift (.waitDma2 arg10.sem arg9 (arg4.slice (Rect.unit (s := S1024x4160) (k0_off143 i) S16x4160.size (k0_off143_inb i)) (fun _ => rfl)) harg9.wordExact (View.wordExact_bits rfl))
        pure PUnit.unit : Pg (cOf i) (jOf i) F PUnit)
      fun _ => iprop(∃ a' b' : Fin 64 → Vc F, Hold (Rows d (cOf i) (jOf i) arg7 a') (Rows d (cOf i) (jOf i) arg8 b')
        (InX d (cOf i) (jOf i) arg5 x iprop(Owed i d O W ∗ semVal (V d (cOf i) (jOf i), .dma arg10.sem) 0 ∗ PiecePts i arg4 d pass0 g ∗ PiecePts i arg4 d pass1 g)) (InW d (cOf i) (jOf i) arg6 w) (Staged i arg9 d)) := by
  refine ok_for (I := fun n => iprop(∃ a b : Fin 64 → Vc F, Hold (Rows d (cOf i) (jOf i) arg7 a) (Rows d (cOf i) (jOf i) arg8 b) (InX d (cOf i) (jOf i) arg5 x (beside i arg4 arg10 d O W g n)) (InW d (cOf i) (jOf i) arg6 w) (stagedAt i arg4 arg9 arg10 d g n))) ?_ ?_ ?_
  · iintro H
    iexists a, b
    iexact H
  · intro k acc
    refine ok_exists fun a => ok_exists fun b => ?_
    have hk : k.val < 2 := k.isLt
    obtain rfl | rfl : k = pass0 ∨ k = pass1 := by
      rcases (show k.val = 0 ∨ k.val = 1 by omega) with h | h
      · exact .inl (Fin.ext h)
      · exact .inr (Fin.ext h)
    · exact pass_all i arg2 harg2 arg3 harg3 arg4 harg4 arg5 harg5 arg6 harg6 arg7 harg7 arg8 harg8 arg9 harg9 arg10 v16_r0 v16_r1 d pass0 v1 a b O W x w _ _ _ g (hg pass0)
        (wait_first i arg4 arg5 arg9 harg9 arg10 d O W g x (states x w pass0))
    · exact pass_all i arg2 harg2 arg3 harg3 arg4 harg4 arg5 harg5 arg6 harg6 arg7 harg7 arg8 harg8 arg9 harg9 arg10 v16_r0 v16_r1 d pass1 v1 a b O W x w _ _ _ g (hg pass1)
        (wait_second i arg4 arg5 arg9 harg9 arg10 d O W g x (states x w pass1))
  · refine ok_exists fun a => ok_exists fun b => ?_
    change Ok _ _ _ (Hold _ _ (InX _ _ _ _ _ iprop(Owed i d O W ∗ PiecePts i arg4 d pass0 g)) _ (Flying i arg4 arg9 arg10 d pass1 g)) _ _
    unfold Ok Hold InX
    iintro ⟨HA, HB, ⟨HX, HO, Hp0⟩, HW, HT⟩
    iapply (wait_flying i arg4 arg9 arg10 d pass1 O W g rfl (k := fun _ => Prog.ret PUnit.unit)) $$ [HT HO]
    · isplitl [HT] <;> iassumption
    iintro ⟨⟨Hp1, Hs⟩, Hv, HO⟩
    sl_step
    iexists a, b
    isplitl [HA]; · iexact HA
    isplitl [HB]; · iexact HB
    isplitl [HX HO Hp1 Hp0 Hv]
    · isplitl [HX]; · iexact HX
      isplitl [HO]; · iexact HO
      isplitl [Hv]; · iexact Hv
      isplitl [Hp0] <;> iassumption
    isplitl [HW] <;> iassumption

/-- A state buffer at anything. -/
theorem rows_any (d : Dev nD) (m : Memref sig .scVector .vmem S1088 .f32) (f : Buf (Elt F) (m.view.loc (V d (cOf i) (jOf i)))) :
    (m.view.loc (V d (cOf i) (jOf i)) ↦{fullShare} f : Assn F) ⊢ Rows d (cOf i) (jOf i) m fun s => (m.access (rowRect s)).read (Elt F) f := by
  unfold Rows
  iintro H
  iexists f; isplitr
  · ipureintro; exact fun _ => rfl
  · iexact H

set_option maxHeartbeats 4000000 in
set_option maxRecDepth 16384 in
/-- The task: from its shares of the input and the weights and its rows of the result to the same, the rows at `g`. -/
theorem task_run (d : Dev nD) (O : CellTallies nD τ sig (HIx 1)) (W : Waits sig (HIx 1)) (q : PosShare TreeShare)
    (fx : Buf (Elt F) (arg2.view.loc (V d (cOf i) (jOf i)))) (fw : Buf (Elt F) (arg3.view.loc (V d (cOf i) (jOf i)))) (g : Buf (Elt F) (arg4.view.loc (V d (cOf i) (jOf i))))
    (hg : ∀ (t1 : Fin k0_t1_loop.trips) (y : S16x4160.Idx), (piece i arg4 t1).view.read (Elt F) g y =
      states ((arg2.slice (Rect.unit (s := S131072) (k0_off1 i) S4096.size (k0_off1_inb i)) (fun _ => rfl)).view.read (Elt F) fx) (arg3.view.read (Elt F) fw) t1
        ((y 1).val / 64) ⟨(y 1).val % 64, Nat.mod_lt _ (by norm_num)⟩ (lane ⟨(y 0).val, (y 0).isLt⟩)) :
    iprop((arg2.view.loc (V d (cOf i) (jOf i)) ↦{q} fx) ∗ (arg3.view.loc (V d (cOf i) (jOf i)) ↦{q} fw) ∗ (∃ f, PiecePts i arg4 d pass0 f) ∗ (∃ f, PiecePts i arg4 d pass1 f)
        ∗ (∃ f : Buf (Elt F) (arg5.view.loc (V d (cOf i) (jOf i))), arg5.view.loc (V d (cOf i) (jOf i)) ↦{fullShare} f)
        ∗ (∃ f : Buf (Elt F) (arg6.view.loc (V d (cOf i) (jOf i))), arg6.view.loc (V d (cOf i) (jOf i)) ↦{fullShare} f)
        ∗ (∃ f : Buf (Elt F) (arg7.view.loc (V d (cOf i) (jOf i))), arg7.view.loc (V d (cOf i) (jOf i)) ↦{fullShare} f)
        ∗ (∃ f : Buf (Elt F) (arg8.view.loc (V d (cOf i) (jOf i))), arg8.view.loc (V d (cOf i) (jOf i)) ↦{fullShare} f)
        ∗ Staged i arg9 d
        ∗ semVal (V d (cOf i) (jOf i), .dma arg10.sem) 0 ∗ semVal (V d (cOf i) (jOf i), .dma v16_r0.sem) 0 ∗ semVal (V d (cOf i) (jOf i), .dma v16_r1.sem) 0 ∗ Owed i d O W)
      ⊢ wp frame (wpE (defs₀ (F := F)) 𝒱₀ (V d (cOf i) (jOf i)) none) Set.univ
          (cc0_k i arg2 harg2 arg3 harg3 arg4 harg4 arg5 harg5 arg6 harg6 arg7 harg7 arg8 harg8 arg9 harg9 arg10 v16_r0 v16_r1)
          fun _ => iprop((arg2.view.loc (V d (cOf i) (jOf i)) ↦{q} fx) ∗ (arg3.view.loc (V d (cOf i) (jOf i)) ↦{q} fw) ∗ PiecePts i arg4 d pass0 g ∗ PiecePts i arg4 d pass1 g
            ∗ (∃ f : Buf (Elt F) (arg5.view.loc (V d (cOf i) (jOf i))), arg5.view.loc (V d (cOf i) (jOf i)) ↦{fullShare} f)
            ∗ (∃ f : Buf (Elt F) (arg6.view.loc (V d (cOf i) (jOf i))), arg6.view.loc (V d (cOf i) (jOf i)) ↦{fullShare} f)
            ∗ (∃ f : Buf (Elt F) (arg7.view.loc (V d (cOf i) (jOf i))), arg7.view.loc (V d (cOf i) (jOf i)) ↦{fullShare} f)
            ∗ (∃ f : Buf (Elt F) (arg8.view.loc (V d (cOf i) (jOf i))), arg8.view.loc (V d (cOf i) (jOf i)) ↦{fullShare} f)
            ∗ Staged i arg9 d
            ∗ semVal (V d (cOf i) (jOf i), .dma arg10.sem) 0 ∗ semVal (V d (cOf i) (jOf i), .dma v16_r0.sem) 0 ∗ semVal (V d (cOf i) (jOf i), .dma v16_r1.sem) 0 ∗ Owed i d O W) := by
  iintro ⟨Hx, Hw, Hp0, Hp1, ⟨%f5, H5⟩, ⟨%f6, H6⟩, ⟨%f7, H7⟩, ⟨%f8, H8⟩, Hs, Hv, Hv0, Hv1, HO⟩
  unfold cc0_k
  iapply (fetch i d O W (src := arg2.slice (Rect.unit (s := S131072) (k0_off1 i) S4096.size (k0_off1_inb i)) (fun _ => rfl)) (dst := arg5) v16_r0.sem (show 0 < S4096.numel by decide) (q := q) (fs := fx)) $$ [Hx H5 Hv0 HO]
  · isplitl [Hx]; · iexact Hx
    isplitl [H5]; · iexact H5
    isplitl [Hv0] <;> iassumption
  iintro ⟨Hx, H5, Hv0, HO⟩
  iapply (fetch i d O W (src := arg3) (dst := arg6) v16_r1.sem (by decide) (q := q) (fs := fw)) $$ [Hw H6 Hv1 HO]
  · isplitl [Hw]; · iexact Hw
    isplitl [H6]; · iexact H6
    isplitl [Hv1] <;> iassumption
  iintro ⟨Hw, H6, Hv1, HO⟩
  have hp := passes_run i arg2 harg2 arg3 harg3 arg4 harg4 arg5 harg5 arg6 harg6 arg7 harg7 arg8 harg8 arg9 harg9 arg10 v16_r0 v16_r1 d
    (Scalar.addi (Scalar.muli (BitVec.ofNat 32 (i 1).val) 2#32) (BitVec.ofNat 32 (i 0).val)) (fun s => (arg7.access (rowRect s)).read (Elt F) f7) (fun s => (arg8.access (rowRect s)).read (Elt F) f8) O W _ _ g hg
  unfold Ok at hp
  ihave Hwp := hp $$ [H5 H6 H7 H8 Hs Hv Hp0 Hp1 HO]
  · rw [show beside i arg4 arg10 d O W g 0 = iprop(Owed i d O W ∗ semVal (V d (cOf i) (jOf i), .dma arg10.sem) 0 ∗ (∃ f, PiecePts i arg4 d pass0 f) ∗ (∃ f, PiecePts i arg4 d pass1 f)) from rfl,
      show stagedAt i arg4 arg9 arg10 d g 0 = Staged i arg9 d from rfl]
    unfold Hold InX InW
    isplitl [H7]; · iapply (rows_any i d arg7 f7) $$ H7
    isplitl [H8]; · iapply (rows_any i d arg8 f8) $$ H8
    isplitl [H5 HO Hv Hp0 Hp1]
    · isplitl [H5]; · iexact H5
      isplitl [HO]; · iexact HO
      isplitl [Hv]; · iexact Hv
      isplitl [Hp0] <;> iassumption
    isplitl [H6] <;> iassumption
  iapply (wp_wand frame (wpE (defs₀ (F := F)) 𝒱₀ (V d (cOf i) (jOf i)) none) Set.univ) $$ Hwp
  unfold Hold InX InW Rows
  iintro %r ⟨%a', %b', ⟨%f7', -, H7⟩, ⟨%f8', -, H8⟩, ⟨⟨%f5', -, H5⟩, HO, Hv, Hp0, Hp1⟩, ⟨%f6', -, H6⟩, Hs⟩
  isplitl [Hx]; · iexact Hx
  isplitl [Hw]; · iexact Hw
  isplitl [Hp0]; · iexact Hp0
  isplitl [Hp1]; · iexact Hp1
  isplitl [H5]; · iexists f5'; iexact H5
  isplitl [H6]; · iexists f6'; iexact H6
  isplitl [H7]; · iexists f7'; iexact H7
  isplitl [H8]; · iexists f8'; iexact H8
  isplitl [Hs]; · iexact Hs
  isplitl [Hv]; · iexact Hv
  isplitl [Hv0]; · iexact Hv0
  isplitl [Hv1]; · iexact Hv1
  iexact HO

end Task

end Cert.Proof

end
-- ==== Proof.Deal.lean ====
/-
  How the call's operands are dealt to the tiles: a share of the input and of the weights to each, and the rows of the result cut into the sixteen
  that each pass of each tile writes.
-/
module

public import proofs.«01_k».proof.Proof.Task
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The input as the tiles read it, the weights, and the result. -/
abbrev xLoc (d : Dev nD) : Loc nD τ sig := (SparseCore.T d).loc main_v3
abbrev wLoc (d : Dev nD) : Loc nD τ sig := (SparseCore.T d).loc main_v5
abbrev oLoc (d : Dev nD) : Loc nD τ sig := (SparseCore.T d).loc main_v6

/-- The result as a tile addresses it. -/
abbrev oV : Memref sig .scVector .hbm S1024x4160 .f32 := Memref.whole main_v6_scv

/-- The grid point of subcore `s` of SparseCore `c`. -/
def gridAt (c : Fin 2) (s : Fin 16) : grid0.Coords :=
  fun | 0 => c | 1 => s | ⟨_ + 2, h⟩ => absurd h (Nat.not_lt.2 (Nat.le_add_left _ _))

/-- A tile's share of an operand all the tiles read. -/
abbrev share (L : grid0.Coords) : PosShare TreeShare := ShareLeaves.leaf 5 fullShare (Fin.cast (by norm_num) (tileOf L))

/-- The rows of the result a pass of a tile writes. -/
abbrev rows (L : grid0.Coords) (t1 : Fin k0_t1_loop.trips) : Finset S1024x4160.Idx := (piece L oV t1).view.set

/-- What a tile has of the operands, the result at `g`. -/
abbrev TilePts (d : Dev nD) (fx : Buf (Elt F) (xLoc d)) (fw : Buf (Elt F) (wLoc d)) (g : Buf (Elt F) (oLoc d)) (L : grid0.Coords) : Assn F :=
  iprop((xLoc d ↦{share L} fx) ∗ (wLoc d ↦{share L} fw) ∗ (oLoc d ↦[rows L pass0]{fullShare} g) ∗ oLoc d ↦[rows L pass1]{fullShare} g)

/-- What a tile is given: the same, the result at anything. -/
abbrev TilePre (d : Dev nD) (fx : Buf (Elt F) (xLoc d)) (fw : Buf (Elt F) (wLoc d)) (L : grid0.Coords) : Assn F :=
  iprop((xLoc d ↦{share L} fx) ∗ (wLoc d ↦{share L} fw) ∗ (∃ g : Buf (Elt F) (oLoc d), oLoc d ↦[rows L pass0]{fullShare} g) ∗ ∃ g : Buf (Elt F) (oLoc d), oLoc d ↦[rows L pass1]{fullShare} g)

theorem tilePts_pre (d : Dev nD) (fx : Buf (Elt F) (xLoc d)) (fw : Buf (Elt F) (wLoc d)) (g : Buf (Elt F) (oLoc d)) (L : grid0.Coords) :
    TilePts d fx fw g L ⊢ TilePre d fx fw L := by
  iintro ⟨Hx, Hw, H0, H1⟩
  isplitl [Hx]; · iexact Hx
  isplitl [Hw]; · iexact Hw
  isplitl [H0]
  · iexists g; iexact H0
  · iexists g; iexact H1

/-- The rows of a pass: those whose sixteenth is the pass's. -/
theorem mem_rows (L : grid0.Coords) (t1 : Fin k0_t1_loop.trips) (y : S1024x4160.Idx) :
    y ∈ rows L t1 ↔ (y 0).val / 16 = 4 * (L 1).val + 2 * (L 0).val + t1.val := by
  have e : rows L t1 = (Rect.unit (s := S1024x4160) (k0_off142 L t1) S16x4160.size (k0_off142_inb L t1)).set := by
    show ((View.whole (main_v6_scv : Ref sig .scVector)).slice (Rect.unit (s := S1024x4160) (k0_off142 L t1) S16x4160.size (k0_off142_inb L t1))).set = _
    rw [View.set_slice]; exact Finset.map_refl
  have hy : (y 1).val < 4160 := (y 1).isLt
  rw [e, Rect.mem_set_unit]
  have o0 : k0_off142 L t1 0 = 64 * (L 1).val + 32 * (L 0).val + 16 * t1.val := by rw [k0_off142_eq]; rfl
  have o1 : k0_off142 L t1 1 = 0 := by rw [k0_off142_eq]; rfl
  constructor
  · intro h
    have h0 := h 0
    rw [o0, show S16x4160.size 0 = 16 from rfl] at h0
    omega
  · intro h a
    match a with
    | 0 => rw [o0, show S16x4160.size 0 = 16 from rfl]; omega
    | 1 => rw [o1, show S16x4160.size 1 = 4160 from rfl]; omega

/-- The tiles, by their number. -/
def tiles : Fin 2 × Fin 16 ≃ Fin (2 ^ 5) where
  toFun p := ⟨2 * p.2.val + p.1.val, by have := p.1.isLt; have := p.2.isLt; norm_num; omega⟩
  invFun t := (⟨t.val % 2, by omega⟩, ⟨t.val / 2, by have : t.val < 32 := t.isLt; omega⟩)
  left_inv p := by
    have := p.1.isLt
    exact Prod.ext (Fin.ext (show (2 * p.2.val + p.1.val) % 2 = p.1.val by omega)) (Fin.ext (show (2 * p.2.val + p.1.val) / 2 = p.2.val by omega))
  right_inv t := Fin.ext (show 2 * (t.val / 2) + t.val % 2 = t.val by omega)

theorem share_at (c : Fin 2) (s : Fin 16) : share (gridAt c s) = ShareLeaves.leaf 5 fullShare (tiles (c, s)) := rfl

/-- An operand all the tiles read is their shares of it. -/
theorem shares (ℓ : Loc nD τ sig) (f : Buf (Elt F) ℓ) :
    (ℓ ↦{fullShare} f : Assn F) = bigSep Finset.univ fun p : Fin 2 × Fin 16 => ℓ ↦{share (gridAt p.1 p.2)} f := by
  rw [ShareLeaves.pointsTo_leaves Finset.univ f 5 fullShare, bigSep_univ_equiv tiles]
  rfl

/-- A pass of a tile writes rows no other pass writes. -/
theorem rows_disjoint (p q : (Fin 2 × Fin 16) × Fin k0_t1_loop.trips) (h : p ≠ q) : Disjoint (rows (gridAt p.1.1 p.1.2) p.2) (rows (gridAt q.1.1 q.1.2) q.2) := by
  rw [Finset.disjoint_left]
  intro y hp hq
  have h1 := (mem_rows _ _ _).mp hp
  have h2 := (mem_rows _ _ _).mp hq
  have e1 : (y 0).val / 16 = 4 * p.1.2.val + 2 * p.1.1.val + p.2.val := h1
  have e2 : (y 0).val / 16 = 4 * q.1.2.val + 2 * q.1.1.val + q.2.val := h2
  have a1 := p.1.1.isLt
  have a2 := q.1.1.isLt
  have b1 : p.2.val < 2 := p.2.isLt
  have b2 : q.2.val < 2 := q.2.isLt
  exact h (Prod.ext (Prod.ext (Fin.ext (by omega)) (Fin.ext (by omega))) (Fin.ext (by omega)))

/-- Every row is some pass's. -/
theorem rows_cover : (Finset.univ : Finset ((Fin 2 × Fin 16) × Fin k0_t1_loop.trips)).biUnion (fun p => rows (gridAt p.1.1 p.1.2) p.2) = Finset.univ := by
  refine Finset.eq_univ_iff_forall.mpr fun y => ?_
  have hy : (y 0).val < 1024 := (y 0).isLt
  refine Finset.mem_biUnion.mpr ⟨((⟨(y 0).val / 32 % 2, by omega⟩, ⟨(y 0).val / 64, by omega⟩), ⟨(y 0).val / 16 % 2, by show _ < 2; omega⟩), Finset.mem_univ _, ?_⟩
  rw [mem_rows]
  show (y 0).val / 16 = 4 * ((y 0).val / 64) + 2 * ((y 0).val / 32 % 2) + (y 0).val / 16 % 2
  omega

/-- The two passes. -/
theorem bigSep_passes (Φ : Fin k0_t1_loop.trips → Assn F) : bigSep Finset.univ Φ = iprop(Φ pass0 ∗ Φ pass1) := by
  rw [bigSep_univ_equiv (finCongr (show 2 = k0_t1_loop.trips by decide)), bigSep_fin_two]
  rfl

/-- The result is the rows of the tiles' passes. -/
theorem result_rows (d : Dev nD) (g : Buf (Elt F) (oLoc d)) :
    (oLoc d ↦{fullShare} g : Assn F) = bigSep Finset.univ fun p : Fin 2 × Fin 16 =>
      iprop((oLoc d ↦[rows (gridAt p.1 p.2) pass0]{fullShare} g) ∗ oLoc d ↦[rows (gridAt p.1 p.2) pass1]{fullShare} g) := by
  have e := pointsTo_biUnion (ℓ := oLoc d) (q := fullShare) (f := g) (Val := Elt F) (Ix := HIx 1) (Name := ℕ) (U := UU) (Lvl := ℕ) Finset.univ (fun p : (Fin 2 × Fin 16) × Fin k0_t1_loop.trips => rows (gridAt p.1.1 p.1.2) p.2)
    fun p _ q _ h => rows_disjoint p q h
  rw [rows_cover] at e
  rw [e, bigSep_univ_prod]
  exact bigSep_congr fun p _ => bigSep_passes fun t1 => oLoc d ↦[rows (gridAt p.1 p.2) t1]{fullShare} g

/-- The operands are what the tiles have of them. -/
theorem deal (d : Dev nD) (fx : Buf (Elt F) (xLoc d)) (fw : Buf (Elt F) (wLoc d)) (g : Buf (Elt F) (oLoc d)) :
    iprop((xLoc d ↦{fullShare} fx) ∗ (wLoc d ↦{fullShare} fw) ∗ oLoc d ↦{fullShare} g)
      = (bigSep Finset.univ fun c : Fin 2 => bigSep Finset.univ fun s : Fin 16 => TilePts d fx fw g (gridAt c s) : Assn F) := by
  rw [shares, shares, result_rows, ← bigSep_sep', ← bigSep_sep', ← bigSep_univ_prod fun p : Fin 2 × Fin 16 => TilePts d fx fw g (gridAt p.1 p.2)]

end Cert.Proof

end
-- ==== Proof.Launch.lean ====
/-
  The kernel's run: the host's operations, the call on the two SparseCores' tiles, and what the arrays hold at the end.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The arrays -/

abbrev aLoc (d : Dev nD) : Loc nD τ sig := (SparseCore.T d).loc main_arg0
abbrev bLoc (d : Dev nD) : Loc nD τ sig := (SparseCore.T d).loc main_arg1

/-- The input as the host lays it out for the tiles. -/
def laid (x : S1024x128.Idx → F .f32) : S131072.Idx → F .f32 :=
  shapeCast S131072 (transpose S32x128x32 [1, 0, 2] (shapeCast S128x32x32 (transpose S128x1024 [1, 0] x transposes_S1024x128_S128x1024_1_0) shapeCasts_S128x1024_S128x32x32)
    transposes_S128x32x32_S32x128x32_1_0_2) shapeCasts_S32x128x32_S131072

/-- The weights' rows from the sixty-third to the hundred and twenty-seventh, one after the other. -/
def learned (w : S192x64.Idx → F .f32) : S4160.Idx → F .f32 :=
  shapeCast S4160 (extractStridedSlice S65x64 ![63, 0] w slices_S192x64_S65x64_63_0) shapeCasts_S65x64_S4160

abbrev xIn (d : Dev nD) : Buf (Elt F) (xLoc d) := laid (F := F) (m (aLoc d))
abbrev wIn (d : Dev nD) : Buf (Elt F) (wLoc d) := learned (F := F) (m (bLoc d))
abbrev rOut (d : Dev nD) : Buf (Elt F) (oLoc d) := result (F := F) (xIn m d) (wIn m d)

/-! ## What the handshakes carry -/

/-- Each SparseCore is given what its tiles are given, and brings back what they bring back. -/
def P : (K (F := F)).Pay (nD := nD) (Val := Elt F) (Name := ℕ) (U := UU) where
  st := fun q d c => match q with | 0 => bigSep Finset.univ fun s : Fin 16 => TilePre d (xIn m d) (wIn m d) (gridAt (Fin.cast nCore_zero c) s)
  dn := fun q d c => match q with | 0 => bigSep Finset.univ fun s : Fin 16 => TilePts d (xIn m d) (wIn m d) (rOut m d) (gridAt (Fin.cast nCore_zero c) s)
  go := fun q d c i => match q with | 0 => TilePre d (xIn m d) (wIn m d) (gridAt (Fin.cast nCore_zero c) (Fin.cast nSub_zero i))
  td := fun q d c i => match q with | 0 => TilePts d (xIn m d) (wIn m d) (rOut m d) (gridAt (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => TilePre d (xIn m d) (wIn m d) (gridAt (Fin.cast nCore_zero c) s)))
  dn q d c := match q with
    | 0 => (inferInstance : BI.Storable (upEmb : UEmb _ 𝕄) (bigSep Finset.univ fun s : Fin 16 => TilePts d (xIn m d) (wIn m d) (rOut m d) (gridAt (Fin.cast nCore_zero c) s)))
  go q d c i := match q with
    | 0 => (inferInstance : BI.Storable (upEmb : UEmb _ 𝕄) (TilePre d (xIn m d) (wIn m d) (gridAt (Fin.cast nCore_zero c) (Fin.cast nSub_zero i))))
  td q d c i := match q with
    | 0 => (inferInstance : BI.Storable (upEmb : UEmb _ 𝕄) (TilePts d (xIn m d) (wIn m d) (rOut m d) (gridAt (Fin.cast nCore_zero c) (Fin.cast nSub_zero i))))

/-! ## The task -/

section Tile

variable (d : Dev nD) (L : grid0.Coords)

abbrev thr (d : Dev nD) (L : grid0.Coords) : Thread nD τ := V d (cOf L) (jOf L)
abbrev cell (d : Dev nD) (L : grid0.Coords) (s : DmaSems sig S_) : GSem nD τ sig := (thr d L, .dma s.sem)

/-- The three semaphores are among the tile's own. -/
theorem ownSems0_V :
    (ownSems0 (thr d L) : sProp 𝕄)
      = iprop(semVal (cell d L cc0_scratch5) 0 ∗ semVal (cell d L cc0_scoped0) 0 ∗ semVal (cell d L cc0_scoped1) 0
          ∗ bigSep ((((ownCells (thr d L)).erase (cell d L cc0_scratch5)).erase (cell d L cc0_scoped0)).erase (cell d L cc0_scoped1)) fun g => semVal g 0) := by
  unfold SparseCore.Cfg.ownSems0
  rw [SparseCore.bigSep_erase' ((mem_ownCells (g := cell d L cc0_scratch5)).mpr ⟨rfl, by
      show (SemLoc.dma cc0_scratch5.sem : SemLoc sig).isScoped .scVector = true; decide⟩),
    SparseCore.bigSep_erase' (Finset.mem_erase.mpr ⟨by simp [cell]; decide, (mem_ownCells (g := cell d L cc0_scoped0)).mpr ⟨rfl, by
      show (SemLoc.dma cc0_scoped0.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped1)).mpr ⟨rfl, by show (SemLoc.dma cc0_scoped1.sem : SemLoc sig).isScoped .scVector = true; decide⟩⟩⟩)]

/-- A buffer of the tile's own, taken out of those left. -/
theorem take_own {A : Finset (DevRef τ sig)} {b : Ref sig .scVector} (h : (Proc.scVector (cOf L) (jOf L)).devRef b ∈ A) :
    (bigSep A fun b => iprop(∃ f, ((d, b) : Loc nD τ sig) ↦{fullShare} f) : sProp 𝕄)
      = iprop((∃ f, (thr d L).loc b ↦{fullShare} f) ∗ bigSep (A.erase ((Proc.scVector (cOf L) (jOf L)).devRef b)) fun b => iprop(∃ f, ((d, b) : Loc nD τ sig) ↦{fullShare} f)) :=
  SparseCore.bigSep_erase' h

theorem ne_own {b b' : Ref sig .scVector} (h : b ≠ b') : (Proc.scVector (τ := τ) (cOf L) (jOf L)).devRef b ≠ (Proc.scVector (cOf L) (jOf L)).devRef b' :=
  fun e => h (Proc.devRef_injective _ e)

abbrev own (L : grid0.Coords) (b : Ref sig .scVector) : DevRef τ sig := (Proc.scVector (cOf L) (jOf L)).devRef b

/-- The five buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ bigSep ((((((ownRefs (τ := τ) (.scVector (cOf L) (jOf L))).erase (own L cc0_scratch0)).erase (own L cc0_scratch1)).erase (own L cc0_scratch2)).erase (own L cc0_scratch3)).erase (own L cc0_scratch4))
              fun b => iprop(∃ f, ((d, b) : Loc nD τ sig) ↦{fullShare} f)) := by
  have h0 : own L cc0_scratch0 ∈ ownRefs (τ := τ) (.scVector (cOf L) (jOf L)) := SparseCore.Cfg.mem_ownRefs_of_owner (p := Proc.scVector (cOf L) (jOf L)) rfl
  have h1 : own L cc0_scratch1 ∈ ownRefs (τ := τ) (.scVector (cOf L) (jOf L)) := SparseCore.Cfg.mem_ownRefs_of_owner (p := Proc.scVector (cOf L) (jOf L)) rfl
  have h2 : own L cc0_scratch2 ∈ ownRefs (τ := τ) (.scVector (cOf L) (jOf L)) := SparseCore.Cfg.mem_ownRefs_of_owner (p := Proc.scVector (cOf L) (jOf L)) rfl
  have h3 : own L cc0_scratch3 ∈ ownRefs (τ := τ) (.scVector (cOf L) (jOf L)) := SparseCore.Cfg.mem_ownRefs_of_owner (p := Proc.scVector (cOf L) (jOf L)) rfl
  have h4 : own L cc0_scratch4 ∈ ownRefs (τ := τ) (.scVector (cOf L) (jOf L)) := SparseCore.Cfg.mem_ownRefs_of_owner (p := Proc.scVector (cOf L) (jOf L)) rfl
  unfold SparseCore.Cfg.ownBufs
  refine (take_own (F := F) d L (b := cc0_scratch0) h0).trans ?_
  rw [take_own (F := F) d L (b := cc0_scratch1) (Finset.mem_erase.mpr ⟨ne_own L (by decide), h1⟩),
    take_own (F := F) d L (b := cc0_scratch2) (Finset.mem_erase.mpr ⟨ne_own L (by decide), Finset.mem_erase.mpr ⟨ne_own L (by decide), h2⟩⟩),
    take_own (F := F) d L (b := cc0_scratch3) (Finset.mem_erase.mpr ⟨ne_own L (by decide), Finset.mem_erase.mpr ⟨ne_own L (by decide), Finset.mem_erase.mpr ⟨ne_own L (by decide), h3⟩⟩⟩),
    take_own (F := F) d L (b := cc0_scratch4) (Finset.mem_erase.mpr ⟨ne_own L (by decide), Finset.mem_erase.mpr ⟨ne_own L (by decide), Finset.mem_erase.mpr ⟨ne_own L (by decide), Finset.mem_erase.mpr ⟨ne_own L (by decide), h4⟩⟩⟩⟩)]

/-- The result at a pass's rows, as the task computes it. -/
theorem rOut_piece (t1 : Fin k0_t1_loop.trips) (y : S16x4160.Idx) :
    (piece L oV t1).view.read (Elt F) (rOut m d) y =
      states (((Memref.whole main_v3_scv : Memref sig .scVector .hbm S131072 .f32).slice (Rect.unit (s := S131072) (k0_off1 L) S4096.size (k0_off1_inb L)) (fun _ => rfl)).view.read (Elt F) (xIn m d))
        ((Memref.whole main_v5_scv : Memref sig .scVector .hbm S4160 .f32).view.read (Elt F) (wIn m d)) t1
        ((y 1).val / 64) ⟨(y 1).val % 64, Nat.mod_lt _ (by norm_num)⟩ (lane ⟨(y 0).val, (y 0).isLt⟩) := by
  have ex : ((Memref.whole main_v3_scv : Memref sig .scVector .hbm S131072 .f32).slice (Rect.unit (s := S131072) (k0_off1 L) S4096.size (k0_off1_inb L)) (fun _ => rfl)).view.read (Elt F) (xIn m d)
      = xPart (xIn m d) (tileOf L) := funext fun k => fetched_eq L (xIn m d) k
  rw [ex]
  exact result_piece L t1 (xIn m d) (wIn m d) y

set_option maxHeartbeats 1000000 in
/-- The task on the tile at `L`. -/
theorem tile_body (hF : (K (F := F)).Facts) (O : CellTallies nD τ sig (HIx 1)) (W : Waits sig (HIx 1)) (hO : ∀ g, O g none = 0) :
    iprop(levAts (K (F := F)).L (K (F := F)).lev ∗ emp ∗ TilePre d (xIn m d) (wIn m d) L
        ∗ scopedBufs (thr d L) ∗ scopedSems0 (thr d L) ∗ owes (thr d L) O W)
      ⊢ wp frame (wpE (defs₀ (F := F)) 𝒱₀ (thr d L) none) Set.univ
          (cc0_k L (Memref.whole main_v3_scv) (Memref.isWhole_whole _) (Memref.whole main_v5_scv) (Memref.isWhole_whole _) (Memref.whole main_v6_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scoped0 cc0_scoped1)
          fun _ => iprop(TilePts d (xIn m d) (wIn m d) (rOut m d) L
            ∗ scopedBufs (thr d L) ∗ scopedSems0 (thr d L)
            ∗ ∃ W', ⌜∀ p ∈ W', p ∈ W ∨ p.2 = none⌝ ∗ owes (thr d L) O W') := by
  rw [(K (F := F)).scopedBufs_V hF d (cOf L) (jOf L), SparseCore.Cfg.scopedSems0_V (Val := Elt F) d (cOf L) (jOf L), ownSems0_V, ownBufs_V]
  iintro ⟨#Hlv, -, ⟨Hx, Hw, H0, H1⟩, ⟨H5, H6, H7, H8, H9, Hbufs⟩, ⟨Hv, Hv0, Hv1, Hsems⟩, HO⟩
  ihave Hmw := (show levAts (K (F := F)).L (K (F := F)).lev ⊢ Transfers.MayWaits (thr d L) (default : HIx 1) O from
    (K (F := F)).mayWaits_none (thr := thr d L) hO) $$ Hlv
  have ht := task_run L (Memref.whole main_v3_scv) (Memref.isWhole_whole _) (Memref.whole main_v5_scv) (Memref.isWhole_whole _) (Memref.whole main_v6_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scoped0 cc0_scoped1
            d O W (share L) (xIn m d) (wIn m d) (rOut m d) (rOut_piece m d L)
  ihave Hwp := ht $$ [Hx Hw H0 H1 H5 H6 H7 H8 H9 Hv Hv0 Hv1 HO]
  · isplitl [Hx]; · iexact Hx
    isplitl [Hw]; · iexact Hw
    isplitl [H0]; · iexact H0
    isplitl [H1]; · iexact H1
    isplitl [H5]; · iexact H5
    isplitl [H6]; · iexact H6
    isplitl [H7]; · iexact H7
    isplitl [H8]; · iexact H8
    isplitl [H9]; · iexact H9
    isplitl [Hv]; · iexact Hv
    isplitl [Hv0]; · iexact Hv0
    isplitl [Hv1]; · iexact Hv1
    unfold Owed
    isplitr; · iexact Hmw
    iexists W; isplitr
    · ipureintro; exact fun p hp => .inl hp
    · iexact HO
  iapply (wp_wand frame (wpE (defs₀ (F := F)) 𝒱₀ (thr d L) none) Set.univ) $$ Hwp
  unfold Owed
  iintro %r ⟨Hx, Hw, H0, H1, H5, H6, H7, H8, H9, Hv, Hv0, Hv1, -, HO⟩
  isplitl [Hx Hw H0 H1]
  · isplitl [Hx]; · iexact Hx
    isplitl [Hw]; · iexact Hw
    isplitl [H0]; · iexact H0
    iexact H1
  isplitl [H5 H6 H7 H8 H9 Hbufs]
  · isplitl [H5]; · iexact H5
    isplitl [H6]; · iexact H6
    isplitl [H7]; · iexact H7
    isplitl [H8]; · iexact H8
    isplitl [H9]; · iexact H9
    iexact Hbufs
  isplitl [Hv Hv0 Hv1 Hsems]
  · isplitl [Hv]; · iexact Hv
    isplitl [Hv0]; · iexact Hv0
    isplitl [Hv1]; · iexact Hv1
    iexact Hsems
  iexact HO

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v3_scv) (Memref.isWhole_whole _) (Memref.whole main_v5_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun s : Fin 16 => TilePre d (xIn m d) (wIn m d) (gridAt (Fin.cast nCore_zero c) s)) ⊢ |={Set.univ}=> iprop(
      (bigSep Finset.univ fun i : Fin ((K (F := F)).nSub 0) => TilePre d (xIn m d) (wIn m d) (gridAt (Fin.cast nCore_zero c) (Fin.cast nSub_zero i)))
      ∗ ((bigSep Finset.univ fun i : Fin ((K (F := F)).nSub 0) => TilePts d (xIn m d) (wIn m d) (rOut m d) (gridAt (Fin.cast nCore_zero c) (Fin.cast nSub_zero i)))
          -∗ bigSep Finset.univ fun s : Fin 16 => TilePts d (xIn m d) (wIn m d) (rOut m d) (gridAt (Fin.cast nCore_zero c) s)))
  rw [bigSep_tasks (F := F) (fun s => TilePre d (xIn m d) (wIn m d) (gridAt (Fin.cast nCore_zero c) s)),
    bigSep_tasks (F := F) (fun s => TilePts d (xIn m d) (wIn m d) (rOut m d) (gridAt (Fin.cast nCore_zero c) s))]
  iintro H; imodintro
  isplitl [H]; · iexact H
  iintro H
  iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof

end
-- ==== Proof.Host.lean ====
/-
  The kernel's whole run: the host lays the arguments out, the call computes the result, the arguments end as they began.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's arrays and operations -/

abbrev dr (b : Ref sig .tc) : DevRef τ sig := Proc.devRef .tc b

abbrev op0 : HloOp τ sig (Elt F) := StableHlo.unary main_arg0 main_v0 ((transpose S128x1024 [1, 0] · transposes_S1024x128_S128x1024_1_0) : (⟨S1024x128, .f32⟩ : BufTy).Contents (Elt F) → (⟨S128x1024, .f32⟩ : BufTy).Contents (Elt F))
abbrev op1 : HloOp τ sig (Elt F) := StableHlo.reshape main_v0 main_v1 (rfl : (.f32 : EltTy) = .f32) shapeCasts_S128x1024_S128x32x32
abbrev op2 : HloOp τ sig (Elt F) := StableHlo.unary main_v1 main_v2 ((transpose S32x128x32 [1, 0, 2] · transposes_S128x32x32_S32x128x32_1_0_2) : (⟨S128x32x32, .f32⟩ : BufTy).Contents (Elt F) → (⟨S32x128x32, .f32⟩ : BufTy).Contents (Elt F))
abbrev op3 : HloOp τ sig (Elt F) := StableHlo.reshape main_v2 main_v3 (rfl : (.f32 : EltTy) = .f32) shapeCasts_S32x128x32_S131072
abbrev op4 : HloOp τ sig (Elt F) := StableHlo.unary main_arg1 main_v4 ((extractStridedSlice S65x64 ![63, 0] · slices_S192x64_S65x64_63_0) : (⟨S192x64, .f32⟩ : BufTy).Contents (Elt F) → (⟨S65x64, .f32⟩ : BufTy).Contents (Elt F))
abbrev op5 : HloOp τ sig (Elt F) := StableHlo.reshape main_v4 main_v5 (rfl : (.f32 : EltTy) = .f32) shapeCasts_S65x64_S4160

/-- The host's arrays. -/
abbrev S9 : Finset (DevRef τ sig) := {dr main_arg0, dr main_arg1, dr main_v0, dr main_v1, dr main_v2, dr main_v3, dr main_v4, dr main_v5, dr main_v6}

theorem held_S9 (d : Dev nD) (W : Valuation τ sig (Elt F)) :
    (held (T d) S9 W : sProp 𝕄)
      = iprop((aLoc d ↦{fullShare} W (dr main_arg0)) ∗ (bLoc d ↦{fullShare} W (dr main_arg1)) ∗ ((SparseCore.T d).loc main_v0 ↦{fullShare} W (dr main_v0))
          ∗ ((SparseCore.T d).loc main_v1 ↦{fullShare} W (dr main_v1)) ∗ ((SparseCore.T d).loc main_v2 ↦{fullShare} W (dr main_v2)) ∗ (xLoc d ↦{fullShare} W (dr main_v3))
          ∗ ((SparseCore.T d).loc main_v4 ↦{fullShare} W (dr main_v4)) ∗ (wLoc d ↦{fullShare} W (dr main_v5)) ∗ oLoc d ↦{fullShare} W (dr main_v6)) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ ((SparseCore.T d).loc main_v0 ↦{fullShare} W main_v0)
          ∗ ((SparseCore.T d).loc main_v1 ↦{fullShare} W main_v1) ∗ ((SparseCore.T d).loc main_v2 ↦{fullShare} W main_v2) ∗ (xLoc d ↦{fullShare} W main_v3)
          ∗ ((SparseCore.T d).loc main_v4 ↦{fullShare} W main_v4) ∗ (wLoc d ↦{fullShare} W main_v5) ∗ oLoc d ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- What the arrays hold at launch, and before the call. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)
def V5 (d : Dev nD) : Valuation τ sig (Elt F) := (op4 (F := F)).result (V4 m d)
def V6 (d : Dev nD) : Valuation τ sig (Elt F) := (op5 (F := F)).result (V5 m d)

theorem unscoped_held (d : Dev nD) : (unscopedBufs d (fun b => m ((SparseCore.T d).loc b)) : sProp 𝕄) = held (T d) S9 (V0 m d) := by
  rw [unscopedBufs_eq, held_S9]; rfl

/-- An array none of the first four operations writes. -/
theorem V4_keep (d : Dev nD) (b : Ref sig .tc) (h : dr b ∉ ({dr main_v0, dr main_v1, dr main_v2, dr main_v3} : Finset (DevRef τ sig))) : V4 m d (dr b) = m (d, dr b) := by
  simp only [Finset.mem_insert, Finset.mem_singleton, not_or] at h
  unfold V4 V3 V2 V1
  rw [(op3 (F := F)).result_of_not_mem _ (show dr b ∉ ({dr main_v3} : Finset (DevRef τ sig)) from Finset.notMem_singleton.mpr h.2.2.2),
    (op2 (F := F)).result_of_not_mem _ (show dr b ∉ ({dr main_v2} : Finset (DevRef τ sig)) from Finset.notMem_singleton.mpr h.2.2.1),
    (op1 (F := F)).result_of_not_mem _ (show dr b ∉ ({dr main_v1} : Finset (DevRef τ sig)) from Finset.notMem_singleton.mpr h.2.1),
    (op0 (F := F)).result_of_not_mem _ (show dr b ∉ ({dr main_v0} : Finset (DevRef τ sig)) from Finset.notMem_singleton.mpr h.1)]
  rfl

/-- An array the last two operations do not write. -/
theorem V6_keep (d : Dev nD) (b : Ref sig .tc) (h4 : dr b ≠ dr main_v4) (h5 : dr b ≠ dr main_v5) : V6 m d (dr b) = V4 m d (dr b) := by
  unfold V6 V5
  rw [(op5 (F := F)).result_of_not_mem _ (show dr b ∉ ({dr main_v5} : Finset (DevRef τ sig)) from Finset.notMem_singleton.mpr h5),
    (op4 (F := F)).result_of_not_mem _ (show dr b ∉ ({dr main_v4} : Finset (DevRef τ sig)) from Finset.notMem_singleton.mpr h4)]

theorem V6_a (d : Dev nD) : V6 m d (dr main_arg0) = m (aLoc d) := by
  rw [V6_keep m d main_arg0 (by decide) (by decide), V4_keep m d main_arg0 (by decide)]
theorem V6_b (d : Dev nD) : V6 m d (dr main_arg1) = m (bLoc d) := by
  rw [V6_keep m d main_arg1 (by decide) (by decide), V4_keep m d main_arg1 (by decide)]

theorem V6_x (d : Dev nD) : V6 m d (dr main_v3) = xIn m d := by
  rw [V6_keep m d main_v3 (by decide) (by decide)]
  unfold V4 V3 V2 V1
  refine (StableHlo.reshape_result _ _ _ _ _ _ _).trans ?_
  rw [show (op2 (F := F)).result ((op1 (F := F)).result ((op0 (F := F)).result (V0 m d))) (dr main_v2) = _ from StableHlo.unary_result _ _ _ _ _ _,
    show (op1 (F := F)).result ((op0 (F := F)).result (V0 m d)) (dr main_v1) = _ from StableHlo.reshape_result _ _ _ _ _ _ _,
    show (op0 (F := F)).result (V0 m d) (dr main_v0) = _ from StableHlo.unary_result _ _ _ _ _ _]
  rfl

theorem V6_w (d : Dev nD) : V6 m d (dr main_v5) = wIn m d := by
  unfold V6
  refine (StableHlo.reshape_result _ _ _ _ _ _ _).trans ?_
  unfold V5
  rw [show (op4 (F := F)).result (V4 m d) (dr main_v4) = _ from StableHlo.unary_result _ _ _ _ _ _, V4_keep m d main_arg1 (by decide)]
  rfl

/-! ## The run -/

theorem h0 : (op0 (F := F)).bufs ⊆ S9 := show ({dr main_arg0, dr main_v0} : Finset (DevRef τ sig)) ⊆ S9 by decide
theorem h1 : (op1 (F := F)).bufs ⊆ S9 := show ({dr main_v0, dr main_v1} : Finset (DevRef τ sig)) ⊆ S9 by decide
theorem h2 : (op2 (F := F)).bufs ⊆ S9 := show ({dr main_v1, dr main_v2} : Finset (DevRef τ sig)) ⊆ S9 by decide
theorem h3 : (op3 (F := F)).bufs ⊆ S9 := show ({dr main_v2, dr main_v3} : Finset (DevRef τ sig)) ⊆ S9 by decide
theorem h4 : (op4 (F := F)).bufs ⊆ S9 := show ({dr main_arg1, dr main_v4} : Finset (DevRef τ sig)) ⊆ S9 by decide
theorem h5 : (op5 (F := F)).bufs ⊆ S9 := show ({dr main_v4, dr main_v5} : Finset (DevRef τ sig)) ⊆ S9 by decide

/-- The arrays before the call. -/
theorem held_V6 (d : Dev nD) :
    (held (T d) S9 (V6 m d) : sProp 𝕄)
      ⊢ iprop((aLoc d ↦{fullShare} m (aLoc d)) ∗ (bLoc d ↦{fullShare} m (bLoc d))
          ∗ iprop((xLoc d ↦{fullShare} xIn m d) ∗ (wLoc d ↦{fullShare} wIn m d) ∗ oLoc d ↦{fullShare} V6 m d (dr main_v6))) := by
  rw [held_S9, V6_a, V6_b, V6_x, V6_w]
  iintro ⟨Ha, Hb, -, -, -, Hx, -, Hw, Ho⟩
  isplitl [Ha]; · iexact Ha
  isplitl [Hb]; · iexact Hb
  isplitl [Hx]; · iexact Hx
  isplitl [Hw] <;> iassumption

/-- The call's operands go to the SparseCores. -/
theorem st0 (d : Dev nD) (g : Buf (Elt F) (oLoc d)) :
    iprop((xLoc d ↦{fullShare} xIn m d) ∗ (wLoc d ↦{fullShare} wIn m d) ∗ oLoc d ↦{fullShare} g)
      ⊢ (bigSep Finset.univ fun c : Fin ((K (F := F)).nCore 0) => (P m).st 0 d c : sProp 𝕄) := by
  rw [deal]
  refine BI.Entails.trans ?_ (Entails.of_eq (bigSep_cores (F := F) fun c => bigSep Finset.univ fun s : Fin 16 => TilePre d (xIn m d) (wIn m d) (gridAt c s)).symm)
  exact bigSep_mono fun c _ => bigSep_mono fun s _ => tilePts_pre d _ _ _ _

/-- and come back. -/
theorem dn0 (d : Dev nD) :
    (bigSep Finset.univ fun c : Fin ((K (F := F)).nCore 0) => (P m).dn 0 d c : sProp 𝕄)
      = iprop((xLoc d ↦{fullShare} xIn m d) ∗ (wLoc d ↦{fullShare} wIn m d) ∗ oLoc d ↦{fullShare} rOut m d) := by
  rw [deal]
  exact bigSep_cores (F := F) fun c => bigSep Finset.univ fun s : Fin 16 => TilePts d (xIn m d) (wIn m d) (rOut m d) (gridAt c s)

/-- What is kept to the end: the arguments and the result. -/
abbrev FIN (d : Dev nD) : sProp 𝕄 := iprop((aLoc d ↦{fullShare} m (aLoc d)) ∗ (bLoc d ↦{fullShare} m (bLoc d)) ∗ oLoc d ↦{fullShare} rOut m d)

set_option maxHeartbeats 1000000 in
/-- The host's program: the six operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S9) h0 (V := V0 m d)) $$ [Hb Hheld]
  · isplitl [Hb] <;> iassumption
  iintro ⟨Hb, Hheld⟩
  rw [show (op0 (F := F)).result (V0 m d) = V1 m d from rfl, wp_ret]; imodintro
  iapply (wp_hlo_within 𝒱 (SparseCore.T d) none Set.univ (op := op1) (S := S9) h1 (V := V1 m d)) $$ [Hb Hheld]
  · isplitl [Hb] <;> iassumption
  iintro ⟨Hb, Hheld⟩
  rw [show (op1 (F := F)).result (V1 m d) = V2 m d from rfl, wp_ret]; imodintro
  iapply (wp_hlo_within 𝒱 (SparseCore.T d) none Set.univ (op := op2) (S := S9) h2 (V := V2 m d)) $$ [Hb Hheld]
  · isplitl [Hb] <;> iassumption
  iintro ⟨Hb, Hheld⟩
  rw [show (op2 (F := F)).result (V2 m d) = V3 m d from rfl, wp_ret]; imodintro
  iapply (wp_hlo_within 𝒱 (SparseCore.T d) none Set.univ (op := op3) (S := S9) h3 (V := V3 m d)) $$ [Hb Hheld]
  · isplitl [Hb] <;> iassumption
  iintro ⟨Hb, Hheld⟩
  rw [show (op3 (F := F)).result (V3 m d) = V4 m d from rfl, wp_ret]; imodintro
  iapply (wp_hlo_within 𝒱 (SparseCore.T d) none Set.univ (op := op4) (S := S9) h4 (V := V4 m d)) $$ [Hb Hheld]
  · isplitl [Hb] <;> iassumption
  iintro ⟨Hb, Hheld⟩
  rw [show (op4 (F := F)).result (V4 m d) = V5 m d from rfl, wp_ret]; imodintro
  iapply (wp_hlo_within 𝒱 (SparseCore.T d) none Set.univ (op := op5) (S := S9) h5 (V := V5 m d)) $$ [Hb Hheld]
  · isplitl [Hb] <;> iassumption
  iintro ⟨Hb, Hheld⟩
  rw [show (op5 (F := F)).result (V5 m d) = V6 m d from rfl, wp_ret]; imodintro
  ihave Hh := (held_V6 m d) $$ Hheld
  icases Hh with ⟨Ha, Hbb, Hops⟩
  ihave Hops := (st0 m d _) $$ Hops
  iapply ((K (F := F)).wp_run (D (F := F)) 𝒱 (EH := EH) (P := P m) κ d 0) $$ [Hst Hops Ha Hbb Hb Hts]
  isplitr; · iexact Hctx
  isplitl [Hst]; · iexact Hst
  isplitl [Hops]; · iexact Hops
  iintro ⟨Hst, Hdn⟩
  ihave Hdn' := (Entails.of_eq (dn0 m d)) $$ Hdn
  icases Hdn' with ⟨-, -, Ho⟩
  imodintro
  isplitl [Hst]; · iexact Hst
  isplitr [Hb Hts]
  · isplitl [Ha]; · iexact Ha
    isplitl [Hbb]; · iexact Hbb
    iexact Ho
  isplitl [Hb] <;> iassumption

/-- What the claims read of a final state. -/
def fq (d : Dev nD) (s' : Phys nD τ sig (Elt F)) : Prop :=
  s'.mem.mem (aLoc d) = m (aLoc d) ∧ s'.mem.mem (bLoc d) = m (bLoc d) ∧ s'.mem.mem (oLoc d) = rOut m d

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := rOut m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-- The kernel's final memories: the arguments unchanged, the result computed, every semaphore at zero. -/
def QC : PUnit × MemSt nD τ sig (Elt F) → Prop :=
  fun r => (∀ c : Dev nD, r.2.mem (aLoc c) = m (aLoc c) ∧ r.2.mem (bLoc c) = m (bLoc c) ∧ r.2.mem (oLoc c) = rOut m c) ∧ r.2.sem = fun _ => 0

/-- The kernel runs to such a memory. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The frames of the kernel, as printed and with its floats ideal.
-/
module

public import proofs.«01_k».proof.Defs
public import proofs.«01_k».proof.Proof.Host
public import proofs.«01_k».proof.Proof.Gen.Kernel

@[expose] public section

noncomputable section

namespace Cert.Proof

open Idealize.ShloMosaic Idealize.SL.Sem

/-- The printed kernel is the same program at bit floats. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel's frame. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

end Cert.Proof

end
-- ==== Proof.Finite.lean ====
/-
  What the precondition says: every received value is a real.
-/
module

public import proofs.«01_k».proof.Pre_finite_x
public import Idealize.ShloMosaic.Lib.KernelVsHost
public import Idealize.ShloMosaic.Lib.Pointwise
public import Idealize.ShloMosaic.Lib.ReduceAll

@[expose] public section

noncomputable section

namespace Cert.Proof

open Cert.Pre_finite_x
open Idealize.ShloMosaic

/-- The shape facts the precondition is printed with. -/
theorem finite_facts : Cert.Pre_finite_x.Facts where
  bcast_S_S1024x128 := by decide
  reducesTo_S1024x128_S_d0_1 := by decide
  h_S_ := by decide

/-- A value whose magnitude lies below infinity is a real. -/
theorem real_of_below {v : EReal} (h : Ideal.cmp .olt (max v (-v)) (Ideal.ofBits .f32 0x7F800000#32) = 1#1) : ∃ y : ℝ, v = (y : EReal) := by
  have htop : Ideal.ofBits .f32 0x7F800000#32 = ⊤ := by simp [Ideal.ofBits, Ideal.ieee]
  rw [htop] at h
  induction v with
  | bot => simp [Ideal.cmp] at h
  | top => simp [Ideal.cmp] at h
  | coe y => exact ⟨y, rfl⟩

/-- The precondition gives the batch as reals. -/
theorem reals_of_pre [Cert.Pre_finite_x.Facts] (x : FVec Ideal S1024x128 .f32) (w : FVec Ideal S192x64 .f32) (h : fn (F := Ideal) x w = fun _ => 1#1) :
    ∃ y : Fin 1024 → Fin 128 → ℝ, ∀ n k, x (ix2 n k) = (y n k : EReal) := by
  have hall : ∀ n k, ∃ y : ℝ, x (ix2 n k) = (y : EReal) := fun n k => by
    haveI : Subsingleton S_.Idx := ⟨fun a b => funext fun d => d.elim0⟩
    have e := congrFun h fun d => d.elim0
    dsimp only [fn] at e
    have e' := Host.reduce_andi_all _ _ _ _ _ e (ix2 n k)
    pointwise at e'
    exact real_of_below e'
  choose y hy using hall
  exact ⟨y, hy⟩

end Cert.Proof

end
-- ==== Proof.Spec.lean ====
/-
  The decoder's forward pass on one row of the batch, over the extended reals: what both programs compute.
-/
module

public import proofs.«01_k».proof.ReferenceIdeal
public import Idealize.ShloMosaic.Lib.Pointwise

@[expose] public section

noncomputable section

namespace Cert.Proof

open Idealize.ShloMosaic

/-- The states' previous states: branch `b` into state `s` comes from `2 (s mod 32) + b`. -/
def prev (s : Fin 64) (b : Fin 2) : Fin 64 := ⟨2 * (s.val % 32) + b.val, by have := b.isLt; omega⟩

/-- Whether the coded bit of generator `r` on the branch `b` into state `s` is one: the parity of the generator's taps (of 1111001 and 1011011) on the branch's seven bits,
the new state's first bit above the previous state's six. -/
def minus (r : Fin 2) (s : Fin 64) (b : Fin 2) : Bool :=
  ((List.range 7).filter fun j => Nat.testBit (if r = 0 then 0x79 else 0x5b) j && Nat.testBit (s.val / 32 * 64 + (prev s b).val) j).length % 2 == 1

/-- The coded bit as a sign. -/
def sgn (r : Fin 2) (s : Fin 64) (b : Fin 2) : EReal := bif minus r s b then ((-1 : ℝ) : EReal) else ((1 : ℝ) : EReal)

/-- The best of the two ways into state `s`, from the metrics `a` of the previous states, the weights `w` and the step's two received values. -/
def best (a w : Fin 64 → EReal) (x0 x1 : EReal) (s : Fin 64) : EReal :=
  max (a (prev s 0) + w s * (x0 * sgn 0 s 0 + x1 * sgn 1 s 0)) (a (prev s 1) + w s * (x0 * sgn 0 s 1 + x1 * sgn 1 s 1))

/-- The metrics less their mean, held between -50 and 50. -/
def centred (v : Fin 64 → EReal) (s : Fin 64) : EReal :=
  min ((50 : ℝ) : EReal) (max ((-50 : ℝ) : EReal) (v s - (∑ j, v j) * ((1 / 64 : ℝ) : EReal)))

/-- One step of the forward pass. -/
def stepR (a w : Fin 64 → EReal) (x0 x1 : EReal) : Fin 64 → EReal := centred (best a w x0 x1)

/-- The weights of step `k`: learned for steps 63 to 127, else one. -/
def weightAt (W : Fin 192 → Fin 64 → EReal) (k : ℕ) (s : Fin 64) : EReal :=
  if h : 63 ≤ k ∧ k ≤ 127 then W ⟨k, by omega⟩ s else 1

/-- The two values a row of the batch gives step `k`: the row is read again from its start after sixty-four steps. -/
def recv (row : Fin 128 → EReal) (k : ℕ) (r : Fin 2) : EReal := row ⟨(2 * k + r.val) % 128, Nat.mod_lt _ (by norm_num)⟩

/-- The metrics after `k` steps. -/
def metrics (row : Fin 128 → EReal) (W : Fin 192 → Fin 64 → EReal) : ℕ → Fin 64 → EReal
  | 0 => fun s => if s = 0 then ((20 : ℝ) : EReal) else 0
  | k + 1 => stepR (metrics row W k) (weightAt W k) (recv row k 0) (recv row k 1)

/-- The literal 50. -/
theorem lit_fifty : Ideal.ofBits .f32 0x42480000#32 = ((50 : ℝ) : EReal) := by
  simp [Ideal.ofBits, Ideal.ieee]
  rw [← EReal.coe_mul]; norm_num
/-- The literal -50. -/
theorem lit_neg_fifty : Ideal.ofBits .f32 0xC2480000#32 = ((-50 : ℝ) : EReal) := by
  simp [Ideal.ofBits, Ideal.ieee]
  rw [← EReal.coe_mul]; norm_num
/-- The literal 64. -/
theorem lit_64 : Ideal.ofBits .f32 0x42800000#32 = ((64 : ℝ) : EReal) := by
  simp [Ideal.ofBits, Ideal.ieee]
  rw [← EReal.coe_mul]; norm_num
/-- The literal 1 / 64. -/
theorem lit_inv_64 : Ideal.ofBits .f32 0x3C800000#32 = ((1 / 64 : ℝ) : EReal) := by
  simp [Ideal.ofBits, Ideal.ieee]
  rw [← EReal.coe_mul]; norm_num
/-- The literal 20. -/
theorem lit_20 : Ideal.ofBits .f32 0x41A00000#32 = ((20 : ℝ) : EReal) := by
  simp [Ideal.ofBits, Ideal.ieee]
  rw [← EReal.coe_mul]; norm_num
/-- The literal 1. -/
theorem lit_one : Ideal.ofBits .f32 0x3F800000#32 = ((1 : ℝ) : EReal) := by
  simp [Ideal.ofBits, Ideal.ieee]
  rw [← EReal.coe_mul]; norm_num
/-- The literal -1. -/
theorem lit_neg_one : Ideal.ofBits .f32 0xBF800000#32 = ((-1 : ℝ) : EReal) := by
  simp [Ideal.ofBits, Ideal.ieee]
  rw [← EReal.coe_mul]; norm_num
/-- The literal minus infinity, where the maximum starts. -/
theorem lit_bot : Ideal.ofBits .f32 0xFF800000#32 = (⊥ : EReal) := by
  simp [Ideal.ofBits, Ideal.ieee]

end Cert.Proof
-- ==== Proof.KerStep.lean ====
/-
  One step of the kernel's trellis, at one of the sixteen batch rows: it is one step of the forward pass where the received values are real.
-/
module

public import proofs.«01_k».proof.Proof.Launch
public import proofs.«01_k».proof.Proof.Spec
public import Idealize.ShloMosaic.Lib.Pointwise

@[expose] public section

noncomputable section

namespace Cert.Proof

open Cert.KernelIdeal Cert.KernelIdeal.Gen
open Idealize.ShloMosaic

/-! ## The mean -/

/-- The sum of the states `j, j + 32, j + 8, j + 40, …` in that order. -/
def partE (v : Fin 64 → EReal) (j : Fin 8) : EReal :=
  v ⟨j.val, by omega⟩ + v ⟨j.val + 32, by omega⟩ + v ⟨j.val + 8, by omega⟩ + v ⟨j.val + 40, by omega⟩
    + v ⟨j.val + 16, by omega⟩ + v ⟨j.val + 48, by omega⟩ + v ⟨j.val + 24, by omega⟩ + v ⟨j.val + 56, by omega⟩

/-- The eight partial sums add up to the sum over the states. -/
theorem sum_parts (v : Fin 64 → EReal) :
    (partE v 0 + partE v 1 + (partE v 2 + partE v 3)) + (partE v 4 + partE v 5 + (partE v 6 + partE v 7)) = ∑ j, v j := by
  have h : ∑ j, v j = ∑ j : Fin 8, partE v j := by
    rw [← (finProdFinEquiv (m := 8) (n := 8)).sum_comp, Fintype.sum_prod_type, Finset.sum_comm]
    refine Finset.sum_congr rfl fun j _ => ?_
    have e : ∀ i : Fin 8, finProdFinEquiv (i, j) = (⟨j.val + 8 * i.val, by omega⟩ : Fin 64) := fun i => Fin.ext rfl
    simp only [Fin.sum_univ_eight, e, partE]
    show v ⟨j.val + 0, _⟩ + v ⟨j.val + 8, _⟩ + v ⟨j.val + 16, _⟩ + v ⟨j.val + 24, _⟩ + v ⟨j.val + 32, _⟩ + v ⟨j.val + 40, _⟩ + v ⟨j.val + 48, _⟩ + v ⟨j.val + 56, _⟩ = _
    simp only [Nat.add_zero]
    abel
  rw [h, Fin.sum_univ_eight]
  abel

/-- The clipped difference from the mean, at a batch row. -/
theorem norm_at (o : Fin 64 → Vc Ideal) (s : Fin 64) (l : S16.Idx) : norm o s l = centred (fun j => o j l) s := by
  have hμ : meanOf o l = (∑ j, o j l) * ((1 / 64 : ℝ) : EReal) := by
    rw [← sum_parts, ← lit_inv_64]
    rfl
  show min (max (o s l - meanOf o l) (Ideal.ofBits .f32 0xC2480000#32)) (Ideal.ofBits .f32 0x42480000#32) = _
  rw [hμ, lit_fifty, lit_neg_fifty, min_comm, max_comm]
  rfl

/-! ## The two ways into a state -/

/-- Taking a real multiple of a weight away is adding the opposite multiple. -/
theorem sub_way (p w : EReal) (c : ℝ) : p - w * (c : EReal) = p + w * ((-c : ℝ) : EReal) := by
  rw [sub_eq_add_neg, EReal.coe_neg, mul_neg]

/-- The signs of the branches into a state, by the two tables the kernel is written with. -/
theorem signs_eq : ∀ s : Fin 64, minus 0 s 0 = !positive s ∧ minus 0 s 1 = positive s ∧ minus 1 s 0 = ((!positive s) ^^ (!useSum s)) ∧ minus 1 s 1 = (positive s ^^ (!useSum s)) := by
  decide +kernel

/-- Add, compare, select at a batch row, where the branch metric is a weight times the sum or the difference of two reals. -/
theorem acs_at (a t : Fin 64 → Vc Ideal) (l : S16.Idx) (w : Fin 64 → EReal) (x0 x1 : ℝ)
    (ht : ∀ s, t s l = w s * (bif useSum s then (x0 : EReal) + (x1 : EReal) else (x0 : EReal) - (x1 : EReal))) (s : Fin 64) :
    acs a t s l = best (fun j => a j l) w x0 x1 s := by
  have e : acs a t s l = bif positive s then max (a (pred0 s) l + t s l) (a (pred1 s) l - t s l) else max (a (pred0 s) l - t s l) (a (pred1 s) l + t s l) := by
    unfold acs cand
    cases positive s <;> rfl
  obtain ⟨h1, h2, h3, h4⟩ := signs_eq s
  rw [e, ht]
  unfold best sgn
  rw [h1, h2, h3, h4]
  change (bif positive s then max (a (pred0 s) l + _) (a (pred1 s) l - _) else max (a (pred0 s) l - _) (a (pred1 s) l + _)) = max (a (pred0 s) l + _) (a (pred1 s) l + _)
  generalize a (pred0 s) l = p0
  generalize a (pred1 s) l = p1
  generalize w s = w'
  cases positive s <;> cases useSum s <;>
    simp only [cond_true, cond_false, Bool.not_true, Bool.not_false, Bool.xor_true, Bool.xor_false, Bool.true_xor, Bool.false_xor, ← EReal.coe_mul, ← EReal.coe_add, ← EReal.coe_sub, sub_way] <;>
    ring_nf

/-- One step at a batch row. -/
theorem step_at (a t : Fin 64 → Vc Ideal) (l : S16.Idx) (w : Fin 64 → EReal) (x0 x1 : ℝ)
    (ht : ∀ s, t s l = w s * (bif useSum s then (x0 : EReal) + (x1 : EReal) else (x0 : EReal) - (x1 : EReal))) (s : Fin 64) :
    norm (acs a t) s l = stepR (fun j => a j l) w x0 x1 s := by
  rw [norm_at]
  exact congrArg (fun v => centred v s) (funext fun j => acs_at a t l w x0 x1 ht j)

/-- The unweighted branch metric at a batch row. -/
theorem sel_at (v0 v1 : Vc Ideal) (l : S16.Idx) (s : Fin 64) : sel v0 v1 s l = bif useSum s then v0 l + v1 l else v0 l - v1 l := by
  unfold sel
  cases useSum s <;> rfl

/-- The weighted branch metric at a batch row: the weight is one of sixteen loaded. -/
theorem wsel_at (wv : Fin 4 → Vc Ideal) (v0 v1 : Vc Ideal) (l : S16.Idx) (s : Fin 64) :
    wsel wv v0 v1 s l = wv ⟨s.val / 16, by omega⟩ (lane ⟨s.val % 16, Nat.mod_lt _ (by norm_num)⟩) * bif useSum s then v0 l + v1 l else v0 l - v1 l := by
  rw [← sel_at]
  refine congrArg (· * sel v0 v1 s l) (congrArg (wv _) (funext fun a => Fin.ext ?_))
  fin_cases a
  rfl

/-! ## What a load reads -/

/-- An entry of the input a tile fetches: of the batch row `b` of the tile's thirty-two, the value of column `c`. -/
theorem laid_at (x : S1024x128.Idx → EReal) (t b : Fin 32) (c : Fin 128) :
    xPart (F := Ideal) (laid (F := Ideal) x) t (ix1 ⟨32 * c.val + b.val, by omega⟩) = x (ix2 ⟨32 * t.val + b.val, by omega⟩ c) := by
  show laid (F := Ideal) x (ix1 ⟨4096 * t.val + (32 * c.val + b.val), by omega⟩) = _
  unfold laid
  pointwise
  exact congrArg (fun i => x (ix2 i c)) (Fin.ext (by show t.val * 32 + b.val = 32 * t.val + b.val; omega))

/-- An entry of the learned weights' rows. -/
theorem learned_at (w : S192x64.Idx → EReal) (r : Fin 65) (s : Fin 64) :
    learned (F := Ideal) w (ix1 ⟨64 * r.val + s.val, by omega⟩) = w (ix2 ⟨63 + r.val, by omega⟩ s) := by
  unfold learned
  pointwise

/-- Sixteen input values, at a lane. -/
theorem xrow_at (x : S1024x128.Idx → EReal) (t : Fin 32) (t1 : Fin k0_t1_loop.trips) (j : Fin 16) (of : Fin 1 → ℕ) (h : ∀ a, of a + S16.size a ≤ S4096.size a)
    (c : Fin 128) (ho : of 0 = 32 * c.val + 16 * t1.val) :
    xrow (xPart (F := Ideal) (laid (F := Ideal) x) t) of h (lane j) = x (ix2 ⟨32 * t.val + (16 * t1.val + j.val), by have : t1.val < 2 := t1.isLt; omega⟩ c) := by
  have h1 : t1.val < 2 := t1.isLt
  refine Eq.trans (congrArg (xPart (F := Ideal) (laid (F := Ideal) x) t) (funext fun a => Fin.ext ?_)) (laid_at x t ⟨16 * t1.val + j.val, by omega⟩ c)
  fin_cases a
  show of 0 + 1 * j.val = 32 * c.val + (16 * t1.val + j.val)
  omega

/-- Sixteen weights, at a lane. -/
theorem wrow_at (w : S192x64.Idx → EReal) (j : Fin 16) (of : Fin 1 → ℕ) (h : ∀ a, of a + S16.size a ≤ S4160.size a) (r : Fin 65) (g : Fin 4) (ho : of 0 = 64 * r.val + 16 * g.val) :
    wrow (learned (F := Ideal) w) of h (lane j) = w (ix2 ⟨63 + r.val, by omega⟩ ⟨16 * g.val + j.val, by omega⟩) := by
  refine Eq.trans (congrArg (learned (F := Ideal) w) (funext fun a => Fin.ext ?_)) (learned_at w r ⟨16 * g.val + j.val, by omega⟩)
  fin_cases a
  show of 0 + 1 * j.val = 64 * r.val + (16 * g.val + j.val)
  omega

end Cert.Proof
-- ==== Proof.KerVal.lean ====
/-
  What the kernel leaves: every block of every row of the result is the metrics of the forward pass, where the batch is real.
-/
module

public import proofs.«01_k».proof.Proof.KerStep

@[expose] public section

noncomputable section

namespace Cert.Proof

open Cert.KernelIdeal Cert.KernelIdeal.Gen
open Idealize.ShloMosaic

variable (x : S1024x128.Idx → EReal) (w : S192x64.Idx → EReal)

/-- The batch row of a lane of a tile's pass. -/
def rowOf (t : Fin 32) (t1 : Fin k0_t1_loop.trips) (j : Fin 16) : Fin 1024 :=
  ⟨32 * t.val + (16 * t1.val + j.val), by have : t1.val < 2 := t1.isLt; omega⟩

/-- A batch row. -/
abbrev xRow (n : Fin 1024) : Fin 128 → EReal := fun c => x (ix2 n c)
/-- The weights, step by step. -/
abbrev wTab : Fin 192 → Fin 64 → EReal := fun i s => w (ix2 i s)

/-- The forward pass's metrics on a lane's batch row. -/
abbrev laneMetrics (t : Fin 32) (t1 : Fin k0_t1_loop.trips) (j : Fin 16) : ℕ → Fin 64 → EReal := metrics (xRow x (rowOf t t1 j)) (wTab w)

variable {x w} (y : Fin 1024 → Fin 128 → ℝ) (hy : ∀ n c, x (ix2 n c) = (y n c : EReal)) (t : Fin 32) (t1 : Fin k0_t1_loop.trips) (j : Fin 16)

include hy in
/-- An unweighted step of a pass, at a lane. -/
theorem unweighted {a : Fin 64 → Vc Ideal} {k : ℕ} (hk : k < 63) {o0 o1 : Fin 1 → ℕ} {h0 : ∀ a, o0 a + S16.size a ≤ S4096.size a} {h1 : ∀ a, o1 a + S16.size a ≤ S4096.size a}
    (e0 : o0 0 = 32 * (2 * k) + 16 * t1.val) (e1 : o1 0 = 32 * (2 * k + 1) + 16 * t1.val) (ha : ∀ s, a s (lane j) = laneMetrics x w t t1 j k s) (s : Fin 64) :
    norm (acs a (sel (xrow (xPart (F := Ideal) (laid (F := Ideal) x) t) o0 h0) (xrow (xPart (F := Ideal) (laid (F := Ideal) x) t) o1 h1))) s (lane j)
      = laneMetrics x w t t1 j (k + 1) s := by
  have m0 : (2 * k) % 128 = 2 * k := Nat.mod_eq_of_lt (by omega)
  have m1 : (2 * k + 1) % 128 = 2 * k + 1 := Nat.mod_eq_of_lt (by omega)
  rw [step_at a _ (lane j) (fun _ => 1) (y (rowOf t t1 j) ⟨(2 * k) % 128, by omega⟩) (y (rowOf t t1 j) ⟨(2 * k + 1) % 128, by omega⟩) (fun s => by
    rw [one_mul, sel_at, xrow_at x t t1 j o0 h0 ⟨(2 * k) % 128, by omega⟩ (by rw [e0]; show _ = 32 * ((2 * k) % 128) + _; omega),
      xrow_at x t t1 j o1 h1 ⟨(2 * k + 1) % 128, by omega⟩ (by rw [e1]; show _ = 32 * ((2 * k + 1) % 128) + _; omega), hy, hy]
    rfl)]
  rw [← hy, ← hy, show (fun s => a s (lane j)) = laneMetrics x w t t1 j k from funext ha]
  show stepR _ _ _ _ s = stepR _ (weightAt _ k) _ _ s
  rw [show weightAt (wTab w) k = fun _ => 1 from funext fun s => dif_neg (by omega)]
  rfl

include hy in
/-- A weighted step of a pass, at a lane. -/
theorem weighted {a : Fin 64 → Vc Ideal} {k : ℕ} (r : Fin 65) (hk : k = 63 + r.val) {o0 o1 : Fin 1 → ℕ} {h0 : ∀ a, o0 a + S16.size a ≤ S4096.size a} {h1 : ∀ a, o1 a + S16.size a ≤ S4096.size a}
    (e0 : o0 0 = 32 * ((2 * k) % 128) + 16 * t1.val) (e1 : o1 0 = 32 * ((2 * k + 1) % 128) + 16 * t1.val) {wv : Fin 4 → Vc Ideal}
    (hw : ∀ (g : Fin 4) (l : Fin 16), wv g (lane l) = w (ix2 ⟨63 + r.val, by omega⟩ ⟨16 * g.val + l.val, by omega⟩))
    (ha : ∀ s, a s (lane j) = laneMetrics x w t t1 j k s) (s : Fin 64) :
    norm (acs a (wsel wv (xrow (xPart (F := Ideal) (laid (F := Ideal) x) t) o0 h0) (xrow (xPart (F := Ideal) (laid (F := Ideal) x) t) o1 h1))) s (lane j)
      = laneMetrics x w t t1 j (k + 1) s := by
  rw [step_at a _ (lane j) (weightAt (wTab w) k) (y (rowOf t t1 j) ⟨(2 * k) % 128, by omega⟩) (y (rowOf t t1 j) ⟨(2 * k + 1) % 128, by omega⟩) (fun s => by
    rw [wsel_at, xrow_at x t t1 j o0 h0 ⟨(2 * k) % 128, by omega⟩ e0, xrow_at x t t1 j o1 h1 ⟨(2 * k + 1) % 128, by omega⟩ e1, hw, hy, hy]
    have e : weightAt (wTab w) k s = w (ix2 ⟨63 + r.val, by omega⟩ ⟨16 * (s.val / 16) + s.val % 16, by omega⟩) := by
      subst hk
      unfold weightAt
      rw [dif_pos (by omega)]
      exact congrArg (fun q => w (ix2 _ q)) (Fin.ext (by show s.val = 16 * (s.val / 16) + s.val % 16; omega))
    rw [e]
    rfl)]
  rw [← hy, ← hy, show (fun s => a s (lane j)) = laneMetrics x w t t1 j k from funext ha]
  rfl

include hy in
/-- The unweighted rounds of a pass, at a lane. -/
theorem afterU_at : ∀ m ≤ 31, ∀ s, afterU (xPart (F := Ideal) (laid (F := Ideal) x) t) t1 m s (lane j) = laneMetrics x w t t1 j (2 * m) s
  | 0, _, s => by
    show start (F := Ideal) s (lane j) = if s = 0 then ((20 : ℝ) : EReal) else 0
    unfold start
    by_cases h : s = 0
    · subst h
      exact lit_20
    · rw [if_neg h, show Nat.beq s.val 0 = false from Bool.eq_false_iff.mpr fun e => h (Fin.ext (Nat.eq_of_beq_eq_true e))]
      exact Ideal.ofBits_zero_f32
  | m + 1, hm, s => by
    have hm' : m < k0_t2_loop.trips := by show m < 31; omega
    rw [afterU, dif_pos hm']
    unfold roundU
    refine unweighted (w := w) y hy t t1 j (k := 2 * m + 1) (by omega) ?_ ?_ (unweighted (w := w) y hy t t1 j (k := 2 * m) (by omega) ?_ ?_ (afterU_at m (by omega))) s
    · rw [k0_off4_eq]; show 128 * m + 16 * t1.val + 64 = _; omega
    · rw [k0_off5_eq]; show 128 * m + 16 * t1.val + 96 = _; omega
    · rw [k0_off2_eq]; show 128 * m + 16 * t1.val = _; omega
    · rw [k0_off3_eq]; show 128 * m + 16 * t1.val + 32 = _; omega

include hy in
/-- The first state put out, at a lane: the metrics after sixty-four steps. -/
theorem firstOut_at (s : Fin 64) : firstOut (xPart (F := Ideal) (laid (F := Ideal) x) t) (learned (F := Ideal) w) t1 s (lane j) = laneMetrics x w t t1 j 64 s := by
  unfold firstOut metric126 metric124
  refine weighted y hy t t1 j (k := 63) 0 rfl ?_ ?_ (fun g l => ?_) (unweighted y hy t t1 j (k := 62) (by omega) ?_ ?_ (afterU_at y hy t t1 j 31 (by omega))) s
  · rw [show k0_off6 t1 4032#32 = _ from k0_off6_eq t1 2]; show 32 * 2 + 16 * t1.val + 3968 = _; omega
  · rw [show k0_off6 t1 4064#32 = _ from k0_off6_eq t1 3]; show 32 * 3 + 16 * t1.val + 3968 = _; omega
  · match g with
    | 0 => exact wrow_at w l _ _ 0 0 rfl
    | 1 => exact wrow_at w l _ _ 0 1 rfl
    | 2 => exact wrow_at w l _ _ 0 2 rfl
    | 3 => exact wrow_at w l _ _ 0 3 rfl
  · rw [show k0_off6 t1 3968#32 = _ from k0_off6_eq t1 0]; show 32 * 0 + 16 * t1.val + 3968 = _; omega
  · rw [show k0_off6 t1 4000#32 = _ from k0_off6_eq t1 1]; show 32 * 1 + 16 * t1.val + 3968 = _; omega

include hy in
/-- The states a pass puts out, at a lane. -/
theorem states_at : ∀ n ≤ 64, ∀ s, states (xPart (F := Ideal) (laid (F := Ideal) x) t) (learned (F := Ideal) w) t1 n s (lane j) = laneMetrics x w t t1 j (64 + n) s
  | 0, _, s => firstOut_at y hy t t1 j s
  | n + 1, hn, s => by
    have hk : n / 2 < k0_t3_loop.trips := by show n / 2 < 32; omega
    have ih := states_at n (by omega)
    rw [states_succ _ _ _ ⟨n / 2, hk⟩ n rfl]
    by_cases h2 : n % 2 = 0
    · rw [h2]
      change norm (acs _ (metricA _ _ t1 ⟨n / 2, hk⟩)) s (lane j) = _
      unfold metricA
      refine weighted y hy t t1 j (k := 64 + n) ⟨n + 1, by omega⟩ (by show _ = 63 + (n + 1); omega) ?_ ?_ (fun g l => ?_) ih s
      · rw [k0_off8_eq]; show 128 * (n / 2) + 16 * t1.val = _; omega
      · rw [k0_off9_eq]; show 128 * (n / 2) + 16 * t1.val + 32 = _; omega
      · match g with
        | 0 => exact wrow_at w l _ _ ⟨n + 1, by omega⟩ 0 (by rw [show k0_off10 ⟨n / 2, hk⟩ 0#32 = _ from k0_off10_eq _ 0]; show 128 * (n / 2) + 16 * 0 + 64 = 64 * (n + 1) + 16 * 0; omega)
        | 1 => exact wrow_at w l _ _ ⟨n + 1, by omega⟩ 1 (by rw [show k0_off10 ⟨n / 2, hk⟩ 16#32 = _ from k0_off10_eq _ 1]; show 128 * (n / 2) + 16 * 1 + 64 = 64 * (n + 1) + 16 * 1; omega)
        | 2 => exact wrow_at w l _ _ ⟨n + 1, by omega⟩ 2 (by rw [show k0_off10 ⟨n / 2, hk⟩ 32#32 = _ from k0_off10_eq _ 2]; show 128 * (n / 2) + 16 * 2 + 64 = 64 * (n + 1) + 16 * 2; omega)
        | 3 => exact wrow_at w l _ _ ⟨n + 1, by omega⟩ 3 (by rw [show k0_off10 ⟨n / 2, hk⟩ 48#32 = _ from k0_off10_eq _ 3]; show 128 * (n / 2) + 16 * 3 + 64 = 64 * (n + 1) + 16 * 3; omega)
    · rw [show n % 2 = 1 by omega]
      change norm (acs _ (metricB _ _ t1 ⟨n / 2, hk⟩)) s (lane j) = _
      unfold metricB
      refine weighted y hy t t1 j (k := 64 + n) ⟨n + 1, by omega⟩ (by show _ = 63 + (n + 1); omega) ?_ ?_ (fun g l => ?_) ih s
      · rw [k0_off75_eq]; show 128 * (n / 2) + 16 * t1.val + 64 = _; omega
      · rw [k0_off76_eq]; show 128 * (n / 2) + 16 * t1.val + 96 = _; omega
      · match g with
        | 0 => exact wrow_at w l _ _ ⟨n + 1, by omega⟩ 0 (by rw [show k0_off77 ⟨n / 2, hk⟩ 0#32 = _ from k0_off77_eq _ 0]; show 128 * (n / 2) + 16 * 0 + 128 = 64 * (n + 1) + 16 * 0; omega)
        | 1 => exact wrow_at w l _ _ ⟨n + 1, by omega⟩ 1 (by rw [show k0_off77 ⟨n / 2, hk⟩ 16#32 = _ from k0_off77_eq _ 1]; show 128 * (n / 2) + 16 * 1 + 128 = 64 * (n + 1) + 16 * 1; omega)
        | 2 => exact wrow_at w l _ _ ⟨n + 1, by omega⟩ 2 (by rw [show k0_off77 ⟨n / 2, hk⟩ 32#32 = _ from k0_off77_eq _ 2]; show 128 * (n / 2) + 16 * 2 + 128 = 64 * (n + 1) + 16 * 2; omega)
        | 3 => exact wrow_at w l _ _ ⟨n + 1, by omega⟩ 3 (by rw [show k0_off77 ⟨n / 2, hk⟩ 48#32 = _ from k0_off77_eq _ 3]; show 128 * (n / 2) + 16 * 3 + 128 = 64 * (n + 1) + 16 * 3; omega)

include hy in
/-- The kernel's result: block `r` of a row is the metrics after `64 + r` steps. -/
theorem result_at (n : Fin 1024) (q : Fin 4160) :
    result (F := Ideal) (laid (F := Ideal) x) (learned (F := Ideal) w) (ix2 n q) = metrics (xRow x n) (wTab w) (64 + q.val / 64) ⟨q.val % 64, Nat.mod_lt _ (by norm_num)⟩ := by
  show states _ _ _ (q.val / 64) _ _ = _
  refine (states_at y hy ⟨n.val / 32, by omega⟩ ⟨n.val / 16 % 2, by show _ < 2; omega⟩ ⟨n.val % 16, by omega⟩ (q.val / 64) (by omega) _).trans ?_
  have e : rowOf ⟨n.val / 32, by omega⟩ ⟨n.val / 16 % 2, by show _ < 2; omega⟩ ⟨n.val % 16, by omega⟩ = n :=
    Fin.ext (by show 32 * (n.val / 32) + (16 * (n.val / 16 % 2) + n.val % 16) = n.val; omega)
  show metrics (xRow x (rowOf _ _ _)) _ _ _ = _
  rw [e]
  rfl

end Cert.Proof
-- ==== Proof.RefStep.lean ====
/-
  One trip of the reference's loop: the metrics it carries on are one step of the forward pass, row by row.
-/
module

public import proofs.«01_k».proof.Proof.Gen.ReferenceIdeal.Run
public import proofs.«01_k».proof.Proof.Spec
public import Idealize.ShloMosaic.Lib.Pointwise
public import Idealize.ShloMosaic.Lib.Tactic.CleanTypes
public import Idealize.ShloMosaic.Lib.DynamicIndex
public import Idealize.ShloMosaic.Lib.IdealHost

@[expose] public section

noncomputable section

namespace Cert.Proof

open Cert.ReferenceIdeal Cert.ReferenceIdeal.Gen Cert.ReferenceIdeal.Value
open Idealize.ShloMosaic Idealize.ShloMosaic.StableHlo

/-- The gather of the previous states' metrics, at an index: the row, at the state the table names. -/
theorem gather_at {α : Type} (v : S1024x64.Idx → α) (t : IVec S64x2x1 32) (n : Fin 1024) (s : Fin 64) (b : Fin 2) (p : Fin 64)
    (h : t (ix3 s b (0 : Fin 1)) = BitVec.ofNat 32 p.val) :
    Host.gather gather_S1024x64_S64x2x1_S1024x64x2_0_1_n_n_1_2_10241 v t (ix3 n s b) = v (ix2 n p) := by
  have hs : GatherDims.siIdx gather_S1024x64_S64x2x1_S1024x64x2_0_1_n_n_1_2_10241 (ix3 n s b) ⟨0, by decide⟩ = ix3 s b (0 : Fin 1) := by
    funext a
    match a with
    | ⟨0, _⟩ => rfl
    | ⟨1, _⟩ => rfl
    | ⟨2, _⟩ => rfl
  refine congrArg v (funext fun a => Fin.ext ?_)
  match a with
  | ⟨0, _⟩ =>
    show 0 + 0 + n.val = n.val
    omega
  | ⟨1, _⟩ =>
    show min (t (GatherDims.siIdx gather_S1024x64_S64x2x1_S1024x64x2_0_1_n_n_1_2_10241 (ix3 n s b) ⟨0, _⟩)).toInt.toNat 63 + 0 + 0 = p.val
    rw [hs, h, toInt_ofNat_of_lt (by have := p.isLt; omega)]
    have := p.isLt
    omega

/-- What a valuation holds before trip `k` of the loop, of a batch `x` and weights `W`. -/
structure Before (V : Valuation τ sig (Elt Ideal)) (x : Fin 1024 → Fin 128 → EReal) (W : Fin 192 → Fin 64 → EReal) (k : ℕ) : Prop where
  batch : ∀ (n : Fin 1024) (c : Fin 384), V (Proc.devRef .tc main_v8_0) (ix2 n c) = x n ⟨c.val % 128, Nat.mod_lt _ (by norm_num)⟩
  weights : ∀ (i : Fin 192) (s : Fin 64), V (Proc.devRef .tc main_v8_1) (ix2 i s) = W i s
  signs : ∀ (r : Fin 2) (s : Fin 64) (b : Fin 2), V (Proc.devRef .tc main_v8_2) (ix3 r s b) = sgn r s b
  table : ∀ (s : Fin 64) (b : Fin 2), V (Proc.devRef .tc main_v8_3) (ix2 s b) = BitVec.ofNat 32 (prev s b).val
  trip : V (Proc.devRef .tc main_v8_5) = fun _ => BitVec.ofNat 32 k
  held : ∀ (n : Fin 1024) (s : Fin 64), V (Proc.devRef .tc main_v8_6) (ix2 n s) = metrics (x n) W k s

variable {V : Valuation τ sig (Elt Ideal)} {x : Fin 1024 → Fin 128 → EReal} {W : Fin 192 → Fin 64 → EReal} {k : ℕ}

/-- Whether the trip is a learned one. -/
theorem Before.learn (B : Before V x W k) (hk : k < 192) (j : S_.Idx) :
    res_main_while0b_v24 V j = BitVec.ofBool (decide (63 ≤ k ∧ k ≤ 127)) := by
  unfold res_main_while0b_v24
  rw [B.trip]
  clear B
  show IntOp.andi (IntOp.cmpi .ne (IntOp.cmpi .sge (BitVec.ofNat 32 k) 63#32) 0#1) (IntOp.cmpi .ne (IntOp.cmpi .sle (BitVec.ofNat 32 k) 127#32) 0#1) = _
  revert k
  decide +kernel

/-- The maximum over two, started at minus infinity. -/
theorem fold_two (f : Fin 2 → EReal) : Finset.fold max ⊥ f Finset.univ = max (f 0) (f 1) := by
  rw [show (Finset.univ : Finset (Fin 2)) = {0, 1} from rfl, Finset.fold_insert (by decide), Finset.fold_singleton, max_bot_right]

/-- The table of previous states as the gather takes it, negative entries wrapped: none is negative. -/
theorem Before.wrapped (B : Before V x W k) (s : Fin 64) (b : Fin 2) :
    broadcastInDim S64x2x1 ![0, 1] bcast_S64x2_S64x2x1_0_1 (select (cmpi .slt (V (Proc.devRef .tc main_v8_3)) (broadcastInDim S64x2 ![] bcast_S_S64x2 (constantI S_ 32 0#32)))
      (addi (V (Proc.devRef .tc main_v8_3)) (broadcastInDim S64x2 ![] bcast_S_S64x2 (constantI S_ 32 64#32))) (V (Proc.devRef .tc main_v8_3))) (ix3 s b (0 : Fin 1))
      = BitVec.ofNat 32 (prev s b).val := by
  have hp := (prev s b).isLt
  pointwise
  rw [B.table]
  revert hp
  generalize (prev s b).val = p
  intro hp
  interval_cases p <;> rfl

/-- The weight the trip takes for state `s`. -/
theorem Before.weight (B : Before V x W k) (hk : k < 192) (s : Fin 64) :
    Scalar.select (res_main_while0b_v24 V ix0) (V (Proc.devRef .tc main_v8_1) (ix2 ⟨k, hk⟩ s)) (id (constant (F := Ideal) S_ .f32 0x3F800000#32) ix0) = weightAt W k s := by
  rw [B.learn hk, B.weights]
  unfold weightAt
  by_cases h : 63 ≤ k ∧ k ≤ 127
  · rw [dif_pos h, decide_eq_true h]; rfl
  · rw [dif_neg h, decide_eq_false h]
    exact lit_one

/-- The trip's first column in the batch laid three times side by side. -/
theorem Before.pos (B : Before V x W k) : res_main_while0b_v10 V = fun _ => BitVec.ofNat 32 (2 * k) := by
  unfold res_main_while0b_v10
  rw [B.trip]
  funext j
  exact (BitVec.ofNat_mul 2 k).symm

set_option maxRecDepth 16384 in
set_option maxHeartbeats 2000000 in
/-- The trip's maxima are the best ways into the states. -/
theorem Before.best (B : Before V x W k) (hk : k < 192) (n : Fin 1024) (s : Fin 64) :
    res_main_while0b_v44 V (ix2 n s) = Cert.Proof.best (metrics (x n) W k) (weightAt W k) (recv (x n) k 0) (recv (x n) k 1) s := by
  unfold res_main_while0b_v44
  rw [B.trip, B.pos]
  have hW : S192x64.Slices ![k, 0] S1x64 := ⟨rfl, fun a => match a with
    | ⟨0, _⟩ => by show k + 1 ≤ 192; omega
    | ⟨1, _⟩ => by show 0 + 64 ≤ 64; omega⟩
  have hX : S1024x384.Slices ![0, 2 * k] S1024x2 := ⟨rfl, fun a => match a with
    | ⟨0, _⟩ => by show 0 + 1024 ≤ 1024; omega
    | ⟨1, _⟩ => by show 2 * k + 2 ≤ 384; omega⟩
  rw [Host.dynamicSlice_eq_extractStridedSlice S1x64 _ _ ![k, 0] _ hW (fun a => match a with
      | ⟨0, _⟩ => toInt_wrap_ofNat k (by omega)
      | ⟨1, _⟩ => rfl),
    Host.dynamicSlice_eq_extractStridedSlice S1024x2 _ _ ![0, 2 * k] _ hX (fun a => match a with
      | ⟨0, _⟩ => rfl
      | ⟨1, _⟩ => toInt_wrap_ofNat (2 * k) (by omega))]
  clean_types
  pointwise
  rw [lit_bot, fold_two]
  simp only [Fin.sum_univ_two, B.weight hk, gather_at _ _ _ _ _ _ (B.wrapped _ _), B.held, B.batch, B.signs]
  rfl

/-- What the trip carries on as metrics is the next step's. -/
theorem Before.centred (B : Before V x W k) (hk : k < 192) (n : Fin 1024) (s : Fin 64) : res_main_while0b_v51 V (ix2 n s) = metrics (x n) W (k + 1) s := by
  unfold res_main_while0b_v51
  clean_types
  pointwise
  simp only [B.best hk]
  rw [lit_64, Ideal.div_coe (by norm_num)]
  show min (Ideal.ofBits .f32 0x42480000#32) (max (Ideal.ofBits .f32 0xC2480000#32) _) = _
  rw [lit_fifty, lit_neg_fifty]
  rfl

end Cert.Proof
-- ==== Proof.RefLoop.lean ====
/-
  The reference's loop: before trip `k` it holds the metrics after `k` steps, and in the result's blocks the metrics of the learned steps gone by.
-/
module

public import proofs.«01_k».proof.Proof.RefStep
public import Idealize.ShloMosaic.Lib.Pipeline.Value

@[expose] public section

noncomputable section

namespace Cert.Proof

open Cert.ReferenceIdeal Cert.ReferenceIdeal.Gen Cert.ReferenceIdeal.Value
open Idealize.ShloMosaic Idealize.ShloMosaic.StableHlo

variable {V : Valuation τ sig (Elt Ideal)} {x : Fin 1024 → Fin 128 → EReal} {W : Fin 192 → Fin 64 → EReal} {k : ℕ}

/-- A trip leaves what the next one starts from. -/
theorem Before.next (B : Before V x W k) (hk : k < 192) : Before (STEP V) x W (k + 1) where
  batch n c := (congrFun (STEP_main_v8_0 V) _).trans (B.batch n c)
  weights i s := (congrFun (STEP_main_v8_1 V) _).trans (B.weights i s)
  signs r s b := (congrFun (STEP_main_v8_2 V) _).trans (B.signs r s b)
  table s b := (congrFun (STEP_main_v8_3 V) _).trans (B.table s b)
  trip := by
    rw [STEP_main_v8_5]
    unfold step_main_v8_5
    rw [B.trip]
    funext j
    exact (BitVec.ofNat_add k 1).symm
  held n s := (congrFun (STEP_main_v8_6 V) _).trans (B.centred hk n s)

/-- The place of state `s` in the result's block `r`. -/
def place (r : Fin 65) (s : Fin 64) : Fin 4160 := ⟨64 * r.val + s.val, by have := r.isLt; have := s.isLt; omega⟩

/-- The result's blocks written before trip `k`: block `r` is the metrics after `64 + r` steps. -/
def Kept (V : Valuation τ sig (Elt Ideal)) (x : Fin 1024 → Fin 128 → EReal) (W : Fin 192 → Fin 64 → EReal) (k : ℕ) : Prop :=
  ∀ (n : Fin 1024) (r : Fin 65) (s : Fin 64), 63 + r.val < k → V (Proc.devRef .tc main_v8_7) (ix2 n (place r s)) = metrics (x n) W (64 + r.val) s

/-- The trip's first column in the result, where the trip is a learned one. -/
theorem Before.col (B : Before V x W k) (h : 63 ≤ k) : res_main_while0b_v53 V = fun _ => BitVec.ofNat 32 ((k - 63) * 64) := by
  unfold res_main_while0b_v53
  rw [B.trip]
  funext j
  show (BitVec.ofNat 32 k - 63#32) * 64#32 = _
  obtain ⟨d, rfl⟩ := Nat.exists_eq_add_of_le h
  rw [show 63 + d - 63 = d by omega, Nat.add_comm, BitVec.ofNat_add, BitVec.ofNat_mul, BitVec.add_sub_cancel]

/-- A trip keeps the blocks written and writes its own where it is a learned one. -/
theorem Before.keeps (B : Before V x W k) (hk : k < 192) (h : Kept V x W k) : Kept (STEP V) x W (k + 1) := by
  intro n r s hr
  have hr' := r.isLt
  have hs' := s.isLt
  rw [STEP_main_v8_7]
  unfold step_main_v8_7
  show Scalar.select (res_main_while0b_v24 V _) _ (V (Proc.devRef .tc main_v8_7) (ix2 n (place r s))) = _
  rw [B.learn hk]
  by_cases hl : 63 ≤ k ∧ k ≤ 127
  · rw [decide_eq_true hl, B.col hl.1]
    have hU : S1024x4160.Slices ![0, (k - 63) * 64] S1024x64 := ⟨rfl, fun a => match a with
      | ⟨0, _⟩ => by show 0 + 1024 ≤ 1024; omega
      | ⟨1, _⟩ => by show (k - 63) * 64 + 64 ≤ 4160; omega⟩
    rw [Host.dynamicUpdateSlice_eq_updateSlice _ _ _ _ ![0, (k - 63) * 64] (fun a => match a with
      | ⟨0, _⟩ => rfl
      | ⟨1, _⟩ => by
        show (min (max (BitVec.toInt (select (cmpi .slt (constantI S_ 32 (BitVec.ofNat 32 ((k - 63) * 64))) (constantI S_ 32 0#32))
          (addi (constantI S_ 32 (BitVec.ofNat 32 ((k - 63) * 64))) (constantI S_ 32 4160#32)) (constantI S_ 32 (BitVec.ofNat 32 ((k - 63) * 64))) (Shape.Idx.first h_S_))) 0) ((4160 - 64 : ℕ) : ℤ)).toNat = (k - 63) * 64
        rw [toInt_wrap_ofNat _ (by omega)]
        omega) hU]
    show updateSlice (V (Proc.devRef .tc main_v8_7)) (res_main_while0b_v51 V) ![0, (k - 63) * 64] hU (ix2 n (place r s)) = _
    unfold updateSlice
    by_cases hb : 63 + r.val = k
    · subst hb
      rw [dif_pos (fun a => match a with
        | ⟨0, _⟩ => ⟨Nat.zero_le _, by show n.val < 0 + 1024; omega⟩
        | ⟨1, _⟩ => ⟨by show (63 + r.val - 63) * 64 ≤ 64 * r.val + s.val; omega, by show 64 * r.val + s.val < (63 + r.val - 63) * 64 + 64; omega⟩)]
      refine Eq.trans (congrArg (res_main_while0b_v51 V) (funext fun a => Fin.ext ?_)) ((B.centred hk n s).trans (by rw [show 63 + r.val + 1 = 64 + r.val by omega]))
      match a with
      | ⟨0, _⟩ => rfl
      | ⟨1, _⟩ => show 64 * r.val + s.val - (63 + r.val - 63) * 64 = s.val; omega
    · rw [dif_neg (fun hin => by
        have h1 : (k - 63) * 64 ≤ 64 * r.val + s.val := (hin (1 : Fin 2)).1
        omega)]
      exact h n r s (by omega)
  · rw [decide_eq_false hl]
    exact h n r s (by omega)

/-- Before trip `k`, from what the loop starts with. -/
theorem before_iterate (B : Before V x W 0) : ∀ k ≤ 192, Before (STEP^[k] V) x W k ∧ Kept (STEP^[k] V) x W k
  | 0, _ => ⟨B, fun _ _ _ h => absurd h (by omega)⟩
  | k + 1, hk => by
    have h := before_iterate B k (by omega)
    rw [Function.iterate_succ_apply']
    exact ⟨h.1.next (by omega), h.1.keeps (by omega) h.2⟩

end Cert.Proof
-- ==== Proof.RefEntry.lean ====
/-
  What the reference's loop starts with, and its result.
-/
module

public import proofs.«01_k».proof.Proof.RefLoop
public import Idealize.ShloMosaic.Lib.Routing.OpsSet
public import Idealize.ShloMosaic.Lib.Routing.OpsPair

@[expose] public section

noncomputable section

namespace Cert.Proof

open Cert.ReferenceIdeal Cert.ReferenceIdeal.Gen Cert.ReferenceIdeal.Value
open Idealize.ShloMosaic Idealize.ShloMosaic.StableHlo

/-- The literal table of signs. -/
theorem sign_table : ∀ (r : Fin 2) (s : Fin 64) (b : Fin 2), lit1 (S2x64x2.rowMajor (ix3 r s b)) = bif minus r s b then 0xBF800000#32 else 0x3F800000#32 := by
  decide +kernel

/-- The literal table of previous states. -/
theorem prev_table : ∀ (s : Fin 64) (b : Fin 2), lit0 (S64x2.rowMajor (ix2 s b)) = BitVec.ofNat 32 (prev s b).val := by
  decide +kernel

/-- The scatter that sets the first state's metric. -/
theorem scatter_at (v0 : FVec Ideal S1024x64 .f32) (idx : IVec S1 32) (hidx : idx = fun _ => 0#32) (upd : FVec Ideal S1024 .f32) (u : EReal) (hu : upd = fun _ => u) (n : Fin 1024) (s : Fin 64) :
    Host.scatter scatter_S1024x64_S1_S1024_0_1_1_0 (fun _ b => b) v0 idx upd (ix2 n s) = if s = 0 then u else v0 (ix2 n s) := by
  subst hidx hu
  have hr : ∀ k : S1024.Idx, Iff (ScatterDims.resultIdx? scatter_S1024x64_S1_S1024_0_1_1_0 k (fun _ => 0#32) = some (ix2 n s)) ((k 0).val = n.val ∧ s.val = 0) := by
    intro k
    rw [Routing.resultIdx?_eq_some]
    constructor
    · intro h
      have h0 : (0 : ℤ) + ((k 0).val : ℤ) = (n.val : ℤ) := h (0 : Fin 2)
      have h1 : (0 : ℤ) + ((0 : ℕ) : ℤ) = (s.val : ℤ) := h (1 : Fin 2)
      omega
    · intro h a
      match a with
      | ⟨0, _⟩ => show (0 : ℤ) + ((k 0).val : ℤ) = (n.val : ℤ); omega
      | ⟨1, _⟩ => show (0 : ℤ) + ((0 : ℕ) : ℤ) = (s.val : ℤ); omega
  by_cases h : s = 0
  · subst h
    rw [if_pos rfl]
    exact Routing.scatter_set_hit _ _ _ _ _ _ (fun _ _ => rfl) (ix1 n) ((hr _).2 ⟨rfl, rfl⟩)
  · rw [if_neg h]
    exact Routing.scatter_set_miss _ _ _ _ _ fun k e => h (Fin.ext ((hr k).1 e).2)

variable (m : (ℓ : Loc nD τ sig) → Buf (Elt Ideal) ℓ) (c : Dev nD)

/-- What the loop starts with, of the arguments. -/
theorem before_entry : Before (entryContents preI m c) (fun n k => m (c, Proc.devRef .tc main_arg0) (ix2 n k)) (fun i s => m (c, Proc.devRef .tc main_arg1) (ix2 i s)) 0 where
  batch n k := by
    simp only [entryContents, afterL_cons, afterL_nil]
    after_reads_simp
    pointwise
    rfl
  weights i s := by
    simp only [entryContents, afterL_cons, afterL_nil]
    after_reads_simp
    rfl
  signs r s b := by
    simp only [entryContents, afterL_cons, afterL_nil]
    after_reads_simp
    show Ideal.ofBits .f32 (lit1 (S2x64x2.rowMajor (ix3 r s b))) = sgn r s b
    rw [sign_table]
    unfold sgn
    cases minus r s b
    · exact lit_one
    · exact lit_neg_one
  table s b := by
    simp only [entryContents, afterL_cons, afterL_nil]
    after_reads_simp
    exact prev_table s b
  trip := by
    simp only [entryContents, afterL_cons, afterL_nil]
    after_reads_simp
    rfl
  held n s := by
    simp only [entryContents, afterL_cons, afterL_nil]
    after_reads_simp
    simp only [id_eq]
    refine (scatter_at _ _ ?_ _ (Ideal.ofBits .f32 0x41A00000#32) ?_ n s).trans ?_
    · rfl
    · rfl
    show _ = if s = 0 then ((20 : ℝ) : EReal) else 0
    rw [lit_20]
    by_cases h : s = 0
    · rw [if_pos h, if_pos h]
    · rw [if_neg h, if_neg h]
      exact Ideal.ofBits_zero_f32

/-- The reference's result: block `r` of a row is the metrics after `64 + r` steps. -/
theorem reference_at (n : Fin 1024) (r : Fin 65) (s : Fin 64) :
    (STEP^[192] (entryContents preI m c)) (Proc.devRef .tc main_v8_7) (ix2 n (place r s))
      = metrics (fun k => m (c, Proc.devRef .tc main_arg0) (ix2 n k)) (fun i s => m (c, Proc.devRef .tc main_arg1) (ix2 i s)) (64 + r.val) s :=
  (before_iterate (before_entry m c) 192 le_rfl).2 n r s (by omega)

end Cert.Proof
-- ==== Proof.Equation.lean ====
/-
  The kernel's result is the reference's, where the batch is real.
-/
module

public import proofs.«01_k».proof.Defs
public import proofs.«01_k».proof.Proof.Finite
public import proofs.«01_k».proof.Proof.Host
public import proofs.«01_k».proof.Proof.KerVal
public import proofs.«01_k».proof.Proof.RefEntry
public import proofs.«01_k».proof.Proof.Gen.ReferenceIdeal.Run

@[expose] public section

noncomputable section

namespace Cert.Proof

open Idealize.ShloMosaic Idealize.SL.Sem

/-- An index of the result is a row, a block and a state. -/
theorem place_div_mod (q : Fin 4160) : place ⟨q.val / 64, by omega⟩ ⟨q.val % 64, by omega⟩ = q :=
  Fin.ext (by show 64 * (q.val / 64) + q.val % 64 = q.val; omega)

/-- The two results of the same arguments, the batch real: both are the metrics of the forward pass. -/
theorem results_eq (m : (ℓ : Loc Cert.ReferenceIdeal.nD Cert.ReferenceIdeal.τ Cert.ReferenceIdeal.sig) → Buf (Elt Ideal) ℓ) (c : Dev Cert.ReferenceIdeal.nD)
    (x : Cert.KernelIdeal.S1024x128.Idx → EReal) (w : Cert.KernelIdeal.S192x64.Idx → EReal)
    (hx : m (c, Proc.devRef .tc Cert.ReferenceIdeal.main_arg0) = x) (hw : m (c, Proc.devRef .tc Cert.ReferenceIdeal.main_arg1) = w)
    (y : Fin 1024 → Fin 128 → ℝ) (hy : ∀ n k, x (ix2 n k) = (y n k : EReal)) :
    (Cert.ReferenceIdeal.Value.STEP^[192] (StableHlo.entryContents Cert.ReferenceIdeal.Value.preI m c)) (Proc.devRef .tc Cert.ReferenceIdeal.main_v8_7)
      = result (F := Ideal) (laid (F := Ideal) x) (learned (F := Ideal) w) := by
  funext i
  obtain ⟨n, q, rfl⟩ : ∃ (n : Fin 1024) (q : Fin 4160), i = ix2 n q := ⟨i 0, i 1, ValueIdx.eq_ix2 i⟩
  refine Eq.trans ?_ (result_at y hy n q).symm
  have h := reference_at m c n ⟨q.val / 64, by omega⟩ ⟨q.val % 64, by omega⟩
  rw [place_div_mod, hx, hw] at h
  exact h

/-- The kernel and the reference end with equal results, where every received value is finite. -/
theorem algebraic : Cert.algebraic_KernelIdeal_ReferenceIdeal_pre_finite_x (hPre_finite_x := finite_facts) := fun m ρ m' ρ' hp hm =>
  ⟨fun c => rOut m c,
    (θ_run Cert.KernelIdeal.defs _ _).mono (fun _ h c => ⟨(h.1 c).2.2, (h.1 c).1, (h.1 c).2.1⟩) (run_main (F := Ideal) m ρ),
    (θ_run Cert.ReferenceIdeal.defs _ _).mono (fun _ h c => by
      obtain ⟨y, hy⟩ := haveI := finite_facts; reals_of_pre _ _ (hp c)
      exact ⟨(h c).1.trans (results_eq m' c _ _ (hm c).1 (hm c).2 y hy), (h c).2.1, (h c).2.2⟩) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the arguments, and it has no semaphore. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run (F := Ideal) m ρ)

/-- The certificate: a frame holds of every input, so of the finite ones. -/
theorem claim : Cert.Claim :=
  ⟨Cert.Kernel.Gen.facts, Cert.KernelIdeal.Gen.facts, Cert.ReferenceIdeal.Gen.facts, finite_facts,
    frame_kernel, frame_kernelIdeal, fun m ρ _ => frame_kernelIdeal m ρ trivial, frame_reference, fun m ρ _ => frame_reference m ρ trivial, trivial, algebraic⟩

end Cert.Proof

end
